-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5)
      ∧ r.2.mem ((c.tc : Thread Cert.OProj.nD Cert.OProj.τ).loc Cert.OProj.main_arg6) = m ((c.tc : Thread Cert.OProj.nD Cert.OProj.τ).loc Cert.OProj.main_arg6))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
      ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4)
      ∧ r.2.mem ((c.tc : Thread Cert.OProjRefIdeal.nD Cert.OProjRefIdeal.τ).loc Cert.OProjRefIdeal.main_arg5) = m ((c.tc : Thread Cert.OProjRefIdeal.nD Cert.OProjRefIdeal.τ).loc Cert.OProjRefIdeal.main_arg5)
      ∧ r.2.mem ((c.tc : Thread Cert.OProjRefIdeal.nD Cert.OProjRefIdeal.τ).loc Cert.OProjRefIdeal.main_arg6) = m ((c.tc : Thread Cert.OProjRefIdeal.nD Cert.OProjRefIdeal.τ).loc Cert.OProjRefIdeal.main_arg6))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)) →
    ∃ (v0 : (c : Dev Cert.QkvIdeal.nD) → Buf (Elt Ideal) ((c.tc : Thread Cert.QkvIdeal.nD Cert.QkvIdeal.τ).loc Cert.QkvIdeal.main_v10_0)) (v1 : (c : Dev Cert.QkvIdeal.nD) → Buf (Elt Ideal) ((c.tc : Thread Cert.QkvIdeal.nD Cert.QkvIdeal.τ).loc Cert.QkvIdeal.main_v10_1)) (v2 : (c : Dev Cert.QkvIdeal.nD) → Buf (Elt Ideal) ((c.tc : Thread Cert.QkvIdeal.nD Cert.QkvIdeal.τ).loc Cert.QkvIdeal.main_v10_2)) (v3 : (c : Dev Cert.QkvIdeal.nD) → Buf (Elt Ideal) ((c.tc : Thread Cert.QkvIdeal.nD Cert.QkvIdeal.τ).loc Cert.QkvIdeal.main_v10_3)) (v4 : (c : Dev Cert.QkvIdeal.nD) → Buf (Elt Ideal) ((c.tc : Thread Cert.QkvIdeal.nD Cert.QkvIdeal.τ).loc Cert.QkvIdeal.main_v10_4)) (v5 : (c : Dev Cert.QkvIdeal.nD) → Buf (Elt Ideal) ((c.tc : Thread Cert.QkvIdeal.nD Cert.QkvIdeal.τ).loc Cert.QkvIdeal.main_v10_5)) (v6 : (c : Dev Cert.QkvIdeal.nD) → Buf (Elt Ideal) ((c.tc : Thread Cert.QkvIdeal.nD Cert.QkvIdeal.τ).loc Cert.QkvIdeal.main_v10_6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v10_0) = v0 c
          ∧ r.2.mem ((c.tc : Thread Cert.QkvIdeal.nD Cert.QkvIdeal.τ).loc Cert.QkvIdeal.main_v10_1) = v1 c
          ∧ r.2.mem ((c.tc : Thread Cert.QkvIdeal.nD Cert.QkvIdeal.τ).loc Cert.QkvIdeal.main_v10_2) = v2 c
          ∧ r.2.mem ((c.tc : Thread Cert.QkvIdeal.nD Cert.QkvIdeal.τ).loc Cert.QkvIdeal.main_v10_3) = v3 c
          ∧ r.2.mem ((c.tc : Thread Cert.QkvIdeal.nD Cert.QkvIdeal.τ).loc Cert.QkvIdeal.main_v10_4) = v4 c
          ∧ r.2.mem ((c.tc : Thread Cert.QkvIdeal.nD Cert.QkvIdeal.τ).loc Cert.QkvIdeal.main_v10_5) = v5 c
          ∧ r.2.mem ((c.tc : Thread Cert.QkvIdeal.nD Cert.QkvIdeal.τ).loc Cert.QkvIdeal.main_v10_6) = v6 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v12_0) = v0 c
          ∧ r.2.mem ((c.tc : Thread Cert.QkvRefIdeal.nD Cert.QkvRefIdeal.τ).loc Cert.QkvRefIdeal.main_v12_1) = v1 c
          ∧ r.2.mem ((c.tc : Thread Cert.QkvRefIdeal.nD Cert.QkvRefIdeal.τ).loc Cert.QkvRefIdeal.main_v12_2) = v2 c
          ∧ r.2.mem ((c.tc : Thread Cert.QkvRefIdeal.nD Cert.QkvRefIdeal.τ).loc Cert.QkvRefIdeal.main_v12_3) = v3 c
          ∧ r.2.mem ((c.tc : Thread Cert.QkvRefIdeal.nD Cert.QkvRefIdeal.τ).loc Cert.QkvRefIdeal.main_v12_4) = v4 c
          ∧ r.2.mem ((c.tc : Thread Cert.QkvRefIdeal.nD Cert.QkvRefIdeal.τ).loc Cert.QkvRefIdeal.main_v12_5) = v5 c
          ∧ r.2.mem ((c.tc : Thread Cert.QkvRefIdeal.nD Cert.QkvRefIdeal.τ).loc Cert.QkvRefIdeal.main_v12_6) = v6 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10)
          ∧ r.2.mem ((c.tc : Thread Cert.QkvRefIdeal.nD Cert.QkvRefIdeal.τ).loc Cert.QkvRefIdeal.main_arg11) = m' ((c.tc : Thread Cert.QkvRefIdeal.nD Cert.QkvRefIdeal.τ).loc Cert.QkvRefIdeal.main_arg11))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)
      ∧ m' ((c.tc : Thread Cert.OProjRefIdeal.nD Cert.OProjRefIdeal.τ).loc Cert.OProjRefIdeal.main_arg5) = m ((c.tc : Thread Cert.OProjIdeal.nD Cert.OProjIdeal.τ).loc Cert.OProjIdeal.main_arg5)
      ∧ m' ((c.tc : Thread Cert.OProjRefIdeal.nD Cert.OProjRefIdeal.τ).loc Cert.OProjRefIdeal.main_arg6) = m ((c.tc : Thread Cert.OProjIdeal.nD Cert.OProjIdeal.τ).loc Cert.OProjIdeal.main_arg6)) →
    ∃ (v0 : (c : Dev Cert.OProjIdeal.nD) → Buf (Elt Ideal) ((c.tc : Thread Cert.OProjIdeal.nD Cert.OProjIdeal.τ).loc Cert.OProjIdeal.main_v2_1)) (v1 : (c : Dev Cert.OProjIdeal.nD) → Buf (Elt Ideal) ((c.tc : Thread Cert.OProjIdeal.nD Cert.OProjIdeal.τ).loc Cert.OProjIdeal.main_v2_2)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v2_1) = v0 c
          ∧ r.2.mem ((c.tc : Thread Cert.OProjIdeal.nD Cert.OProjIdeal.τ).loc Cert.OProjIdeal.main_v2_2) = v1 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
          ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v1_0) = v0 c
          ∧ r.2.mem ((c.tc : Thread Cert.OProjRefIdeal.nD Cert.OProjRefIdeal.τ).loc Cert.OProjRefIdeal.main_v1_1) = v1 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4)
          ∧ r.2.mem ((c.tc : Thread Cert.OProjRefIdeal.nD Cert.OProjRefIdeal.τ).loc Cert.OProjRefIdeal.main_arg5) = m' ((c.tc : Thread Cert.OProjRefIdeal.nD Cert.OProjRefIdeal.τ).loc Cert.OProjRefIdeal.main_arg5)
          ∧ r.2.mem ((c.tc : Thread Cert.OProjRefIdeal.nD Cert.OProjRefIdeal.τ).loc Cert.OProjRefIdeal.main_arg6) = m' ((c.tc : Thread Cert.OProjRefIdeal.nD Cert.OProjRefIdeal.τ).loc Cert.OProjRefIdeal.main_arg6))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v1_0)) (v1 : (c : Dev Cert.GateUpIdeal.nD) → Buf (Elt Ideal) ((c.tc : Thread Cert.GateUpIdeal.nD Cert.GateUpIdeal.τ).loc Cert.GateUpIdeal.main_v1_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1_0) = v0 c
          ∧ r.2.mem ((c.tc : Thread Cert.GateUpIdeal.nD Cert.GateUpIdeal.τ).loc Cert.GateUpIdeal.main_v1_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def Claim : Prop :=
  ∃ (hQkv : Cert.Qkv.Facts) (hQkvIdeal : Cert.QkvIdeal.Facts) (hQkvRefIdeal : Cert.QkvRefIdeal.Facts) (hOProj : Cert.OProj.Facts) (hOProjIdeal : Cert.OProjIdeal.Facts) (hOProjRefIdeal : Cert.OProjRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts),
    quiescent_Qkv (hQkv := hQkv)
    ∧ quiescent_QkvIdeal (hQkvIdeal := hQkvIdeal)
    ∧ quiescent_QkvRefIdeal (hQkvRefIdeal := hQkvRefIdeal)
    ∧ quiescent_OProj (hOProj := hOProj)
    ∧ quiescent_OProjIdeal (hOProjIdeal := hOProjIdeal)
    ∧ quiescent_OProjRefIdeal (hOProjRefIdeal := hOProjRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ preserves_Qkv_QkvIdeal
    ∧ algebraic_QkvIdeal_QkvRefIdeal (hQkvIdeal := hQkvIdeal) (hQkvRefIdeal := hQkvRefIdeal)
    ∧ preserves_OProj_OProjIdeal
    ∧ algebraic_OProjIdeal_OProjRefIdeal (hOProjIdeal := hOProjIdeal) (hOProjRefIdeal := hOProjRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
-- ==== Qkv.lean ====
abbrev S7680x4096 : Shape := ⟨2, ![7680, 4096]⟩
abbrev S4096 : Shape := ⟨1, ![4096]⟩
abbrev S128 : Shape := ⟨1, ![128]⟩
abbrev S1 : Shape := ⟨1, ![1]⟩
abbrev S16 : Shape := ⟨1, ![16]⟩
abbrev S4 : Shape := ⟨1, ![4]⟩
abbrev S4096x3072 : Shape := ⟨2, ![4096, 3072]⟩
abbrev S2x1920x64 : Shape := ⟨3, ![2, 1920, 64]⟩
abbrev S2x1920x128 : Shape := ⟨3, ![2, 1920, 128]⟩
abbrev S3840x128 : Shape := ⟨2, ![3840, 128]⟩
abbrev S1x4096 : Shape := ⟨2, ![1, 4096]⟩
abbrev S1x128 : Shape := ⟨2, ![1, 128]⟩
abbrev S2 : Shape := ⟨1, ![2]⟩
abbrev S24 : Shape := ⟨1, ![24]⟩
abbrev S7680x2048 : Shape := ⟨2, ![7680, 2048]⟩
abbrev S7680x512 : Shape := ⟨2, ![7680, 512]⟩
abbrev S512x7680 : Shape := ⟨2, ![512, 7680]⟩
abbrev S8x128 : Shape := ⟨2, ![8, 128]⟩
abbrev S24x8x128 : Shape := ⟨3, ![24, 8, 128]⟩
abbrev S384x4096 : Shape := ⟨2, ![384, 4096]⟩
abbrev S384x128 : Shape := ⟨2, ![384, 128]⟩
abbrev S384x2048 : Shape := ⟨2, ![384, 2048]⟩
abbrev S384x512 : Shape := ⟨2, ![384, 512]⟩
abbrev S512x384 : Shape := ⟨2, ![512, 384]⟩
abbrev S1x512 : Shape := ⟨2, ![1, 512]⟩
abbrev S32x128 : Shape := ⟨2, ![32, 128]⟩
abbrev S32x512 : Shape := ⟨2, ![32, 512]⟩
abbrev S32 : Shape := ⟨1, ![32]⟩
abbrev S32x1 : Shape := ⟨2, ![32, 1]⟩
abbrev S4x8x512 : Shape := ⟨3, ![4, 8, 512]⟩
abbrev S8x512 : Shape := ⟨2, ![8, 512]⟩
abbrev S4096x512 : Shape := ⟨2, ![4096, 512]⟩
abbrev S384 : Shape := ⟨1, ![384]⟩
abbrev S384x1 : Shape := ⟨2, ![384, 1]⟩
abbrev S1x8x128 : Shape := ⟨3, ![1, 8, 128]⟩
abbrev S48x8x128 : Shape := ⟨3, ![48, 8, 128]⟩
abbrev S128x384 : Shape := ⟨2, ![128, 384]⟩
abbrev S1x1x1 : Shape := ⟨3, ![1, 1, 1]⟩

abbrev nBuf : Space → Nat
  | .hbm => 29
  | .vmem => 24
  | .smem => 2
  | _ => 0

abbrev bufTy : (tb : Table) → Fin (tcTables nBuf tb) → BufTy
  | .hbm, ⟨0, _⟩ => ⟨S7680x4096, .bf16⟩
  | .hbm, ⟨1, _⟩ => ⟨S4096, .f32⟩
  | .hbm, ⟨2, _⟩ => ⟨S128, .f32⟩
  | .hbm, ⟨3, _⟩ => ⟨S128, .f32⟩
  | .hbm, ⟨4, _⟩ => ⟨S1, .f32⟩
  | .hbm, ⟨5, _⟩ => ⟨S16, .f32⟩
  | .hbm, ⟨6, _⟩ => ⟨S4, .f32⟩
  | .hbm, ⟨7, _⟩ => ⟨S4, .f32⟩
  | .hbm, ⟨8, _⟩ => ⟨S4096x3072, .fp8e4m3⟩
  | .hbm, ⟨9, _⟩ => ⟨S1, .f32⟩
  | .hbm, ⟨10, _⟩ => ⟨S2x1920x64, .f32⟩
  | .hbm, ⟨11, _⟩ => ⟨S2x1920x64, .f32⟩
  | .hbm, ⟨12, _⟩ => ⟨S2x1920x128, .f32⟩
  | .hbm, ⟨13, _⟩ => ⟨S3840x128, .f32⟩
  | .hbm, ⟨14, _⟩ => ⟨S2x1920x64, .f32⟩
  | .hbm, ⟨15, _⟩ => ⟨S2x1920x128, .f32⟩
  | .hbm, ⟨16, _⟩ => ⟨S3840x128, .f32⟩
  | .hbm, ⟨17, _⟩ => ⟨S1x4096, .f32⟩
  | .hbm, ⟨18, _⟩ => ⟨S1x128, .f32⟩
  | .hbm, ⟨19, _⟩ => ⟨S1x128, .f32⟩
  | .hbm, ⟨20, _⟩ => ⟨S2, .f32⟩
  | .hbm, ⟨21, _⟩ => ⟨S24, .f32⟩
  | .hbm, ⟨22, _⟩ => ⟨S7680x4096, .fp8e4m3⟩
  | .hbm, ⟨23, _⟩ => ⟨S7680x2048, .fp8e4m3⟩
  | .hbm, ⟨24, _⟩ => ⟨S7680x512, .fp8e4m3⟩
  | .hbm, ⟨25, _⟩ => ⟨S7680x512, .fp8e4m3⟩
  | .hbm, ⟨26, _⟩ => ⟨S512x7680, .fp8e4m3⟩
  | .hbm, ⟨27, _⟩ => ⟨S8x128, .f32⟩
  | .hbm, ⟨28, _⟩ => ⟨S24x8x128, .f32⟩
  | .local _ .vmem, ⟨0, _⟩ => ⟨S384x4096, .bf16⟩
  | .local _ .vmem, ⟨1, _⟩ => ⟨S384x4096, .bf16⟩
  | .local _ .vmem, ⟨2, _⟩ => ⟨S1x4096, .f32⟩
  | .local _ .vmem, ⟨3, _⟩ => ⟨S4096x3072, .fp8e4m3⟩
  | .local _ .vmem, ⟨4, _⟩ => ⟨S384x128, .f32⟩
  | .local _ .vmem, ⟨5, _⟩ => ⟨S384x128, .f32⟩
  | .local _ .vmem, ⟨6, _⟩ => ⟨S384x128, .f32⟩
  | .local _ .vmem, ⟨7, _⟩ => ⟨S384x128, .f32⟩
  | .local _ .vmem, ⟨8, _⟩ => ⟨S1x128, .f32⟩
  | .local _ .vmem, ⟨9, _⟩ => ⟨S1x128, .f32⟩
  | .local _ .vmem, ⟨10, _⟩ => ⟨S384x4096, .fp8e4m3⟩
  | .local _ .vmem, ⟨11, _⟩ => ⟨S384x4096, .fp8e4m3⟩
  | .local _ .vmem, ⟨12, _⟩ => ⟨S384x2048, .fp8e4m3⟩
  | .local _ .vmem, ⟨13, _⟩ => ⟨S384x2048, .fp8e4m3⟩
  | .local _ .vmem, ⟨14, _⟩ => ⟨S384x512, .fp8e4m3⟩
  | .local _ .vmem, ⟨15, _⟩ => ⟨S384x512, .fp8e4m3⟩
  | .local _ .vmem, ⟨16, _⟩ => ⟨S384x512, .fp8e4m3⟩
  | .local _ .vmem, ⟨17, _⟩ => ⟨S384x512, .fp8e4m3⟩
  | .local _ .vmem, ⟨18, _⟩ => ⟨S512x384, .fp8e4m3⟩
  | .local _ .vmem, ⟨19, _⟩ => ⟨S512x384, .fp8e4m3⟩
  | .local _ .vmem, ⟨20, _⟩ => ⟨S8x128, .f32⟩
  | .local _ .vmem, ⟨21, _⟩ => ⟨S24x8x128, .f32⟩
  | .local _ .vmem, ⟨22, _⟩ => ⟨S384x4096, .fp8e4m3⟩
  | .local _ .vmem, ⟨23, _⟩ => ⟨S384x4096, .fp8e4m3⟩
  | .local _ .smem, ⟨0, _⟩ => ⟨S2, .f32⟩
  | .local _ .smem, ⟨1, _⟩ => ⟨S24, .f32⟩
  | _, _ => ⟨S7680x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v10_4 : Ref sig .tc := ⟨.hbm, 26, rfl⟩
abbrev main_v10_5 : Ref sig .tc := ⟨.hbm, 27, rfl⟩
abbrev main_v10_6 : Ref sig .tc := ⟨.hbm, 28, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_scratch1 : Ref sig .tc := ⟨.vmem, 23, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![21], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_1 : BitVec 32 := 0#32
  let v7 : BitVec 1 := Scalar.cmpi .ne v6 c0_i32_1
  v7

def k0_cond2 (i : grid0.Coords) : BitVec 1 :=
  let arg0 : BitVec 32 := BitVec.ofNat 32 (i 0).val
  let c0_i32_2 : BitVec 32 := 0#32
  let v8 : BitVec 1 := Scalar.cmpi .sgt arg0 c0_i32_2
  let c2_i32 : BitVec 32 := 2#32
  let c0_i32_3 : BitVec 32 := 0#32
  let v9 : BitVec 1 := Scalar.cmpi .eq c2_i32 c0_i32_3
  let c1_i32 : BitVec 32 := 1#32
  let v10 : BitVec 32 := Scalar.select v9 c1_i32 c2_i32
  let v11 : BitVec 32 := Scalar.remsi arg0 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1_i32_7 : BitVec 32 := 1#32
  let v19 : BitVec 1 := Scalar.cmpi .eq v18 c1_i32_7
  let v20 : BitVec 1 := Scalar.andi v8 v19
  let v21 : BitVec 32 := Scalar.extui v20
  let c0_i32_8 : BitVec 32 := 0#32
  let v22 : BitVec 1 := Scalar.cmpi .ne v21 c0_i32_8
  v22

def k0_cond3 (i : grid0.Coords) : BitVec 1 :=
  let arg0 : BitVec 32 := BitVec.ofNat 32 (i 0).val
  let c0_i32_9 : BitVec 32 := 0#32
  let v23 : BitVec 1 := Scalar.cmpi .sgt arg0 c0_i32_9
  let c2_i32_10 : BitVec 32 := 2#32
  let c0_i32_11 : BitVec 32 := 0#32
  let v24 : BitVec 1 := Scalar.cmpi .eq c2_i32_10 c0_i32_11
  let c1_i32_12 : BitVec 32 := 1#32
  let v25 : BitVec 32 := Scalar.select v24 c1_i32_12 c2_i32_10
  let v26 : BitVec 32 := Scalar.remsi arg0 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c0_i32_16 : BitVec 32 := 0#32
  let v34 : BitVec 1 := Scalar.cmpi .eq v33 c0_i32_16
  let v35 : BitVec 1 := Scalar.andi v23 v34
  let v36 : BitVec 32 := Scalar.extui v35
  let c0_i32_17 : BitVec 32 := 0#32
  let v37 : BitVec 1 := Scalar.cmpi .ne v36 c0_i32_17
  v37

def k0_cond4 (i : grid0.Coords) : BitVec 1 :=
  let arg0 : BitVec 32 := BitVec.ofNat 32 (i 0).val
  let c20_i32 : BitVec 32 := 20#32
  let v38 : BitVec 1 := Scalar.cmpi .eq arg0 c20_i32
  let v39 : BitVec 32 := Scalar.extui v38
  let c0_i32_18 : BitVec 32 := 0#32
  let v40 : BitVec 1 := Scalar.cmpi .ne v39 c0_i32_18
  v40

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c10_i32 : BitVec 32 := 10#32
  let v2 : BitVec 32 := Scalar.divsi v1 c10_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c10_i32 c0_i32_2
  let v9 : BitVec 32 := Scalar.extui v8
  let c0_i32_3 : BitVec 32 := 0#32
  let v10 : BitVec 1 := Scalar.cmpi .slt c10_i32 c0_i32_3
  let v11 : BitVec 32 := Scalar.extui v10
  let v12 : BitVec 32 := Scalar.subi v9 v11
  let v13 : BitVec 1 := Scalar.cmpi .ne v7 v12
  let v14 : BitVec 32 := Scalar.remsi v1 c10_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c5_i32 : BitVec 32 := 5#32
  let v19 : BitVec 32 := Scalar.muli v18 c5_i32
  let c5_i32_6 : BitVec 32 := 5#32
  let c0_i32_7 : BitVec 32 := 0#32
  let v20 : BitVec 1 := Scalar.cmpi .eq c5_i32_6 c0_i32_7
  let c1_i32_8 : BitVec 32 := 1#32
  let v21 : BitVec 32 := Scalar.select v20 c1_i32_8 c5_i32_6
  let v22 : BitVec 32 := Scalar.remsi v1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_12 : BitVec 32 := 0#32
  let c0_i32_13 : BitVec 32 := 0#32
  ![v30.toNat, c0_i32_12.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c10_i32 : BitVec 32 := 10#32
  let v2 : BitVec 32 := Scalar.divsi v1 c10_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c10_i32 c0_i32_2
  let v9 : BitVec 32 := Scalar.extui v8
  let c0_i32_3 : BitVec 32 := 0#32
  let v10 : BitVec 1 := Scalar.cmpi .slt c10_i32 c0_i32_3
  let v11 : BitVec 32 := Scalar.extui v10
  let v12 : BitVec 32 := Scalar.subi v9 v11
  let v13 : BitVec 1 := Scalar.cmpi .ne v7 v12
  let v14 : BitVec 32 := Scalar.remsi v1 c10_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c5_i32 : BitVec 32 := 5#32
  let v19 : BitVec 32 := Scalar.muli v18 c5_i32
  let c5_i32_6 : BitVec 32 := 5#32
  let c0_i32_7 : BitVec 32 := 0#32
  let v20 : BitVec 1 := Scalar.cmpi .eq c5_i32_6 c0_i32_7
  let c1_i32_8 : BitVec 32 := 1#32
  let v21 : BitVec 32 := Scalar.select v20 c1_i32_8 c5_i32_6
  let v22 : BitVec 32 := Scalar.remsi v1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_12 : BitVec 32 := 0#32
  let c0_i32_13 : BitVec 32 := 0#32
  ![v30.toNat, c0_i32_12.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x4096 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x2048 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x512 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x512 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S24x8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== QkvRefIdeal.lean ====
abbrev S7680x4096 : Shape := ⟨2, ![7680, 4096]⟩
abbrev S4096 : Shape := ⟨1, ![4096]⟩
abbrev S128 : Shape := ⟨1, ![128]⟩
abbrev S1 : Shape := ⟨1, ![1]⟩
abbrev S16 : Shape := ⟨1, ![16]⟩
abbrev S4 : Shape := ⟨1, ![4]⟩
abbrev S4096x3072 : Shape := ⟨2, ![4096, 3072]⟩
abbrev S2x1920x64 : Shape := ⟨3, ![2, 1920, 64]⟩
abbrev S1x4096 : Shape := ⟨2, ![1, 4096]⟩
abbrev S1x1x128 : Shape := ⟨3, ![1, 1, 128]⟩
abbrev S1x16x1 : Shape := ⟨3, ![1, 16, 1]⟩
abbrev S1x4x1 : Shape := ⟨3, ![1, 4, 1]⟩
abbrev S2x1x1920x64 : Shape := ⟨4, ![2, 1, 1920, 64]⟩
abbrev S2x2x1920x64 : Shape := ⟨4, ![2, 2, 1920, 64]⟩
abbrev S7680x64 : Shape := ⟨2, ![7680, 64]⟩
abbrev S7680x2048 : Shape := ⟨2, ![7680, 2048]⟩
abbrev S7680x512 : Shape := ⟨2, ![7680, 512]⟩
abbrev S512x7680 : Shape := ⟨2, ![512, 7680]⟩
abbrev S8x128 : Shape := ⟨2, ![8, 128]⟩
abbrev S24x8x128 : Shape := ⟨3, ![24, 8, 128]⟩
abbrev S7680 : Shape := ⟨1, ![7680]⟩
abbrev S7680x1 : Shape := ⟨2, ![7680, 1]⟩
abbrev S1x7680x4096 : Shape := ⟨3, ![1, 7680, 4096]⟩
abbrev S1x1x1 : Shape := ⟨3, ![1, 1, 1]⟩
abbrev S7680x3072 : Shape := ⟨2, ![7680, 3072]⟩
abbrev S7680x24x128 : Shape := ⟨3, ![7680, 24, 128]⟩
abbrev S7680x16x128 : Shape := ⟨3, ![7680, 16, 128]⟩
abbrev S7680x16 : Shape := ⟨2, ![7680, 16]⟩
abbrev S7680x16x1 : Shape := ⟨3, ![7680, 16, 1]⟩
abbrev S7680x16x64 : Shape := ⟨3, ![7680, 16, 64]⟩
abbrev S7680x1x64 : Shape := ⟨3, ![7680, 1, 64]⟩
abbrev S7680x4x128 : Shape := ⟨3, ![7680, 4, 128]⟩
abbrev S7680x4 : Shape := ⟨2, ![7680, 4]⟩
abbrev S7680x4x1 : Shape := ⟨3, ![7680, 4, 1]⟩
abbrev S7680x4x64 : Shape := ⟨3, ![7680, 4, 64]⟩
abbrev S16x1 : Shape := ⟨2, ![16, 1]⟩
abbrev S16x1x1 : Shape := ⟨3, ![16, 1, 1]⟩
abbrev S16x8x128 : Shape := ⟨3, ![16, 8, 128]⟩
abbrev S4x1 : Shape := ⟨2, ![4, 1]⟩
abbrev S4x1x1 : Shape := ⟨3, ![4, 1, 1]⟩
abbrev S4x8x128 : Shape := ⟨3, ![4, 8, 128]⟩

abbrev nBuf : Space → Nat
  | .hbm => 31
  | .vmem => 17
  | .smem => 2
  | _ => 0

abbrev bufTy : (tb : Table) → Fin (tcTables nBuf tb) → BufTy
  | .hbm, ⟨0, _⟩ => ⟨S7680x4096, .bf16⟩
  | .hbm, ⟨1, _⟩ => ⟨S4096, .f32⟩
  | .hbm, ⟨2, _⟩ => ⟨S128, .f32⟩
  | .hbm, ⟨3, _⟩ => ⟨S128, .f32⟩
  | .hbm, ⟨4, _⟩ => ⟨S1, .f32⟩
  | .hbm, ⟨5, _⟩ => ⟨S16, .f32⟩
  | .hbm, ⟨6, _⟩ => ⟨S4, .f32⟩
  | .hbm, ⟨7, _⟩ => ⟨S4, .f32⟩
  | .hbm, ⟨8, _⟩ => ⟨S4096x3072, .fp8e4m3⟩
  | .hbm, ⟨9, _⟩ => ⟨S1, .f32⟩
  | .hbm, ⟨10, _⟩ => ⟨S2x1920x64, .f32⟩
  | .hbm, ⟨11, _⟩ => ⟨S2x1920x64, .f32⟩
  | .hbm, ⟨12, _⟩ => ⟨S1x4096, .f32⟩
  | .hbm, ⟨13, _⟩ => ⟨S1x1x128, .f32⟩
  | .hbm, ⟨14, _⟩ => ⟨S1x1x128, .f32⟩
  | .hbm, ⟨15, _⟩ => ⟨S1x16x1, .f32⟩
  | .hbm, ⟨16, _⟩ => ⟨S1x4x1, .f32⟩
  | .hbm, ⟨17, _⟩ => ⟨S1x4x1, .f32⟩
  | .hbm, ⟨18, _⟩ => ⟨S2x1x1920x64, .f32⟩
  | .hbm, ⟨19, _⟩ => ⟨S2x2x1920x64, .f32⟩
  | .hbm, ⟨20, _⟩ => ⟨S7680x64, .f32⟩
  | .hbm, ⟨21, _⟩ => ⟨S2x1x1920x64, .f32⟩
  | .hbm, ⟨22, _⟩ => ⟨S2x2x1920x64, .f32⟩
  | .hbm, ⟨23, _⟩ => ⟨S7680x64, .f32⟩
  | .hbm, ⟨24, _⟩ => ⟨S7680x4096, .fp8e4m3⟩
  | .hbm, ⟨25, _⟩ => ⟨S7680x2048, .fp8e4m3⟩
  | .hbm, ⟨26, _⟩ => ⟨S7680x512, .fp8e4m3⟩
  | .hbm, ⟨27, _⟩ => ⟨S7680x512, .fp8e4m3⟩
  | .hbm, ⟨28, _⟩ => ⟨S512x7680, .fp8e4m3⟩
  | .hbm, ⟨29, _⟩ => ⟨S8x128, .f32⟩
  | .hbm, ⟨30, _⟩ => ⟨S24x8x128, .f32⟩
  | .local _ .vmem, ⟨0, _⟩ => ⟨S7680x4096, .bf16⟩
  | .local _ .vmem, ⟨1, _⟩ => ⟨S1x4096, .f32⟩
  | .local _ .vmem, ⟨2, _⟩ => ⟨S1x1x128, .f32⟩
  | .local _ .vmem, ⟨3, _⟩ => ⟨S1x1x128, .f32⟩
  | .local _ .vmem, ⟨4, _⟩ => ⟨S1x16x1, .f32⟩
  | .local _ .vmem, ⟨5, _⟩ => ⟨S1x4x1, .f32⟩
  | .local _ .vmem, ⟨6, _⟩ => ⟨S1x4x1, .f32⟩
  | .local _ .vmem, ⟨7, _⟩ => ⟨S4096x3072, .fp8e4m3⟩
  | .local _ .vmem, ⟨8, _⟩ => ⟨S7680x64, .f32⟩
  | .local _ .vmem, ⟨9, _⟩ => ⟨S7680x64, .f32⟩
  | .local _ .vmem, ⟨10, _⟩ => ⟨S7680x4096, .fp8e4m3⟩
  | .local _ .vmem, ⟨11, _⟩ => ⟨S7680x2048, .fp8e4m3⟩
  | .local _ .vmem, ⟨12, _⟩ => ⟨S7680x512, .fp8e4m3⟩
  | .local _ .vmem, ⟨13, _⟩ => ⟨S7680x512, .fp8e4m3⟩
  | .local _ .vmem, ⟨14, _⟩ => ⟨S512x7680, .fp8e4m3⟩
  | .local _ .vmem, ⟨15, _⟩ => ⟨S8x128, .f32⟩
  | .local _ .vmem, ⟨16, _⟩ => ⟨S24x8x128, .f32⟩
  | .local _ .smem, ⟨0, _⟩ => ⟨S1, .f32⟩
  | .local _ .smem, ⟨1, _⟩ => ⟨S1, .f32⟩
  | _, _ => ⟨S7680x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg13_0 : Ref sig .tc := ⟨.vmem, 11, rfl⟩
abbrev cc0_stg14_0 : Ref sig .tc := ⟨.vmem, 12, rfl⟩
abbrev cc0_stg15_0 : Ref sig .tc := ⟨.vmem, 13, rfl⟩
abbrev cc0_stg16_0 : Ref sig .tc := ⟨.vmem, 14, rfl⟩
abbrev cc0_stg17_0 : Ref sig .tc := ⟨.vmem, 15, rfl⟩
abbrev cc0_stg18_0 : Ref sig .tc := ⟨.vmem, 16, rfl⟩
abbrev cc0_stg4_0 : Ref sig .tc := ⟨.smem, 0, rfl⟩
abbrev cc0_stg9_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S7680x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x3072 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7680x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7680x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S7680x4096 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S7680x2048 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S7680x512 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S7680x512 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S512x7680 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S24x8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== OProj.lean ====
abbrev S7680x2048 : Shape := ⟨2, ![7680, 2048]⟩
abbrev S7680x4096 : Shape := ⟨2, ![7680, 4096]⟩
abbrev S4096 : Shape := ⟨1, ![4096]⟩
abbrev S1 : Shape := ⟨1, ![1]⟩
abbrev S2048x4096 : Shape := ⟨2, ![2048, 4096]⟩
abbrev S1x4096 : Shape := ⟨2, ![1, 4096]⟩
abbrev S3 : Shape := ⟨1, ![3]⟩
abbrev S8x128 : Shape := ⟨2, ![8, 128]⟩
abbrev S256x2048 : Shape := ⟨2, ![256, 2048]⟩
abbrev S256x4096 : Shape := ⟨2, ![256, 4096]⟩
abbrev S256x128 : Shape := ⟨2, ![256, 128]⟩
abbrev S1x512 : Shape := ⟨2, ![1, 512]⟩
abbrev S2048x512 : Shape := ⟨2, ![2048, 512]⟩
abbrev S256x512 : Shape := ⟨2, ![256, 512]⟩
abbrev S16x128 : Shape := ⟨2, ![16, 128]⟩
abbrev S16 : Shape := ⟨1, ![16]⟩
abbrev S16x1 : Shape := ⟨2, ![16, 1]⟩
abbrev S16x512 : Shape := ⟨2, ![16, 512]⟩
abbrev S2x8x512 : Shape := ⟨3, ![2, 8, 512]⟩
abbrev S8x512 : Shape := ⟨2, ![8, 512]⟩
abbrev S1x8x128 : Shape := ⟨3, ![1, 8, 128]⟩
abbrev S1x1x1 : Shape := ⟨3, ![1, 1, 1]⟩

abbrev nBuf : Space → Nat
  | .hbm => 12
  | .vmem => 15
  | .smem => 1
  | _ => 0

abbrev bufTy : (tb : Table) → Fin (tcTables nBuf tb) → BufTy
  | .hbm, ⟨0, _⟩ => ⟨S7680x2048, .fp8e4m3⟩
  | .hbm, ⟨1, _⟩ => ⟨S7680x4096, .bf16⟩
  | .hbm, ⟨2, _⟩ => ⟨S4096, .f32⟩
  | .hbm, ⟨3, _⟩ => ⟨S1, .f32⟩
  | .hbm, ⟨4, _⟩ => ⟨S1, .f32⟩
  | .hbm, ⟨5, _⟩ => ⟨S2048x4096, .fp8e4m3⟩
  | .hbm, ⟨6, _⟩ => ⟨S1, .f32⟩
  | .hbm, ⟨7, _⟩ => ⟨S1x4096, .f32⟩
  | .hbm, ⟨8, _⟩ => ⟨S3, .f32⟩
  | .hbm, ⟨9, _⟩ => ⟨S7680x4096, .f32⟩
  | .hbm, ⟨10, _⟩ => ⟨S7680x4096, .fp8e4m3⟩
  | .hbm, ⟨11, _⟩ => ⟨S8x128, .f32⟩
  | .local _ .vmem, ⟨0, _⟩ => ⟨S256x2048, .fp8e4m3⟩
  | .local _ .vmem, ⟨1, _⟩ => ⟨S256x2048, .fp8e4m3⟩
  | .local _ .vmem, ⟨2, _⟩ => ⟨S2048x4096, .fp8e4m3⟩
  | .local _ .vmem, ⟨3, _⟩ => ⟨S256x4096, .bf16⟩
  | .local _ .vmem, ⟨4, _⟩ => ⟨S256x4096, .bf16⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .fp8e4m3⟩
  | .local _ .vmem, ⟨9, _⟩ => ⟨S256x4096, .fp8e4m3⟩
  | .local _ .vmem, ⟨10, _⟩ => ⟨S8x128, .f32⟩
  | .local _ .vmem, ⟨11, _⟩ => ⟨S256x4096, .f32⟩
  | .local _ .vmem, ⟨12, _⟩ => ⟨S256x4096, .f32⟩
  | .local _ .vmem, ⟨13, _⟩ => ⟨S256x128, .f32⟩
  | .local _ .vmem, ⟨14, _⟩ => ⟨S256x128, .f32⟩
  | .local _ .smem, ⟨0, _⟩ => ⟨S3, .f32⟩
  | _, _ => ⟨S7680x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![31], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_0 : BitVec 32 := 0#32
  let v7 : BitVec 1 := Scalar.cmpi .ne v6 c0_i32_0
  v7

def k0_cond2 (i : grid0.Coords) : BitVec 1 :=
  let arg0 : BitVec 32 := BitVec.ofNat 32 (i 0).val
  let c0_i32_1 : BitVec 32 := 0#32
  let v8 : BitVec 1 := Scalar.cmpi .sgt arg0 c0_i32_1
  let c30_i32 : BitVec 32 := 30#32
  let v9 : BitVec 1 := Scalar.cmpi .slt arg0 c30_i32
  let v10 : BitVec 1 := Scalar.andi v8 v9
  let c2_i32 : BitVec 32 := 2#32
  let c0_i32_2 : BitVec 32 := 0#32
  let v11 : BitVec 1 := Scalar.cmpi .eq c2_i32 c0_i32_2
  let c1_i32 : BitVec 32 := 1#32
  let v12 : BitVec 32 := Scalar.select v11 c1_i32 c2_i32
  let v13 : BitVec 32 := Scalar.remsi arg0 v12
  let c0_i32_4 : BitVec 32 := 0#32
  let v15 : BitVec 1 := Scalar.cmpi .slt v13 c0_i32_4
  let c0_i32_5 : BitVec 32 := 0#32
  let v16 : BitVec 1 := Scalar.cmpi .slt v12 c0_i32_5
  let v17 : BitVec 1 := Scalar.xori v15 v16
  let c0_i32_3 : BitVec 32 := 0#32
  let v14 : BitVec 1 := Scalar.cmpi .ne v13 c0_i32_3
  let v18 : BitVec 1 := Scalar.andi v17 v14
  let v19 : BitVec 32 := Scalar.addi v13 v12
  let v20 : BitVec 32 := Scalar.select v18 v19 v13
  let c1_i32_6 : BitVec 32 := 1#32
  let v21 : BitVec 1 := Scalar.cmpi .eq v20 c1_i32_6
  let v22 : BitVec 1 := Scalar.andi v10 v21
  let v23 : BitVec 32 := Scalar.extui v22
  let c0_i32_7 : BitVec 32 := 0#32
  let v24 : BitVec 1 := Scalar.cmpi .ne v23 c0_i32_7
  v24

def k0_cond3 (i : grid0.Coords) : BitVec 1 :=
  let arg0 : BitVec 32 := BitVec.ofNat 32 (i 0).val
  let c0_i32_8 : BitVec 32 := 0#32
  let v25 : BitVec 1 := Scalar.cmpi .sgt arg0 c0_i32_8
  let c30_i32_9 : BitVec 32 := 30#32
  let v26 : BitVec 1 := Scalar.cmpi .slt arg0 c30_i32_9
  let v27 : BitVec 1 := Scalar.andi v25 v26
  let c2_i32_10 : BitVec 32 := 2#32
  let c0_i32_11 : BitVec 32 := 0#32
  let v28 : BitVec 1 := Scalar.cmpi .eq c2_i32_10 c0_i32_11
  let c1_i32_12 : BitVec 32 := 1#32
  let v29 : BitVec 32 := Scalar.select v28 c1_i32_12 c2_i32_10
  let v30 : BitVec 32 := Scalar.remsi arg0 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_16 : BitVec 32 := 0#32
  let v38 : BitVec 1 := Scalar.cmpi .eq v37 c0_i32_16
  let v39 : BitVec 1 := Scalar.andi v27 v38
  let v40 : BitVec 32 := Scalar.extui v39
  let c0_i32_17 : BitVec 32 := 0#32
  let v41 : BitVec 1 := Scalar.cmpi .ne v40 c0_i32_17
  v41

def k0_cond4 (i : grid0.Coords) : BitVec 1 :=
  let arg0 : BitVec 32 := BitVec.ofNat 32 (i 0).val
  let c30_i32_18 : BitVec 32 := 30#32
  let v42 : BitVec 1 := Scalar.cmpi .eq arg0 c30_i32_18
  let v43 : BitVec 32 := Scalar.extui v42
  let c0_i32_19 : BitVec 32 := 0#32
  let v44 : BitVec 1 := Scalar.cmpi .ne v43 c0_i32_19
  v44

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OProjRefIdeal.lean ====
abbrev S7680x2048 : Shape := ⟨2, ![7680, 2048]⟩
abbrev S7680x4096 : Shape := ⟨2, ![7680, 4096]⟩
abbrev S4096 : Shape := ⟨1, ![4096]⟩
abbrev S1 : Shape := ⟨1, ![1]⟩
abbrev S2048x4096 : Shape := ⟨2, ![2048, 4096]⟩
abbrev S1x4096 : Shape := ⟨2, ![1, 4096]⟩
abbrev S8x128 : Shape := ⟨2, ![8, 128]⟩
abbrev S7680 : Shape := ⟨1, ![7680]⟩
abbrev S7680x1 : Shape := ⟨2, ![7680, 1]⟩
abbrev S1x7680x4096 : Shape := ⟨3, ![1, 7680, 4096]⟩
abbrev S1x1x1 : Shape := ⟨3, ![1, 1, 1]⟩

abbrev nBuf : Space → Nat
  | .hbm => 10
  | .vmem => 6
  | .smem => 3
  | _ => 0

abbrev bufTy : (tb : Table) → Fin (tcTables nBuf tb) → BufTy
  | .hbm, ⟨0, _⟩ => ⟨S7680x2048, .fp8e4m3⟩
  | .hbm, ⟨1, _⟩ => ⟨S7680x4096, .bf16⟩
  | .hbm, ⟨2, _⟩ => ⟨S4096, .f32⟩
  | .hbm, ⟨3, _⟩ => ⟨S1, .f32⟩
  | .hbm, ⟨4, _⟩ => ⟨S1, .f32⟩
  | .hbm, ⟨5, _⟩ => ⟨S2048x4096, .fp8e4m3⟩
  | .hbm, ⟨6, _⟩ => ⟨S1, .f32⟩
  | .hbm, ⟨7, _⟩ => ⟨S1x4096, .f32⟩
  | .hbm, ⟨8, _⟩ => ⟨S7680x4096, .fp8e4m3⟩
  | .hbm, ⟨9, _⟩ => ⟨S8x128, .f32⟩
  | .local _ .vmem, ⟨0, _⟩ => ⟨S7680x2048, .fp8e4m3⟩
  | .local _ .vmem, ⟨1, _⟩ => ⟨S7680x4096, .bf16⟩
  | .local _ .vmem, ⟨2, _⟩ => ⟨S1x4096, .f32⟩
  | .local _ .vmem, ⟨3, _⟩ => ⟨S2048x4096, .fp8e4m3⟩
  | .local _ .vmem, ⟨4, _⟩ => ⟨S7680x4096, .fp8e4m3⟩
  | .local _ .vmem, ⟨5, _⟩ => ⟨S8x128, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S7680x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg5_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg3_0 : Ref sig .tc := ⟨.smem, 0, rfl⟩
abbrev cc0_stg4_0 : Ref sig .tc := ⟨.smem, 1, rfl⟩
abbrev cc0_stg6_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S7680x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7680x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== GateUp.lean ====
abbrev S7680x4096 : Shape := ⟨2, ![7680, 4096]⟩
abbrev S1 : Shape := ⟨1, ![1]⟩
abbrev S4096x12288 : Shape := ⟨2, ![4096, 12288]⟩
abbrev S3 : Shape := ⟨1, ![3]⟩
abbrev S7680x6144 : Shape := ⟨2, ![7680, 6144]⟩
abbrev S8x128 : Shape := ⟨2, ![8, 128]⟩
abbrev S1920x4096 : Shape := ⟨2, ![1920, 4096]⟩
abbrev S4096x256 : Shape := ⟨2, ![4096, 256]⟩
abbrev S1920x256 : Shape := ⟨2, ![1920, 256]⟩
abbrev S1x256 : Shape := ⟨2, ![1, 256]⟩
abbrev S384x4096 : Shape := ⟨2, ![384, 4096]⟩
abbrev S384x256 : Shape := ⟨2, ![384, 256]⟩
abbrev S48x8x256 : Shape := ⟨3, ![48, 8, 256]⟩
abbrev S8x256 : Shape := ⟨2, ![8, 256]⟩
abbrev S1x8x128 : Shape := ⟨3, ![1, 8, 128]⟩
abbrev S1x1x1 : Shape := ⟨3, ![1, 1, 1]⟩

abbrev nBuf : Space → Nat
  | .hbm => 8
  | .vmem => 9
  | .smem => 1
  | _ => 0

abbrev bufTy : (tb : Table) → Fin (tcTables nBuf tb) → BufTy
  | .hbm, ⟨0, _⟩ => ⟨S7680x4096, .fp8e4m3⟩
  | .hbm, ⟨1, _⟩ => ⟨S1, .f32⟩
  | .hbm, ⟨2, _⟩ => ⟨S1, .f32⟩
  | .hbm, ⟨3, _⟩ => ⟨S4096x12288, .fp8e4m3⟩
  | .hbm, ⟨4, _⟩ => ⟨S1, .f32⟩
  | .hbm, ⟨5, _⟩ => ⟨S3, .f32⟩
  | .hbm, ⟨6, _⟩ => ⟨S7680x6144, .fp8e4m3⟩
  | .hbm, ⟨7, _⟩ => ⟨S8x128, .f32⟩
  | .local _ .vmem, ⟨0, _⟩ => ⟨S1920x4096, .fp8e4m3⟩
  | .local _ .vmem, ⟨1, _⟩ => ⟨S1920x4096, .fp8e4m3⟩
  | .local _ .vmem, ⟨2, _⟩ => ⟨S4096x256, .fp8e4m3⟩
  | .local _ .vmem, ⟨3, _⟩ => ⟨S4096x256, .fp8e4m3⟩
  | .local _ .vmem, ⟨4, _⟩ => ⟨S4096x256, .fp8e4m3⟩
  | .local _ .vmem, ⟨5, _⟩ => ⟨S4096x256, .fp8e4m3⟩
  | .local _ .vmem, ⟨6, _⟩ => ⟨S1920x256, .fp8e4m3⟩
  | .local _ .vmem, ⟨7, _⟩ => ⟨S1920x256, .fp8e4m3⟩
  | .local _ .vmem, ⟨8, _⟩ => ⟨S8x128, .f32⟩
  | .local _ .smem, ⟨0, _⟩ => ⟨S3, .f32⟩
  | _, _ => ⟨S7680x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![4, 24], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi arg1 c24_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1920x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1920x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== GateUpRefIdeal.lean ====
abbrev S7680x4096 : Shape := ⟨2, ![7680, 4096]⟩
abbrev S1 : Shape := ⟨1, ![1]⟩
abbrev S4096x12288 : Shape := ⟨2, ![4096, 12288]⟩
abbrev S7680x6144 : Shape := ⟨2, ![7680, 6144]⟩
abbrev S8x128 : Shape := ⟨2, ![8, 128]⟩
abbrev S7680x12288 : Shape := ⟨2, ![7680, 12288]⟩
abbrev S1x7680x6144 : Shape := ⟨3, ![1, 7680, 6144]⟩
abbrev S1x1x1 : Shape := ⟨3, ![1, 1, 1]⟩

abbrev nBuf : Space → Nat
  | .hbm => 7
  | .vmem => 4
  | .smem => 3
  | _ => 0

abbrev bufTy : (tb : Table) → Fin (tcTables nBuf tb) → BufTy
  | .hbm, ⟨0, _⟩ => ⟨S7680x4096, .fp8e4m3⟩
  | .hbm, ⟨1, _⟩ => ⟨S1, .f32⟩
  | .hbm, ⟨2, _⟩ => ⟨S1, .f32⟩
  | .hbm, ⟨3, _⟩ => ⟨S4096x12288, .fp8e4m3⟩
  | .hbm, ⟨4, _⟩ => ⟨S1, .f32⟩
  | .hbm, ⟨5, _⟩ => ⟨S7680x6144, .fp8e4m3⟩
  | .hbm, ⟨6, _⟩ => ⟨S8x128, .f32⟩
  | .local _ .vmem, ⟨0, _⟩ => ⟨S7680x4096, .fp8e4m3⟩
  | .local _ .vmem, ⟨1, _⟩ => ⟨S4096x12288, .fp8e4m3⟩
  | .local _ .vmem, ⟨2, _⟩ => ⟨S7680x6144, .fp8e4m3⟩
  | .local _ .vmem, ⟨3, _⟩ => ⟨S8x128, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S7680x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg3_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg1_0 : Ref sig .tc := ⟨.smem, 0, rfl⟩
abbrev cc0_stg2_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S7680x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x12288 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7680x6144 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Down.lean ====
abbrev S7680x6144 : Shape := ⟨2, ![7680, 6144]⟩
abbrev S7680x4096 : Shape := ⟨2, ![7680, 4096]⟩
abbrev S1 : Shape := ⟨1, ![1]⟩
abbrev S6144x4096 : Shape := ⟨2, ![6144, 4096]⟩
abbrev S2 : Shape := ⟨1, ![2]⟩
abbrev S1920x6144 : Shape := ⟨2, ![1920, 6144]⟩
abbrev S6144x256 : Shape := ⟨2, ![6144, 256]⟩
abbrev S1920x256 : Shape := ⟨2, ![1920, 256]⟩
abbrev S384x6144 : Shape := ⟨2, ![384, 6144]⟩
abbrev S384x256 : Shape := ⟨2, ![384, 256]⟩

abbrev nBuf : Space → Nat
  | .hbm => 7
  | .vmem => 8
  | .smem => 1
  | _ => 0

abbrev bufTy : (tb : Table) → Fin (tcTables nBuf tb) → BufTy
  | .hbm, ⟨0, _⟩ => ⟨S7680x6144, .fp8e4m3⟩
  | .hbm, ⟨1, _⟩ => ⟨S7680x4096, .f32⟩
  | .hbm, ⟨2, _⟩ => ⟨S1, .f32⟩
  | .hbm, ⟨3, _⟩ => ⟨S6144x4096, .fp8e4m3⟩
  | .hbm, ⟨4, _⟩ => ⟨S1, .f32⟩
  | .hbm, ⟨5, _⟩ => ⟨S2, .f32⟩
  | .hbm, ⟨6, _⟩ => ⟨S7680x4096, .bf16⟩
  | .local _ .vmem, ⟨0, _⟩ => ⟨S1920x6144, .fp8e4m3⟩
  | .local _ .vmem, ⟨1, _⟩ => ⟨S1920x6144, .fp8e4m3⟩
  | .local _ .vmem, ⟨2, _⟩ => ⟨S6144x256, .fp8e4m3⟩
  | .local _ .vmem, ⟨3, _⟩ => ⟨S6144x256, .fp8e4m3⟩
  | .local _ .vmem, ⟨4, _⟩ => ⟨S1920x256, .f32⟩
  | .local _ .vmem, ⟨5, _⟩ => ⟨S1920x256, .f32⟩
  | .local _ .vmem, ⟨6, _⟩ => ⟨S1920x256, .bf16⟩
  | .local _ .vmem, ⟨7, _⟩ => ⟨S1920x256, .bf16⟩
  | .local _ .smem, ⟨0, _⟩ => ⟨S2, .f32⟩
  | _, _ => ⟨S7680x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1920x6144 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S6144x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1920x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1920x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S7680x6144 : Shape := ⟨2, ![7680, 6144]⟩
abbrev S7680x4096 : Shape := ⟨2, ![7680, 4096]⟩
abbrev S1 : Shape := ⟨1, ![1]⟩
abbrev S6144x4096 : Shape := ⟨2, ![6144, 4096]⟩

abbrev nBuf : Space → Nat
  | .hbm => 6
  | .vmem => 4
  | .smem => 2
  | _ => 0

abbrev bufTy : (tb : Table) → Fin (tcTables nBuf tb) → BufTy
  | .hbm, ⟨0, _⟩ => ⟨S7680x6144, .fp8e4m3⟩
  | .hbm, ⟨1, _⟩ => ⟨S7680x4096, .f32⟩
  | .hbm, ⟨2, _⟩ => ⟨S1, .f32⟩
  | .hbm, ⟨3, _⟩ => ⟨S6144x4096, .fp8e4m3⟩
  | .hbm, ⟨4, _⟩ => ⟨S1, .f32⟩
  | .hbm, ⟨5, _⟩ => ⟨S7680x4096, .bf16⟩
  | .local _ .vmem, ⟨0, _⟩ => ⟨S7680x6144, .fp8e4m3⟩
  | .local _ .vmem, ⟨1, _⟩ => ⟨S7680x4096, .f32⟩
  | .local _ .vmem, ⟨2, _⟩ => ⟨S6144x4096, .fp8e4m3⟩
  | .local _ .vmem, ⟨3, _⟩ => ⟨S7680x4096, .bf16⟩
  | .local _ .smem, ⟨0, _⟩ => ⟨S1, .f32⟩
  | .local _ .smem, ⟨1, _⟩ => ⟨S1, .f32⟩
  | _, _ => ⟨S7680x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg5_0 : Ref sig .tc := ⟨.vmem, 3, rfl⟩
abbrev cc0_stg2_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S7680x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7680x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.DownValue.lean ====
module

public import proofs.«01_k».proof.Proof.Gen.DownIdeal.Value
public import proofs.«01_k».proof.Proof.Gen.DownRefIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownIdeal.Val

open Cert.DownIdeal Cert.DownIdeal.Gen

variable (m : (ℓ : Loc nD τ sig) → Buf (Elt Ideal) ℓ)

/-- What the down projection computes: the residual plus the scaled product of the codes with the weights. -/
def spec (C : FVec Ideal S7680x6144 .fp8e4m3) (H : FVec Ideal S7680x4096 .f32) (s : FVec Ideal S1 .f32)
    (W : FVec Ideal S6144x4096 .fp8e4m3) (w : FVec Ideal S1 .f32) : FVec Ideal S7680x4096 .bf16 := fun i =>
  ((H (ix2 (i 0) (i 1)) : EReal) + (∑ k : Fin 6144, (C (ix2 (i 0) k) : EReal) * (W (ix2 k (i 1)) : EReal)) *
    ((s (ix1 0) : EReal) * (w (ix1 0) : EReal)) : EReal)

theorem idx : ∀ t : Fin cfg0.N, win0_0.index t = ![0] ∧ win0_1.index t = ![t.val / 16, 0] ∧ win0_2.index t = ![0, t.val % 16]
    ∧ win0_3.index t = ![t.val / 16, t.val % 16] ∧ win0_4.index t = ![t.val / 16, t.val % 16] :=
  (by decide +kernel : ∀ t : Fin grid0.N, _)

/-- The block of scales is the whole array of scales. -/
theorem emb0 (t : Fin cfg0.N) (y : S2.Idx) : (win0_0.blk t).view.emb y = y := by
  blk_ext [idx t]

/-- The first scale the kernel reads is the program's scale of the codes. -/
theorem scale0 (c : Dev nD) (t : Fin cfg0.N) : V m c main_v0 ((win0_0.blk t).view.emb (ix1 0)) = m ((c : Thread nD τ).loc main_arg2) (ix1 0) := by
  rw [emb0 t (ix1 0)]
  entry_read
  pointwise
  try rfl

/-- The second scale the kernel reads is the program's scale of the weights. -/
theorem scale1 (c : Dev nD) (t : Fin cfg0.N) : V m c main_v0 ((win0_0.blk t).view.emb (ix1 1)) = m ((c : Thread nD τ).loc main_arg4) (ix1 0) := by
  rw [emb0 t (ix1 1)]
  entry_read
  pointwise
  try rfl

theorem final (c : Dev nD) : (dats m 0 c).arrAt 4 (cfgs 0).N
    = spec (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 4 _ (by decide +kernel) fun t _ y => ?_
  blk_simp
  rw [after0_4]
  unfold outsAt0
  frame_out
  canon_tiles x h
  all_goals
    pointwise [k0_pay1, k0_pay2, k0_pay3, k0_pay4, k0_pay5, k0_pay6, k0_pay7, spec]
    blk_point [iblk, V, idx t]
  all_goals first | exact scale0 m c t | exact scale1 m c t

end Cert.DownIdeal.Val

end
-- ==== Proof.DownRefValue.lean ====
module

public import proofs.«01_k».proof.Proof.DownValue
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DownRefIdeal.Val

open Cert.DownRefIdeal Cert.DownRefIdeal.Gen

variable (m : (ℓ : Loc nD τ sig) → Buf (Elt Ideal) ℓ)

/-- Every window of the reference's single point starts at the origin of its array. -/
theorem idx : ∀ t : Fin cfg0.N, win0_0.index t = ![0, 0] ∧ win0_1.index t = ![0, 0] ∧ win0_2.index t = ![0]
    ∧ win0_3.index t = ![0, 0] ∧ win0_4.index t = ![0] ∧ win0_5.index t = ![0, 0] := by decide +kernel

/-- The reference of the down projection computes the specification. -/
theorem final (c : Dev nD) : (dats m 0 c).arrAt 5 (cfgs 0).N
    = Cert.DownIdeal.Val.spec (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_after_last 5 t0_0 (by decide +kernel) _ fun j => ?_
  blk_simp
  rw [after0_5]
  unfold outsAt0
  frame_out
  simp only [read_unread_whole]
  pointwise [k0_pay1, Cert.DownIdeal.Val.spec]
  blk_point [iblk, V, idx t0_0]

end Cert.DownRefIdeal.Val

end
-- ==== Proof.DownClaim.lean ====
module

public import proofs.«01_k».proof.Defs
public import proofs.«01_k».proof.Proof.DownValue
public import proofs.«01_k».proof.Proof.DownRefValue

@[expose] public section

set_option maxRecDepth 16384

noncomputable section

open Idealize.ShloMosaic Idealize.ShloMosaic.TcCoe Idealize.SL.Sem

namespace Cert.Proof

/-- The down projection and its reference, run from memories that agree on the arguments, end with the same output. -/
theorem down_algebraic : algebraic_DownIdeal_DownRefIdeal (hDownIdeal := DownIdeal.Gen.facts) (hDownRefIdeal := DownRefIdeal.Gen.facts) :=
  letI := DownIdeal.Gen.facts
  letI := DownRefIdeal.Gen.facts
  fun m g m' g' _ hm =>
    ⟨fun c => DownIdeal.Val.spec (m ((c.tc : Thread DownIdeal.nD DownIdeal.τ).loc DownIdeal.main_arg0)) (m ((c.tc : Thread DownIdeal.nD DownIdeal.τ).loc DownIdeal.main_arg1))
        (m ((c.tc : Thread DownIdeal.nD DownIdeal.τ).loc DownIdeal.main_arg2)) (m ((c.tc : Thread DownIdeal.nD DownIdeal.τ).loc DownIdeal.main_arg3)) (m ((c.tc : Thread DownIdeal.nD DownIdeal.τ).loc DownIdeal.main_arg4)),
      (θ_run _ _ _).mono (fun r h c => ⟨(h c).1.trans (DownIdeal.Val.final m c), (h c).2⟩) (DownIdeal.Value.run_blocks m g),
      (θ_run _ _ _).mono (fun r h c => ⟨(h c).1.trans ((DownRefIdeal.Val.final m' c).trans (by
        obtain ⟨h0, h1, h2, h3, h4⟩ := hm c
        rw [h0, h1, h2, h3, h4])), (h c).2⟩) (DownRefIdeal.Value.run_blocks m' g')⟩

end Cert.Proof

end
-- ==== Proof.MaxAbs.lean ====
module

public import Idealize.ShloMosaic.PureOps
public import Idealize.ShloMosaic.Lib.Pointwise

@[expose] public section

noncomputable section

open Idealize.ShloMosaic

namespace Cert.MaxAbs

/-- The word of minus infinity is the least value. -/
theorem ninf : Ideal.ofBits .f32 4286578688#32 = (⊥ : EReal) := by
  simp [Ideal.ofBits, Ideal.ieee]

/-- A magnitude is not negative. -/
theorem zero_le_absf {φ : FTy} (a : Ideal φ) : (0 : EReal) ≤ (FloatOps.absf a : EReal) := by
  rw [Ideal.absf_def]
  rcases le_total (0 : EReal) a with h | h
  · exact le_max_of_le_left h
  · exact le_max_of_le_right (by simpa using EReal.neg_le_neg_iff.2 h)

end Cert.MaxAbs

end
-- ==== Proof.GateUpValue.lean ====
module

public import proofs.«01_k».proof.Proof.Gen.GateUpIdeal.Value
public import Idealize.ShloMosaic.Lib.Pipeline.ValueKit
public import Idealize.ShloMosaic.Lib.Pipeline.ReadBack
public import Idealize.ShloMosaic.Lib.Pointwise
public import proofs.«01_k».proof.Proof.MaxAbs

@[expose] public section

set_option maxRecDepth 16384

noncomputable section

open Idealize.ShloMosaic Idealize.ShloMosaic.TcCoe Idealize.SL.Sem
open Idealize.ShloMosaic.Pipeline (Dat)

namespace Cert.GateUpIdeal.Val

open Cert.GateUpIdeal Cert.GateUpIdeal.Gen

variable (m : (ℓ : Loc nD τ sig) → Buf (Elt Ideal) ℓ)

theorem idx : ∀ t : Fin cfg0.N, win0_0.index t = ![0] ∧ win0_1.index t = ![t.val / 24, 0] ∧ win0_2.index t = ![0, t.val % 24]
    ∧ win0_3.index t = ![0, t.val % 24 + 24] ∧ win0_4.index t = ![t.val / 24, t.val % 24] ∧ win0_5.index t = ![0, 0] :=
  (by decide +kernel : ∀ t : Fin grid0.N, _)

/-- `b` bounds the magnitudes of `v` at the entries whose row is `j 0` modulo 8 and whose column is `j 1` modulo 128. -/
def AbsLe (v : FVec Ideal S384x256 .f32) (j : S8x128.Idx) (b : EReal) : Prop :=
  ∀ (r : Fin 384) (q : Fin 256), r.val % 8 = (j 0).val → q.val % 128 = (j 1).val → (FloatOps.absf (v (ix2 r q)) : EReal) ≤ b

theorem rowlt (j : S8x128.Idx) (x : Fin 48) : x.val * 8 + (j 0).val < 384 := by
  have h : (j 0).val < 8 := (j 0).isLt
  omega
theorem lanelt (j : S8x128.Idx) : (j 1).val < 256 ∧ 128 + (j 1).val < 256 := by
  have h : (j 1).val < 128 := (j 1).isLt
  omega

/-- The largest magnitude over the rows of eight and the two halves of the columns, bounded. -/
theorem folds_le (v : FVec Ideal S384x256 .f32) (j : S8x128.Idx) (b : EReal)
    (p : ∀ x : Fin 48, x.val * 8 + (j 0).val < 384) (q : (j 1).val < 256) (q' : 128 + (j 1).val < 256) :
    max (Finset.fold max (Ideal.ofBits FTy.f32 4286578688#32)
        (fun x : Fin 48 => (FloatOps.absf (v (ix2 ⟨x.val * 8 + (j 0).val, p x⟩ ⟨(j 1).val, q⟩)) : EReal)) Finset.univ)
      (Finset.fold max (Ideal.ofBits FTy.f32 4286578688#32)
        (fun x : Fin 48 => (FloatOps.absf (v (ix2 ⟨x.val * 8 + (j 0).val, p x⟩ ⟨128 + (j 1).val, q'⟩)) : EReal)) Finset.univ) ≤ b
      ↔ AbsLe v j b := by
  have hj0 : (j 0).val < 8 := (j 0).isLt
  have hj1 : (j 1).val < 128 := (j 1).isLt
  simp only [max_le_iff, Finset.fold_max_le, MaxAbs.ninf, bot_le, true_and, Finset.mem_univ, forall_const, AbsLe]
  constructor
  · rintro ⟨h1, h2⟩ r c hr hc
    have hrl := r.isLt
    have hcl := c.isLt
    rcases Nat.lt_or_ge c.val 128 with h | h
    · have := h1 ⟨r.val / 8, by omega⟩
      rwa [show (⟨r.val / 8 * 8 + (j 0).val, p ⟨r.val / 8, by omega⟩⟩ : Fin 384) = r from Fin.ext (by dsimp only; omega),
        show (⟨(j 1).val, q⟩ : Fin 256) = c from Fin.ext (by dsimp only; omega)] at this
    · have := h2 ⟨r.val / 8, by omega⟩
      rwa [show (⟨r.val / 8 * 8 + (j 0).val, p ⟨r.val / 8, by omega⟩⟩ : Fin 384) = r from Fin.ext (by dsimp only; omega),
        show (⟨128 + (j 1).val, q'⟩ : Fin 256) = c from Fin.ext (by dsimp only; omega)] at this
  · intro h
    exact ⟨fun x => h _ _ (by dsimp only; omega) (by dsimp only; omega), fun x => h _ _ (by dsimp only; omega) (by dsimp only; omega)⟩

/-- The gated product at an entry, from the two products and the scale. -/
def hidV (v : Ideal .f32) (p w : FVec Ideal S384x256 .f32) : FVec Ideal S384x256 .f32 := fun j =>
  ((p j : EReal) * v * Ideal.logistic ((p j : EReal) * v) * ((w j : EReal) * v) : EReal)

/-- The running maximum after the first chunk. -/
theorem le11 (v : FVec Ideal S384x256 .f32) (a : FVec Ideal S8x128 .f32) (j : S8x128.Idx) (b : EReal) :
    (k0_pay11 (F := Ideal) v a j : EReal) ≤ b ↔ (a j : EReal) ≤ b ∧ AbsLe v j b := by
  rw [← folds_le v j b (rowlt j) (lanelt j).1 (lanelt j).2, ← max_le_iff]
  pointwise [k0_pay11]
theorem le20 (v : Ideal .f32) (p w : FVec Ideal S384x256 .f32) (a : FVec Ideal S8x128 .f32) (j : S8x128.Idx) (b : EReal) :
    (k0_pay20 (F := Ideal) (k0_pay16 a) (k0_pay18 v p w) (k0_pay19 v p w) j : EReal) ≤ b ↔ (a j : EReal) ≤ b ∧ AbsLe (hidV v p w) j b := by
  rw [← folds_le _ j b (rowlt j) (lanelt j).1 (lanelt j).2, ← max_le_iff]
  pointwise [k0_pay20, k0_pay16, k0_pay18, k0_pay19, k0_pay17, k0_pay15, hidV]
theorem le25 (v : Ideal .f32) (p w : FVec Ideal S384x256 .f32) (a : FVec Ideal S8x128 .f32) (j : S8x128.Idx) (b : EReal) :
    (k0_pay25 (F := Ideal) v p w a j : EReal) ≤ b ↔ (a j : EReal) ≤ b ∧ AbsLe (hidV v p w) j b := by
  rw [← folds_le _ j b (rowlt j) (lanelt j).1 (lanelt j).2, ← max_le_iff]
  pointwise [k0_pay25, k0_pay24, hidV]
theorem pay31_eq : @k0_pay31 Ideal _ = k0_pay25 := rfl
theorem pay2_eq : @k0_pay2 Ideal _ = k0_pay25 := rfl
/-- The last point spreads the largest entry of the running maximum. -/
theorem pay4_le (v : FVec Ideal S8x128 .f32) (j : S8x128.Idx) (b : EReal) : (k0_pay4 (F := Ideal) v j : EReal) ≤ b ↔ ∀ i, (v i : EReal) ≤ b := by
  pointwise [k0_pay4]
  simp only [Finset.fold_max_le, MaxAbs.ninf, bot_le, true_and, Finset.mem_univ, forall_const]
  exact ⟨fun h i => by have := h (i 0, i 1); rwa [← eq_ix2 i] at this, fun h x => h _⟩

/-- The gated product of one grid point at an entry of its block, from the point's input blocks. -/
def hb (x0 : FVec Ideal S3 .f32) (x1 : FVec Ideal S1920x4096 .fp8e4m3) (x2 x3 : FVec Ideal S4096x256 .fp8e4m3) (r : Fin 1920) (q : Fin 256) : EReal :=
  (∑ k : Fin 4096, (x1 (ix2 r k) : EReal) * (x2 (ix2 k q) : EReal)) * ((x0 (ix1 0) : EReal) * (x0 (ix1 1) : EReal))
    * Ideal.logistic ((∑ k : Fin 4096, (x1 (ix2 r k) : EReal) * (x2 (ix2 k q) : EReal)) * ((x0 (ix1 0) : EReal) * (x0 (ix1 1) : EReal)))
    * ((∑ k : Fin 4096, (x1 (ix2 r k) : EReal) * (x3 (ix2 k q) : EReal)) * ((x0 (ix1 0) : EReal) * (x0 (ix1 1) : EReal)))

theorem chunk0 (x0 : FVec Ideal S3 .f32) (x1 : FVec Ideal S1920x4096 .fp8e4m3) (x2 x3 : FVec Ideal S4096x256 .fp8e4m3) (r : Fin 384) (q : Fin 256) :
    k0_pay10 (View.ld (Val := Elt Ideal) (S := S3) (e' := .f32) x0 (Rect.unit ![0] ![1] inb_S3_S1_0) (Shape.Idx.first (by decide))) (View.ld (Val := Elt Ideal) (S := S3) (e' := .f32) x0 (Rect.unit ![1] ![1] inb_S3_S1_1) (Shape.Idx.first (by decide))) (View.ld (Val := Elt Ideal) (S := S1920x4096) (e' := .fp8e4m3) x1 (Rect.unit ![0, 0] ![384, 4096] inb_S1920x4096_S384x4096_0_0)) x2 (View.ld (Val := Elt Ideal) (S := S1920x4096) (e' := .fp8e4m3) x1 (Rect.unit ![0, 0] ![384, 4096] inb_S1920x4096_S384x4096_0_0)) x3 (ix2 r q)
      = hb x0 x1 x2 x3 ⟨0 + r.val, by omega⟩ q := by
  pointwise [k0_pay10, k0_pay5, hb]
theorem chunk384 (x0 : FVec Ideal S3 .f32) (x1 : FVec Ideal S1920x4096 .fp8e4m3) (x2 x3 : FVec Ideal S4096x256 .fp8e4m3) (r : Fin 384) (q : Fin 256) :
    hidV (k0_pay5 (View.ld (Val := Elt Ideal) (S := S3) (e' := .f32) x0 (Rect.unit ![0] ![1] inb_S3_S1_0) (Shape.Idx.first (by decide))) (View.ld (Val := Elt Ideal) (S := S3) (e' := .f32) x0 (Rect.unit ![1] ![1] inb_S3_S1_1) (Shape.Idx.first (by decide)))) (k0_pay8 (View.ld (Val := Elt Ideal) (S := S1920x4096) (e' := .fp8e4m3) x1 (Rect.unit ![384, 0] ![384, 4096] inb_S1920x4096_S384x4096_384_0)) x2) (k0_pay9 (View.ld (Val := Elt Ideal) (S := S1920x4096) (e' := .fp8e4m3) x1 (Rect.unit ![384, 0] ![384, 4096] inb_S1920x4096_S384x4096_384_0)) x3) (ix2 r q)
      = hb x0 x1 x2 x3 ⟨384 + r.val, by omega⟩ q := by
  pointwise [k0_pay5, k0_pay8, k0_pay9, hidV, hb]
theorem chunk768 (x0 : FVec Ideal S3 .f32) (x1 : FVec Ideal S1920x4096 .fp8e4m3) (x2 x3 : FVec Ideal S4096x256 .fp8e4m3) (r : Fin 384) (q : Fin 256) :
    hidV (k0_pay5 (View.ld (Val := Elt Ideal) (S := S3) (e' := .f32) x0 (Rect.unit ![0] ![1] inb_S3_S1_0) (Shape.Idx.first (by decide))) (View.ld (Val := Elt Ideal) (S := S3) (e' := .f32) x0 (Rect.unit ![1] ![1] inb_S3_S1_1) (Shape.Idx.first (by decide)))) (k0_pay13 (View.ld (Val := Elt Ideal) (S := S1920x4096) (e' := .fp8e4m3) x1 (Rect.unit ![768, 0] ![384, 4096] inb_S1920x4096_S384x4096_768_0)) x2) (k0_pay14 (View.ld (Val := Elt Ideal) (S := S1920x4096) (e' := .fp8e4m3) x1 (Rect.unit ![768, 0] ![384, 4096] inb_S1920x4096_S384x4096_768_0)) x3) (ix2 r q)
      = hb x0 x1 x2 x3 ⟨768 + r.val, by omega⟩ q := by
  pointwise [k0_pay5, k0_pay13, k0_pay14, hidV, hb]
theorem chunk1152 (x0 : FVec Ideal S3 .f32) (x1 : FVec Ideal S1920x4096 .fp8e4m3) (x2 x3 : FVec Ideal S4096x256 .fp8e4m3) (r : Fin 384) (q : Fin 256) :
    hidV (k0_pay5 (View.ld (Val := Elt Ideal) (S := S3) (e' := .f32) x0 (Rect.unit ![0] ![1] inb_S3_S1_0) (Shape.Idx.first (by decide))) (View.ld (Val := Elt Ideal) (S := S3) (e' := .f32) x0 (Rect.unit ![1] ![1] inb_S3_S1_1) (Shape.Idx.first (by decide)))) (k0_pay22 (View.ld (Val := Elt Ideal) (S := S1920x4096) (e' := .fp8e4m3) x1 (Rect.unit ![1152, 0] ![384, 4096] inb_S1920x4096_S384x4096_1152_0)) x2) (k0_pay23 (View.ld (Val := Elt Ideal) (S := S1920x4096) (e' := .fp8e4m3) x1 (Rect.unit ![1152, 0] ![384, 4096] inb_S1920x4096_S384x4096_1152_0)) x3) (ix2 r q)
      = hb x0 x1 x2 x3 ⟨1152 + r.val, by omega⟩ q := by
  pointwise [k0_pay5, k0_pay22, k0_pay23, hidV, hb]
theorem chunk1536 (x0 : FVec Ideal S3 .f32) (x1 : FVec Ideal S1920x4096 .fp8e4m3) (x2 x3 : FVec Ideal S4096x256 .fp8e4m3) (r : Fin 384) (q : Fin 256) :
    hidV (k0_pay5 (View.ld (Val := Elt Ideal) (S := S3) (e' := .f32) x0 (Rect.unit ![0] ![1] inb_S3_S1_0) (Shape.Idx.first (by decide))) (View.ld (Val := Elt Ideal) (S := S3) (e' := .f32) x0 (Rect.unit ![1] ![1] inb_S3_S1_1) (Shape.Idx.first (by decide)))) (k0_pay28 (View.ld (Val := Elt Ideal) (S := S1920x4096) (e' := .fp8e4m3) x1 (Rect.unit ![1536, 0] ![384, 4096] inb_S1920x4096_S384x4096_1536_0)) x2) (k0_pay29 (View.ld (Val := Elt Ideal) (S := S1920x4096) (e' := .fp8e4m3) x1 (Rect.unit ![1536, 0] ![384, 4096] inb_S1920x4096_S384x4096_1536_0)) x3) (ix2 r q)
      = hb x0 x1 x2 x3 ⟨1536 + r.val, by omega⟩ q := by
  pointwise [k0_pay5, k0_pay28, k0_pay29, hidV, hb]
/-- What one grid point makes of the running maximum `a`. -/
def step (x0 : FVec Ideal S3 .f32) (x1 : FVec Ideal S1920x4096 .fp8e4m3) (x2 x3 : FVec Ideal S4096x256 .fp8e4m3) (a : FVec Ideal S8x128 .f32) : FVec Ideal S8x128 .f32 :=
  k0_pay2 (k0_pay5 (View.ld (Val := Elt Ideal) (S := S3) (e' := .f32) x0 (Rect.unit ![0] ![1] inb_S3_S1_0) (Shape.Idx.first (by decide))) (View.ld (Val := Elt Ideal) (S := S3) (e' := .f32) x0 (Rect.unit ![1] ![1] inb_S3_S1_1) (Shape.Idx.first (by decide)))) (k0_pay28 (View.ld (Val := Elt Ideal) (S := S1920x4096) (e' := .fp8e4m3) x1 (Rect.unit ![1536, 0] ![384, 4096] inb_S1920x4096_S384x4096_1536_0)) x2) (k0_pay29 (View.ld (Val := Elt Ideal) (S := S1920x4096) (e' := .fp8e4m3) x1 (Rect.unit ![1536, 0] ![384, 4096] inb_S1920x4096_S384x4096_1536_0)) x3)
    (k0_pay31 (k0_pay5 (View.ld (Val := Elt Ideal) (S := S3) (e' := .f32) x0 (Rect.unit ![0] ![1] inb_S3_S1_0) (Shape.Idx.first (by decide))) (View.ld (Val := Elt Ideal) (S := S3) (e' := .f32) x0 (Rect.unit ![1] ![1] inb_S3_S1_1) (Shape.Idx.first (by decide)))) (k0_pay22 (View.ld (Val := Elt Ideal) (S := S1920x4096) (e' := .fp8e4m3) x1 (Rect.unit ![1152, 0] ![384, 4096] inb_S1920x4096_S384x4096_1152_0)) x2) (k0_pay23 (View.ld (Val := Elt Ideal) (S := S1920x4096) (e' := .fp8e4m3) x1 (Rect.unit ![1152, 0] ![384, 4096] inb_S1920x4096_S384x4096_1152_0)) x3)
      (k0_pay25 (k0_pay5 (View.ld (Val := Elt Ideal) (S := S3) (e' := .f32) x0 (Rect.unit ![0] ![1] inb_S3_S1_0) (Shape.Idx.first (by decide))) (View.ld (Val := Elt Ideal) (S := S3) (e' := .f32) x0 (Rect.unit ![1] ![1] inb_S3_S1_1) (Shape.Idx.first (by decide)))) (k0_pay13 (View.ld (Val := Elt Ideal) (S := S1920x4096) (e' := .fp8e4m3) x1 (Rect.unit ![768, 0] ![384, 4096] inb_S1920x4096_S384x4096_768_0)) x2) (k0_pay14 (View.ld (Val := Elt Ideal) (S := S1920x4096) (e' := .fp8e4m3) x1 (Rect.unit ![768, 0] ![384, 4096] inb_S1920x4096_S384x4096_768_0)) x3)
        (k0_pay20 (k0_pay16 (k0_pay11 (k0_pay10 (View.ld (Val := Elt Ideal) (S := S3) (e' := .f32) x0 (Rect.unit ![0] ![1] inb_S3_S1_0) (Shape.Idx.first (by decide))) (View.ld (Val := Elt Ideal) (S := S3) (e' := .f32) x0 (Rect.unit ![1] ![1] inb_S3_S1_1) (Shape.Idx.first (by decide))) (View.ld (Val := Elt Ideal) (S := S1920x4096) (e' := .fp8e4m3) x1 (Rect.unit ![0, 0] ![384, 4096] inb_S1920x4096_S384x4096_0_0)) x2 (View.ld (Val := Elt Ideal) (S := S1920x4096) (e' := .fp8e4m3) x1 (Rect.unit ![0, 0] ![384, 4096] inb_S1920x4096_S384x4096_0_0)) x3) a))
          (k0_pay18 (k0_pay5 (View.ld (Val := Elt Ideal) (S := S3) (e' := .f32) x0 (Rect.unit ![0] ![1] inb_S3_S1_0) (Shape.Idx.first (by decide))) (View.ld (Val := Elt Ideal) (S := S3) (e' := .f32) x0 (Rect.unit ![1] ![1] inb_S3_S1_1) (Shape.Idx.first (by decide)))) (k0_pay8 (View.ld (Val := Elt Ideal) (S := S1920x4096) (e' := .fp8e4m3) x1 (Rect.unit ![384, 0] ![384, 4096] inb_S1920x4096_S384x4096_384_0)) x2) (k0_pay9 (View.ld (Val := Elt Ideal) (S := S1920x4096) (e' := .fp8e4m3) x1 (Rect.unit ![384, 0] ![384, 4096] inb_S1920x4096_S384x4096_384_0)) x3))
          (k0_pay19 (k0_pay5 (View.ld (Val := Elt Ideal) (S := S3) (e' := .f32) x0 (Rect.unit ![0] ![1] inb_S3_S1_0) (Shape.Idx.first (by decide))) (View.ld (Val := Elt Ideal) (S := S3) (e' := .f32) x0 (Rect.unit ![1] ![1] inb_S3_S1_1) (Shape.Idx.first (by decide)))) (k0_pay8 (View.ld (Val := Elt Ideal) (S := S1920x4096) (e' := .fp8e4m3) x1 (Rect.unit ![384, 0] ![384, 4096] inb_S1920x4096_S384x4096_384_0)) x2) (k0_pay9 (View.ld (Val := Elt Ideal) (S := S1920x4096) (e' := .fp8e4m3) x1 (Rect.unit ![384, 0] ![384, 4096] inb_S1920x4096_S384x4096_384_0)) x3)))))

/-- A bound of a chunk's magnitudes, over the rows of the point's block. -/
theorem absLe_chunk (v : FVec Ideal S384x256 .f32) (f : Fin 1920 → Fin 256 → EReal) (o : ℕ) (ho : o ≤ 1536) (h8 : o % 8 = 0)
    (hv : ∀ r q, (v (ix2 r q) : EReal) = f ⟨o + r.val, by omega⟩ q) (j : S8x128.Idx) (b : EReal) :
    AbsLe v j b ↔ ∀ (r : Fin 1920) (q : Fin 256), o ≤ r.val → r.val < o + 384 → r.val % 8 = (j 0).val → q.val % 128 = (j 1).val →
      (FloatOps.absf (F := Ideal) (φ := .f32) (f r q) : EReal) ≤ b := by
  constructor
  · intro h r q h1 h2 h3 h4
    have := h ⟨r.val - o, by omega⟩ q (by dsimp only; omega) h4
    rw [hv] at this
    rwa [show (⟨o + (r.val - o), by omega⟩ : Fin 1920) = r from Fin.ext (by dsimp only; omega)] at this
  · intro h r q h3 h4
    rw [hv]
    exact h _ q (by dsimp only; omega) (by dsimp only; omega) (by dsimp only; omega) h4

/-- One grid point bounds the running maximum and the magnitudes of its block. -/
theorem step_le (x0 : FVec Ideal S3 .f32) (x1 : FVec Ideal S1920x4096 .fp8e4m3) (x2 x3 : FVec Ideal S4096x256 .fp8e4m3) (a : FVec Ideal S8x128 .f32)
    (j : S8x128.Idx) (b : EReal) :
    (step x0 x1 x2 x3 a j : EReal) ≤ b ↔ (a j : EReal) ≤ b ∧ ∀ (r : Fin 1920) (q : Fin 256), r.val % 8 = (j 0).val → q.val % 128 = (j 1).val →
      (FloatOps.absf (F := Ideal) (φ := .f32) (hb x0 x1 x2 x3 r q) : EReal) ≤ b := by
  unfold step
  rw [pay2_eq, pay31_eq, le25, le25, le25, le20, le11,
    absLe_chunk _ _ 0 (by omega) (by omega) (chunk0 x0 x1 x2 x3),
    absLe_chunk _ _ 384 (by omega) (by omega) (chunk384 x0 x1 x2 x3),
    absLe_chunk _ _ 768 (by omega) (by omega) (chunk768 x0 x1 x2 x3),
    absLe_chunk _ _ 1152 (by omega) (by omega) (chunk1152 x0 x1 x2 x3),
    absLe_chunk _ _ 1536 (by omega) (by omega) (chunk1536 x0 x1 x2 x3)]
  constructor
  · rintro ⟨⟨⟨⟨⟨ha, h0⟩, h1⟩, h2⟩, h3⟩, h4⟩
    refine ⟨ha, fun r q hr hq => ?_⟩
    have hl := r.isLt
    rcases Nat.lt_or_ge r.val 384 with h | h
    · exact h0 r q (by omega) (by omega) hr hq
    rcases Nat.lt_or_ge r.val 768 with h | h
    · exact h1 r q (by omega) (by omega) hr hq
    rcases Nat.lt_or_ge r.val 1152 with h | h
    · exact h2 r q (by omega) (by omega) hr hq
    rcases Nat.lt_or_ge r.val 1536 with h | h
    · exact h3 r q (by omega) (by omega) hr hq
    · exact h4 r q (by omega) (by omega) hr hq
  · rintro ⟨ha, h⟩
    exact ⟨⟨⟨⟨⟨ha, fun r q _ _ => h r q⟩, fun r q _ _ => h r q⟩, fun r q _ _ => h r q⟩, fun r q _ _ => h r q⟩, fun r q _ _ => h r q⟩

/-- The running maximum starts at zero. -/
theorem pay7_zero (j : S8x128.Idx) : (k0_pay7 (F := Ideal) j : EReal) = 0 := by
  pointwise [k0_pay7]

theorem outsA (c : Dev nD) (t : Fin cfg0.N) (h0 : t.val % 96 = 0) (h1 : ¬t.val % 96 = 95) :
    (outsAt0 m c t.val t.isLt).2 = step (iblk m c 0 t) (iblk m c 1 t) (iblk m c 2 t) (iblk m c 3 t) k0_pay7 := by
  rw [outsAt0_A m c t h0 h1]
  frame_out
  rfl

theorem outsB (c : Dev nD) (t : Fin cfg0.N) (h0 : ¬ t.val % 96 = 0) (h1 : ¬t.val % 96 = 95) :
    (outsAt0 m c t.val t.isLt).2 = step (iblk m c 0 t) (iblk m c 1 t) (iblk m c 2 t) (iblk m c 3 t) (outsAt0 m c (t.val - 1) (Nat.lt_of_le_of_lt (Nat.sub_le _ _) t.isLt)).2 := by
  rw [outsAt0_B m c t h0 h1]
  frame_out
  rfl

theorem outsC (c : Dev nD) (t : Fin cfg0.N) (h0 : ¬ t.val % 96 = 0) (h1 : t.val % 96 = 95) :
    (outsAt0 m c t.val t.isLt).2 = k0_pay4 (F := Ideal) (step (iblk m c 0 t) (iblk m c 1 t) (iblk m c 2 t) (iblk m c 3 t) (outsAt0 m c (t.val - 1) (Nat.lt_of_le_of_lt (Nat.sub_le _ _) t.isLt)).2) := by
  rw [outsAt0_C m c t h0 h1]
  frame_out
  rfl

/-- What bounds the running maximum after point `n`: zero and the magnitudes of the blocks of the points up to `n`. -/
theorem outs_le (c : Dev nD) (n : ℕ) (hn : n < cfg0.N) (h : n < 95) (j : S8x128.Idx) (b : EReal) :
    ((outsAt0 m c n hn).2 j : EReal) ≤ b ↔ 0 ≤ b ∧ ∀ (s : Fin cfg0.N), s.val ≤ n → ∀ (r : Fin 1920) (q : Fin 256), r.val % 8 = (j 0).val → q.val % 128 = (j 1).val →
      (FloatOps.absf (F := Ideal) (φ := .f32) (hb (iblk m c 0 s) (iblk m c 1 s) (iblk m c 2 s) (iblk m c 3 s) r q) : EReal) ≤ b := by
  induction n with
  | zero =>
    rw [outsA m c ⟨0, hn⟩ (Nat.zero_mod _) (by dsimp only; omega), step_le, pay7_zero]
    refine and_congr_right fun _ => ⟨fun h s hs => ?_, fun h => h ⟨0, hn⟩ (le_refl _)⟩
    obtain rfl : s = ⟨0, hn⟩ := Fin.ext (Nat.le_zero.1 hs)
    exact h
  | succ n ih =>
    rw [outsB m c ⟨n + 1, hn⟩ (by dsimp only; omega) (by dsimp only; omega), step_le]
    refine (and_congr_left' (ih (by omega) (by omega))).trans ?_
    rw [and_assoc]
    refine and_congr_right fun _ => ⟨fun ⟨h1, h2⟩ s hs => ?_, fun h => ⟨fun s hs => h s (by omega), h ⟨n + 1, hn⟩ (le_refl _)⟩⟩
    rcases Nat.lt_or_ge s.val (n + 1) with hl | hl
    · exact h1 s (by omega)
    · obtain rfl : s = ⟨n + 1, hn⟩ := Fin.ext (by dsimp only; omega)
      exact h2

/-- The codes of one grid point at an entry of its block, from the point's input blocks. -/
def codesB (x0 : FVec Ideal S3 .f32) (x1 : FVec Ideal S1920x4096 .fp8e4m3) (x2 x3 : FVec Ideal S4096x256 .fp8e4m3) : FVec Ideal S1920x256 .fp8e4m3 := fun y =>
  (min (Ideal.ofBits .f32 0x43E00000#32) (max (Ideal.ofBits .f32 0xC3E00000#32) (Ideal.div (hb x0 x1 x2 x3 (y 0) (y 1)) (x0 (ix1 2) : EReal))) : EReal)

/-- At every grid point the block of codes is the codes of the point's gated product. -/
theorem codes_eq (c : Dev nD) (t : Fin cfg0.N) :
    (outsAt0 m c t.val t.isLt).1 = codesB (iblk m c 0 t) (iblk m c 1 t) (iblk m c 2 t) (iblk m c 3 t) := by
  funext y
  by_cases hA : t.val % 96 = 0
  on_goal 1 => rw [outsAt0_A m c t hA (by omega)]
  on_goal 2 => by_cases hC : t.val % 96 = 95
  on_goal 2 => rw [outsAt0_C m c t hA hC]
  on_goal 3 => rw [outsAt0_B m c t hA hC]
  all_goals
    frame_out
    canon_tiles x h
    all_goals
      pointwise [k0_pay1, k0_pay3, k0_pay5, k0_pay6, k0_pay8, k0_pay9, k0_pay10, k0_pay12, k0_pay13, k0_pay14, k0_pay15, k0_pay21, k0_pay22, k0_pay23, k0_pay24, k0_pay26, k0_pay27, k0_pay28, k0_pay29, k0_pay30, k0_pay32, codesB, hb]
      have e1 : y 1 = x 1 := Fin.ext h1
      simp only [← h0, e1]
      rfl

/-- The gated product of the whole arrays at an entry: the scaled gate through the sigmoid linear unit, times the scaled up-projection. -/
def hid (C : FVec Ideal S7680x4096 .fp8e4m3) (s : FVec Ideal S1 .f32) (W : FVec Ideal S4096x12288 .fp8e4m3) (w : FVec Ideal S1 .f32)
    (r : Fin 7680) (q : Fin 6144) : EReal :=
  (∑ k : Fin 4096, (C (ix2 r k) : EReal) * (W (ix2 k ⟨q.val, by omega⟩) : EReal)) * ((s (ix1 0) : EReal) * (w (ix1 0) : EReal))
    * Ideal.logistic ((∑ k : Fin 4096, (C (ix2 r k) : EReal) * (W (ix2 k ⟨q.val, by omega⟩) : EReal)) * ((s (ix1 0) : EReal) * (w (ix1 0) : EReal)))
    * ((∑ k : Fin 4096, (C (ix2 r k) : EReal) * (W (ix2 k ⟨6144 + q.val, by omega⟩) : EReal)) * ((s (ix1 0) : EReal) * (w (ix1 0) : EReal)))

/-- The codes: the gated product over its scale, clipped to the range of the format. -/
def codes (C : FVec Ideal S7680x4096 .fp8e4m3) (s : FVec Ideal S1 .f32) (u : FVec Ideal S1 .f32) (W : FVec Ideal S4096x12288 .fp8e4m3) (w : FVec Ideal S1 .f32) :
    FVec Ideal S7680x6144 .fp8e4m3 := fun i =>
  (min (Ideal.ofBits .f32 0x43E00000#32) (max (Ideal.ofBits .f32 0xC3E00000#32) (Ideal.div (hid C s W w (i 0) (i 1)) (u (ix1 0) : EReal))) : EReal)

/-- The largest magnitude of the gated product, at every entry. -/
def amax (C : FVec Ideal S7680x4096 .fp8e4m3) (s : FVec Ideal S1 .f32) (W : FVec Ideal S4096x12288 .fp8e4m3) (w : FVec Ideal S1 .f32) :
    FVec Ideal S8x128 .f32 := fun _ =>
  (⨆ i : Fin 7680 × Fin 6144, (FloatOps.absf (F := Ideal) (φ := .f32) (hid C s W w i.1 i.2) : EReal) : EReal)

/-- The block of scales is the whole array of scales. -/
theorem emb0 (t : Fin cfg0.N) (y : S3.Idx) : (win0_0.blk t).view.emb y = y := by
  blk_ext [idx t]

/-- The scales the kernel reads are the program's: of its codes, of the weights, of the result. -/
theorem scale0 (c : Dev nD) (t : Fin cfg0.N) : V m c main_v0 ((win0_0.blk t).view.emb (ix1 0)) = m ((c : Thread nD τ).loc main_arg1) (ix1 0) := by
  rw [emb0 t (ix1 0)]
  entry_read
  pointwise
  try rfl
theorem scale1 (c : Dev nD) (t : Fin cfg0.N) : V m c main_v0 ((win0_0.blk t).view.emb (ix1 1)) = m ((c : Thread nD τ).loc main_arg4) (ix1 0) := by
  rw [emb0 t (ix1 1)]
  entry_read
  pointwise
  try rfl
theorem scale2 (c : Dev nD) (t : Fin cfg0.N) : V m c main_v0 ((win0_0.blk t).view.emb (ix1 2)) = m ((c : Thread nD τ).loc main_arg2) (ix1 0) := by
  rw [emb0 t (ix1 2)]
  entry_read
  pointwise
  try rfl

/-- A grid point's gated product is the whole arrays' at the point's rows and columns. -/
theorem hb_eq (c : Dev nD) (t : Fin cfg0.N) (r : Fin 1920) (q : Fin 256) (h0 : 1920 * (t.val / 24) + r.val < 7680) (h1 : 256 * (t.val % 24) + q.val < 6144) :
    hb (iblk m c 0 t) (iblk m c 1 t) (iblk m c 2 t) (iblk m c 3 t) r q
      = hid (m ((c : Thread nD τ).loc main_arg0)) (m ((c : Thread nD τ).loc main_arg1)) (m ((c : Thread nD τ).loc main_arg3)) (m ((c : Thread nD τ).loc main_arg4))
        ⟨1920 * (t.val / 24) + r.val, h0⟩ ⟨256 * (t.val % 24) + q.val, h1⟩ := by
  unfold hb hid
  blk_point [iblk, V, idx t]
  all_goals first | exact scale0 m c t | exact scale1 m c t

/-- The array of codes after the last point is the specification's. -/
theorem final4 (c : Dev nD) : (dats m 0 c).arrAt 4 (cfgs 0).N
    = codes (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 4 _ (by decide +kernel) fun t _ y => ?_
  blk_simp
  rw [after0_4, codes_eq]
  have hl := t.isLt
  have e0 : ((win0_4.blk t).view.emb y 0).val = 1920 * (t.val / 24) + (y 0).val := by
    blk_simp [idx t]
    omega
  have e1 : ((win0_4.blk t).view.emb y 1).val = 256 * (t.val % 24) + (y 1).val := by
    blk_simp [idx t]
    omega
  have l0 := ((win0_4.blk t).view.emb y 0).isLt
  have l1 := ((win0_4.blk t).view.emb y 1).isLt
  unfold codesB codes
  rw [hb_eq m c t (y 0) (y 1) (e0 ▸ l0) (e1 ▸ l1), show (iblk m c 0 t) (ix1 2) = m ((c : Thread nD τ).loc main_arg2) (ix1 0) from scale2 m c t,
    show (⟨_, e0 ▸ l0⟩ : Fin 7680) = (win0_4.blk t).view.emb y 0 from Fin.ext e0.symm,
    show (⟨_, e1 ▸ l1⟩ : Fin 6144) = (win0_4.blk t).view.emb y 1 from Fin.ext e1.symm]

/-- The array of the largest magnitude after the last point is the specification's. -/
theorem final5 (c : Dev nD) : (dats m 0 c).arrAt 5 (cfgs 0).N
    = amax (m ((c : Thread nD τ).loc main_arg0)) (m ((c : Thread nD τ).loc main_arg1))
      (m ((c : Thread nD τ).loc main_arg3)) (m ((c : Thread nD τ).loc main_arg4)) := by
  refine (dats m 0 c).arrAt_eq_of_covers 5 _ (by decide +kernel) fun t hf y => ?_
  have ht : t.val = 95 := (by decide +kernel : ∀ t : Fin cfg0.N, (cfg0.win 5).flush t = true → t.val = 95) t hf
  have hN : cfg0.N = 96 := N_0
  blk_simp
  rw [after0_5, outsC m c t (by omega) (by omega)]
  refine eq_of_forall_ge_iff (α := EReal) fun b => ?_
  unfold amax
  rw [iSup_le_iff]
  refine (pay4_le _ _ _).trans ?_
  simp only [step_le, outs_le m c (t.val - 1) _ (by omega)]
  constructor
  · rintro h ⟨r, q⟩
    have hr := r.isLt
    have hq := q.isLt
    have hP : ∀ s : Fin cfg0.N, ∀ (r : Fin 1920) (q : Fin 256),
        (FloatOps.absf (F := Ideal) (φ := .f32) (hb (iblk m c 0 s) (iblk m c 1 s) (iblk m c 2 s) (iblk m c 3 s) r q) : EReal) ≤ b := by
      intro s r q
      obtain ⟨⟨-, h1⟩, h2⟩ := h (ix2 ⟨r.val % 8, by omega⟩ ⟨q.val % 128, by omega⟩)
      have hs := s.isLt
      rcases Nat.lt_or_ge s.val 95 with hl | hl
      · exact h1 s (by omega) r q rfl rfl
      · obtain rfl : s = t := Fin.ext (by omega)
        exact h2 r q rfl rfl
    have := hP ⟨r.val / 1920 * 24 + q.val / 256, by omega⟩ ⟨r.val % 1920, by omega⟩ ⟨q.val % 256, by omega⟩
    rw [hb_eq m c _ _ _ (by dsimp only; omega) (by dsimp only; omega)] at this
    convert this using 4 <;> (dsimp only; omega)
  · intro h j
    have h0 : 0 ≤ b := (MaxAbs.zero_le_absf _).trans (h (⟨0, by omega⟩, ⟨0, by omega⟩))
    have hP : ∀ s : Fin cfg0.N, ∀ (r : Fin 1920) (q : Fin 256),
        (FloatOps.absf (F := Ideal) (φ := .f32) (hb (iblk m c 0 s) (iblk m c 1 s) (iblk m c 2 s) (iblk m c 3 s) r q) : EReal) ≤ b := by
      intro s r q
      have hs := s.isLt
      rw [hb_eq m c s r q (by omega) (by omega)]
      exact h (_, _)
    exact ⟨⟨h0, fun s _ r q _ _ => hP s r q⟩, fun r q _ _ => hP t r q⟩

end Cert.GateUpIdeal.Val

end
-- ==== Proof.GateUpRefValue.lean ====
module

public import proofs.«01_k».proof.Proof.GateUpValue
public import proofs.«01_k».proof.Proof.Gen.GateUpRefIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GateUpRefIdeal.Val

open Cert.GateUpRefIdeal Cert.GateUpRefIdeal.Gen

variable (m : (ℓ : Loc nD τ sig) → Buf (Elt Ideal) ℓ)

/-- Every window of the reference's single point starts at the origin of its array. -/
theorem idx : ∀ t : Fin cfg0.N, win0_0.index t = ![0, 0] ∧ win0_1.index t = ![0] ∧ win0_2.index t = ![0]
    ∧ win0_3.index t = ![0, 0] ∧ win0_4.index t = ![0] ∧ win0_5.index t = ![0, 0] ∧ win0_6.index t = ![0, 0] := by decide +kernel

/-- The reference's gated product is the specification's. -/
theorem hid_eq (c : Dev nD) (r : Fin 7680) (q : Fin 6144) (h1 h2) :
    k0_pay1 (F := Ideal) (iblk m c 0 t0_0) (iblk m c 3 t0_0) (iblk m c 1 t0_0 (Shape.Idx.first h1)) (iblk m c 4 t0_0 (Shape.Idx.first h2)) (ix2 r q)
      = Cert.GateUpIdeal.Val.hid (m ((c : Thread nD τ).loc main_arg0)) (m ((c : Thread nD τ).loc main_arg1))
        (m ((c : Thread nD τ).loc main_arg3)) (m ((c : Thread nD τ).loc main_arg4)) r q := by
  pointwise [k0_pay1, Cert.GateUpIdeal.Val.hid]
  blk_point [iblk, V, idx t0_0]

/-- The reference's codes are the specification's. -/
theorem final5 (c : Dev nD) : (dats m 0 c).arrAt 5 (cfgs 0).N
    = Cert.GateUpIdeal.Val.codes (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_after_last 5 t0_0 (by decide +kernel) _ fun j => ?_
  blk_simp
  rw [after0_5]
  unfold outsAt0
  frame_out
  simp only [read_unread_whole]
  pointwise [k0_pay1, k0_pay2, Cert.GateUpIdeal.Val.codes, Cert.GateUpIdeal.Val.hid]
  blk_point [iblk, V, idx t0_0]

/-- The reference's largest magnitude is the specification's. -/
theorem final6 (c : Dev nD) : (dats m 0 c).arrAt 6 (cfgs 0).N
    = Cert.GateUpIdeal.Val.amax (m ((c : Thread nD τ).loc main_arg0)) (m ((c : Thread nD τ).loc main_arg1))
      (m ((c : Thread nD τ).loc main_arg3)) (m ((c : Thread nD τ).loc main_arg4)) := by
  refine (dats m 0 c).arrAt_eq_of_after_last 6 t0_0 (by decide +kernel) _ fun j => ?_
  blk_simp
  rw [after0_6]
  unfold outsAt0
  frame_out
  simp only [read_unread_whole]
  unfold Cert.GateUpIdeal.Val.amax
  refine eq_of_forall_ge_iff (α := EReal) fun b => ?_
  rw [iSup_le_iff]
  pointwise [k0_pay3]
  simp only [Finset.fold_max_le, MaxAbs.ninf, bot_le, true_and, Finset.mem_univ, forall_const]
  exact forall_congr' fun i => by rw [hid_eq m c i.1 i.2]

end Cert.GateUpRefIdeal.Val

end
-- ==== Proof.GateUpClaim.lean ====
module

public import proofs.«01_k».proof.Defs
public import proofs.«01_k».proof.Proof.GateUpValue
public import proofs.«01_k».proof.Proof.GateUpRefValue

@[expose] public section

set_option maxRecDepth 16384

noncomputable section

open Idealize.ShloMosaic Idealize.ShloMosaic.TcCoe Idealize.SL.Sem

namespace Cert.Proof

/-- The gate and up projections and their reference, run from memories that agree on the arguments, end with the same codes and the
    same largest magnitude. -/
theorem gate_up_algebraic : algebraic_GateUpIdeal_GateUpRefIdeal (hGateUpIdeal := GateUpIdeal.Gen.facts) (hGateUpRefIdeal := GateUpRefIdeal.Gen.facts) :=
  letI := GateUpIdeal.Gen.facts
  letI := GateUpRefIdeal.Gen.facts
  fun m g m' g' _ hm =>
    ⟨fun c => GateUpIdeal.Val.codes (m ((c.tc : Thread GateUpIdeal.nD GateUpIdeal.τ).loc GateUpIdeal.main_arg0)) (m ((c.tc : Thread GateUpIdeal.nD GateUpIdeal.τ).loc GateUpIdeal.main_arg1))
        (m ((c.tc : Thread GateUpIdeal.nD GateUpIdeal.τ).loc GateUpIdeal.main_arg2)) (m ((c.tc : Thread GateUpIdeal.nD GateUpIdeal.τ).loc GateUpIdeal.main_arg3)) (m ((c.tc : Thread GateUpIdeal.nD GateUpIdeal.τ).loc GateUpIdeal.main_arg4)),
      fun c => GateUpIdeal.Val.amax (m ((c.tc : Thread GateUpIdeal.nD GateUpIdeal.τ).loc GateUpIdeal.main_arg0)) (m ((c.tc : Thread GateUpIdeal.nD GateUpIdeal.τ).loc GateUpIdeal.main_arg1))
        (m ((c.tc : Thread GateUpIdeal.nD GateUpIdeal.τ).loc GateUpIdeal.main_arg3)) (m ((c.tc : Thread GateUpIdeal.nD GateUpIdeal.τ).loc GateUpIdeal.main_arg4)),
      (θ_run _ _ _).mono (fun r h c => ⟨(h c).1.trans (GateUpIdeal.Val.final4 m c), (h c).2.1.trans (GateUpIdeal.Val.final5 m c), (h c).2.2⟩)
        (GateUpIdeal.Value.run_blocks m g),
      (θ_run _ _ _).mono (fun r h c => ⟨(h c).1.trans ((GateUpRefIdeal.Val.final5 m' c).trans (by
          obtain ⟨h0, h1, h2, h3, h4⟩ := hm c
          rw [h0, h1, h2, h3, h4])),
        (h c).2.1.trans ((GateUpRefIdeal.Val.final6 m' c).trans (by
          obtain ⟨h0, h1, h2, h3, h4⟩ := hm c
          rw [h0, h1, h3, h4])), (h c).2.2⟩) (GateUpRefIdeal.Value.run_blocks m' g')⟩

end Cert.Proof

end
-- ==== Proof.QkvRuns.lean ====
/- What the runs of the body of the attention heads' projections share: which points take which branch, where a window is left alone, and the buffers the body is called on. -/
module

public import proofs.«01_k».proof.Proof.Gen.QkvIdeal.Launch
public import proofs.«01_k».proof.Proof.Gen.QkvIdeal.Skeleton
public import proofs.«01_k».proof.Proof.Gen.QkvIdeal.Points
public import proofs.«01_k».proof.Proof.Gen.QkvIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch 0. -/
abbrev cond0_0 (i : grid0.Coords) : Prop := k0_cond1 i = 1#1
/-- The condition of the body's branch 1. -/
abbrev cond0_1 (i : grid0.Coords) : Prop := k0_cond2 i = 1#1
/-- The condition of the body's branch 2. -/
abbrev cond0_2 (i : grid0.Coords) : Prop := k0_cond3 i = 1#1
/-- The condition of the body's branch 3. -/
abbrev cond0_3 (i : grid0.Coords) : Prop := k0_cond4 i = 1#1

/-- The first point: the branches it takes. -/
abbrev conds0_A (i : grid0.Coords) : Prop := cond0_0 i ∧ ¬cond0_1 i ∧ ¬cond0_2 i ∧ ¬cond0_3 i
/-- The first point is one of these. -/
theorem isA : ∀ t : Fin cfg0.N, t.val = 0 → conds0_A (grid0.coords t) :=
  (by decide +kernel : ∀ t : Fin grid0.N, t.val = 0 → conds0_A (grid0.coords t))

/-- An odd point: the branches it takes. -/
abbrev conds0_B (i : grid0.Coords) : Prop := ¬cond0_0 i ∧ cond0_1 i ∧ ¬cond0_2 i ∧ ¬cond0_3 i
/-- An odd point is one of these. -/
theorem isB : ∀ t : Fin cfg0.N, t.val % 2 = 1 → conds0_B (grid0.coords t) :=
  (by decide +kernel : ∀ t : Fin grid0.N, t.val % 2 = 1 → conds0_B (grid0.coords t))

/-- An even point between the first and the last: the branches it takes. -/
abbrev conds0_C (i : grid0.Coords) : Prop := ¬cond0_0 i ∧ ¬cond0_1 i ∧ cond0_2 i ∧ ¬cond0_3 i
/-- An even point between the first and the last is one of these. -/
theorem isC : ∀ t : Fin cfg0.N, ¬t.val = 0 ∧ t.val % 2 = 0 ∧ ¬t.val = 20 → conds0_C (grid0.coords t) :=
  (by decide +kernel : ∀ t : Fin grid0.N, ¬t.val = 0 ∧ t.val % 2 = 0 ∧ ¬t.val = 20 → conds0_C (grid0.coords t))

/-- The last point: the branches it takes. -/
abbrev conds0_D (i : grid0.Coords) : Prop := ¬cond0_0 i ∧ ¬cond0_1 i ∧ cond0_2 i ∧ cond0_3 i
/-- The last point is one of these. -/
theorem isD : ∀ t : Fin cfg0.N, t.val = 20 → conds0_D (grid0.coords t) :=
  (by decide +kernel : ∀ t : Fin grid0.N, t.val = 20 → conds0_D (grid0.coords t))

/-- No input window is left alone at any point. -/
theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
theorem live0_5 : ∀ t : Fin cfg0.N, cfg0.idle 5 (grid0.coords t) = false := fun _ => rfl
theorem live0_6 : ∀ t : Fin cfg0.N, cfg0.idle 6 (grid0.coords t) = false := fun _ => rfl
theorem live0_7 : ∀ t : Fin cfg0.N, cfg0.idle 7 (grid0.coords t) = false := fun _ => rfl
theorem live0_8 : ∀ t : Fin cfg0.N, cfg0.idle 8 (grid0.coords t) = false := fun _ => rfl
/-- The windows of the codes of the attention half's input and of the two maxima are written at every point. -/
theorem live0_9 : ∀ t : Fin cfg0.N, cfg0.idle 9 (grid0.coords t) = false :=
  (by decide +kernel : ∀ t : Fin grid0.N, cfg0.idle 9 (grid0.coords t) = false)
theorem live0_14 : ∀ t : Fin cfg0.N, cfg0.idle 14 (grid0.coords t) = false :=
  (by decide +kernel : ∀ t : Fin grid0.N, cfg0.idle 14 (grid0.coords t) = false)
theorem live0_15 : ∀ t : Fin cfg0.N, cfg0.idle 15 (grid0.coords t) = false :=
  (by decide +kernel : ∀ t : Fin grid0.N, cfg0.idle 15 (grid0.coords t) = false)
/-- The windows of the heads' codes are left alone at the first point, not written back there, and written at every later point. -/
theorem idle0_10 : ∀ t : Fin cfg0.N, t.val = 0 → cfg0.idle 10 (grid0.coords t) = true :=
  (by decide +kernel : ∀ t : Fin grid0.N, t.val = 0 → cfg0.idle 10 (grid0.coords t) = true)
theorem noflush0_10 : ∀ t : Fin cfg0.N, t.val = 0 → (cfg0.win 10).flush t = false :=
  (by decide +kernel : ∀ t : Fin grid0.N, t.val = 0 → (cfg0.win 10).flush t = false)
theorem live0_10 : ∀ t : Fin cfg0.N, ¬t.val = 0 → cfg0.idle 10 (grid0.coords t) = false :=
  (by decide +kernel : ∀ t : Fin grid0.N, ¬t.val = 0 → cfg0.idle 10 (grid0.coords t) = false)
theorem idle0_11 : ∀ t : Fin cfg0.N, t.val = 0 → cfg0.idle 11 (grid0.coords t) = true :=
  (by decide +kernel : ∀ t : Fin grid0.N, t.val = 0 → cfg0.idle 11 (grid0.coords t) = true)
theorem noflush0_11 : ∀ t : Fin cfg0.N, t.val = 0 → (cfg0.win 11).flush t = false :=
  (by decide +kernel : ∀ t : Fin grid0.N, t.val = 0 → (cfg0.win 11).flush t = false)
theorem live0_11 : ∀ t : Fin cfg0.N, ¬t.val = 0 → cfg0.idle 11 (grid0.coords t) = false :=
  (by decide +kernel : ∀ t : Fin grid0.N, ¬t.val = 0 → cfg0.idle 11 (grid0.coords t) = false)
theorem idle0_12 : ∀ t : Fin cfg0.N, t.val = 0 → cfg0.idle 12 (grid0.coords t) = true :=
  (by decide +kernel : ∀ t : Fin grid0.N, t.val = 0 → cfg0.idle 12 (grid0.coords t) = true)
theorem noflush0_12 : ∀ t : Fin cfg0.N, t.val = 0 → (cfg0.win 12).flush t = false :=
  (by decide +kernel : ∀ t : Fin grid0.N, t.val = 0 → (cfg0.win 12).flush t = false)
theorem live0_12 : ∀ t : Fin cfg0.N, ¬t.val = 0 → cfg0.idle 12 (grid0.coords t) = false :=
  (by decide +kernel : ∀ t : Fin grid0.N, ¬t.val = 0 → cfg0.idle 12 (grid0.coords t) = false)
theorem idle0_13 : ∀ t : Fin cfg0.N, t.val = 0 → cfg0.idle 13 (grid0.coords t) = true :=
  (by decide +kernel : ∀ t : Fin grid0.N, t.val = 0 → cfg0.idle 13 (grid0.coords t) = true)
theorem noflush0_13 : ∀ t : Fin cfg0.N, t.val = 0 → (cfg0.win 13).flush t = false :=
  (by decide +kernel : ∀ t : Fin grid0.N, t.val = 0 → (cfg0.win 13).flush t = false)
theorem live0_13 : ∀ t : Fin cfg0.N, ¬t.val = 0 → cfg0.idle 13 (grid0.coords t) = false :=
  (by decide +kernel : ∀ t : Fin grid0.N, ¬t.val = 0 → cfg0.idle 13 (grid0.coords t) = false)

/-- Whether the buffer of the running maximum holds nothing stored since its last write-back, by position. -/
def freshTab0_14 : ℕ → Bool
  | 0 => true
  | n + 1 => (0x100000 : ℕ).testBit n
theorem freshTab0_14_step : ∀ t : Fin cfg0.N,
    freshTab0_14 (t.val + 1) = ((cfg0.win 14).flush t || (cfg0.idle 14 (cfg0.grid.coords t) && freshTab0_14 t.val)) := by decide +kernel
/-- After the first point the buffer of the running maximum holds what the point before stored. -/
theorem notFresh0_14 (t : Fin cfg0.N) (h : ¬t.val = 0) : cfg0.fresh 14 t.val = false := by
  rw [Pipeline.Cfg.fresh_tab cfg0 14 freshTab0_14 rfl freshTab0_14_step t.val (Nat.le_of_lt t.isLt)]
  revert h; revert t
  exact (by decide +kernel : ∀ t : Fin grid0.N, ¬t.val = 0 → freshTab0_14 t.val = false)

/-- Whether the buffer of the heads' running maxima holds nothing stored since its last write-back, by position. -/
def freshTab0_15 : ℕ → Bool
  | 0 => true
  | n + 1 => (0x100000 : ℕ).testBit n
theorem freshTab0_15_step : ∀ t : Fin cfg0.N,
    freshTab0_15 (t.val + 1) = ((cfg0.win 15).flush t || (cfg0.idle 15 (cfg0.grid.coords t) && freshTab0_15 t.val)) := by decide +kernel
/-- After the first point the buffer of the heads' running maxima holds what the point before stored. -/
theorem notFresh0_15 (t : Fin cfg0.N) (h : ¬t.val = 0) : cfg0.fresh 15 t.val = false := by
  rw [Pipeline.Cfg.fresh_tab cfg0 15 freshTab0_15 rfl freshTab0_15_step t.val (Nat.le_of_lt t.isLt)]
  revert h; revert t
  exact (by decide +kernel : ∀ t : Fin grid0.N, ¬t.val = 0 → freshTab0_15 t.val = false)

/-- One staging buffer of each output, through which its contents are read. -/
abbrev VO0_9 : View sig .tc .vmem S384x4096 .fp8e4m3 := (Memref.whole cc0_stg9_0 : Memref sig .tc .vmem S384x4096 .fp8e4m3).view
abbrev VO0_10 : View sig .tc .vmem S384x2048 .fp8e4m3 := (Memref.whole cc0_stg10_0 : Memref sig .tc .vmem S384x2048 .fp8e4m3).view
abbrev VO0_11 : View sig .tc .vmem S384x512 .fp8e4m3 := (Memref.whole cc0_stg11_0 : Memref sig .tc .vmem S384x512 .fp8e4m3).view
abbrev VO0_12 : View sig .tc .vmem S384x512 .fp8e4m3 := (Memref.whole cc0_stg12_0 : Memref sig .tc .vmem S384x512 .fp8e4m3).view
abbrev VO0_13 : View sig .tc .vmem S512x384 .fp8e4m3 := (Memref.whole cc0_stg13_0 : Memref sig .tc .vmem S512x384 .fp8e4m3).view
abbrev VO0_14 : View sig .tc .vmem S8x128 .f32 := (Memref.whole cc0_stg14_0 : Memref sig .tc .vmem S8x128 .f32).view
abbrev VO0_15 : View sig .tc .vmem S24x8x128 .f32 := (Memref.whole cc0_stg15_0 : Memref sig .tc .vmem S24x8x128 .f32).view
/-- Each window's current staging buffer, and that it is whole. -/
abbrev ms0_0 (t : Fin cfg0.N) : Memref sig .tc .smem S2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S24 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x3072 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S384x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S384x4096 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S384x2048 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S384x512 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S384x512 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x384 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S24x8x128 .f32 := win0_15.stage (cfg0.slots t 15)
abbrev hs0_15 (t : Fin cfg0.N) : (ms0_15 t).IsWhole := hstage0_15 ((cfg0.slots t 15).cast nbuf0_15)
/-- The scratch buffers, and their views. -/
abbrev scM0_0 : Memref sig .tc .vmem S384x4096 .fp8e4m3 := Memref.whole cc0_scratch0
abbrev scM0_1 : Memref sig .tc .vmem S384x4096 .fp8e4m3 := Memref.whole cc0_scratch1
abbrev VS0_0 : View sig .tc .vmem S384x4096 .fp8e4m3 := scM0_0.view
abbrev VS0_1 : View sig .tc .vmem S384x4096 .fp8e4m3 := scM0_1.view

/-- Between points nothing but the scratch buffers and the generator register is held. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.QkvIdeal.Gen

end
-- ==== Proof.QkvRunA.lean ====
/- The run of the body of the attention heads' projections at the first point (tile 0 normalised into buffer a; no product yet). -/
module

public import proofs.«01_k».proof.Proof.QkvRuns

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4660000 in
/-- The body's run at the first point (tile 0 normalised into buffer a; no product yet): the pieces its stores leave in each output and scratch buffer, with the proof that it runs from the blocks found to exactly those pieces. -/
noncomputable def kernelRun0_A (c : Dev nD) (i : grid0.Coords) (arg1 : Memref sig .tc .smem S2 .f32) (harg1 : arg1.IsWhole) (arg2 : Memref sig .tc .smem S24 .f32) (harg2 : arg2.IsWhole) (arg3 : Memref sig .tc .vmem S384x4096 .bf16) (harg3 : arg3.IsWhole) (arg4 : Memref sig .tc .vmem S1x4096 .f32) (harg4 : arg4.IsWhole) (arg5 : Memref sig .tc .vmem S4096x3072 .fp8e4m3) (harg5 : arg5.IsWhole) (arg6 : Memref sig .tc .vmem S384x128 .f32) (harg6 : arg6.IsWhole) (arg7 : Memref sig .tc .vmem S384x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S384x4096 .fp8e4m3) (harg10 : arg10.IsWhole) (arg11 : Memref sig .tc .vmem S384x2048 .fp8e4m3) (harg11 : arg11.IsWhole) (arg12 : Memref sig .tc .vmem S384x512 .fp8e4m3) (harg12 : arg12.IsWhole) (arg13 : Memref sig .tc .vmem S384x512 .fp8e4m3) (harg13 : arg13.IsWhole) (arg14 : Memref sig .tc .vmem S512x384 .fp8e4m3) (harg14 : arg14.IsWhole) (arg15 : Memref sig .tc .vmem S8x128 .f32) (harg15 : arg15.IsWhole) (arg16 : Memref sig .tc .vmem S24x8x128 .f32) (harg16 : arg16.IsWhole) (arg17 : Memref sig .tc .vmem S384x4096 .fp8e4m3) (harg17 : arg17.IsWhole) (arg18 : Memref sig .tc .vmem S384x4096 .fp8e4m3) (harg18 : arg18.IsWhole) (hc0 : cond0_0 i) (hc1 : ¬cond0_1 i) (hc2 : ¬cond0_2 i) (hc3 : ¬cond0_3 i)
    (x0 : Vec F S2 .f32) (x1 : Vec F S24 .f32) (x2 : Vec F S384x4096 .bf16) (x3 : Vec F S1x4096 .f32) (x4 : Vec F S4096x3072 .fp8e4m3) (x5 : Vec F S384x128 .f32) (x6 : Vec F S384x128 .f32) (x7 : Vec F S1x128 .f32) (x8 : Vec F S1x128 .f32) :
    Σ' (L9 : List (View.Piece (Elt F) S384x4096 .fp8e4m3)), Σ' (L10 : List (View.Piece (Elt F) S384x2048 .fp8e4m3)), Σ' (L11 : List (View.Piece (Elt F) S384x512 .fp8e4m3)), Σ' (L12 : List (View.Piece (Elt F) S384x512 .fp8e4m3)), Σ' (L13 : List (View.Piece (Elt F) S512x384 .fp8e4m3)), Σ' (L14 : List (View.Piece (Elt F) S8x128 .f32)), Σ' (L15 : List (View.Piece (Elt F) S24x8x128 .f32)), Σ' (LS0 : List (View.Piece (Elt F) S384x4096 .fp8e4m3)), { LS1 : List (View.Piece (Elt F) S384x4096 .fp8e4m3) //
      ∀ (xi10 : Vec F S384x2048 .fp8e4m3) (xi11 : Vec F S384x512 .fp8e4m3) (xi12 : Vec F S384x512 .fp8e4m3) (xi13 : Vec F S512x384 .fp8e4m3) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xi12 ∗ owns (c : Thread nD τ) arg14 fullShare xi13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ owns (c : Thread nD τ) arg13 fullShare xi12 ∗ owns (c : Thread nD τ) arg14 fullShare xi13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f LS0) ∗ (∃ d, owns (c : Thread nD τ) arg18 fullShare d)) -∗ K ⟨⟩))
          ⊢ wp frame (wpE (defs₀ (F := F)) Variants.none c none) E (cc0_qkv_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], [], [], [], ?_, ?_, ?_, [], fun xi10 xi11 xi12 xi13 E K => ?run⟩
  case run =>
    simp only [cc0_qkv_proj_eq_skeleton]; unfold cc0_qkv_proj_skel
    simp only [k0_part350_eq_skeleton, k0_part96_eq_skeleton, k0_part95_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%ds0, %fs0, -, HS0⟩, ⟨%ds1, %fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hf12; obtain rfl := harg14.eq_unread hf13
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [HS0]; · iexists _; iexact HS0
    iexists ds1; iexists fs1; isplitr; · ipureintro; exact hfs1
    iexact HS1

end Cert.QkvIdeal.Gen

end
-- ==== Proof.QkvRunB.lean ====
/- The run of the body of the attention heads' projections at an odd point (the products of the tile in buffer a, the next tile normalised into buffer b). -/
module

public import proofs.«01_k».proof.Proof.QkvRunA

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6088000 in
/-- The body's run at an odd point (the products of the tile in buffer a, the next tile normalised into buffer b): the pieces its stores leave in each output and scratch buffer, with the proof that it runs from the blocks found to exactly those pieces. -/
noncomputable def kernelRun0_B (c : Dev nD) (i : grid0.Coords) (arg1 : Memref sig .tc .smem S2 .f32) (harg1 : arg1.IsWhole) (arg2 : Memref sig .tc .smem S24 .f32) (harg2 : arg2.IsWhole) (arg3 : Memref sig .tc .vmem S384x4096 .bf16) (harg3 : arg3.IsWhole) (arg4 : Memref sig .tc .vmem S1x4096 .f32) (harg4 : arg4.IsWhole) (arg5 : Memref sig .tc .vmem S4096x3072 .fp8e4m3) (harg5 : arg5.IsWhole) (arg6 : Memref sig .tc .vmem S384x128 .f32) (harg6 : arg6.IsWhole) (arg7 : Memref sig .tc .vmem S384x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S384x4096 .fp8e4m3) (harg10 : arg10.IsWhole) (arg11 : Memref sig .tc .vmem S384x2048 .fp8e4m3) (harg11 : arg11.IsWhole) (arg12 : Memref sig .tc .vmem S384x512 .fp8e4m3) (harg12 : arg12.IsWhole) (arg13 : Memref sig .tc .vmem S384x512 .fp8e4m3) (harg13 : arg13.IsWhole) (arg14 : Memref sig .tc .vmem S512x384 .fp8e4m3) (harg14 : arg14.IsWhole) (arg15 : Memref sig .tc .vmem S8x128 .f32) (harg15 : arg15.IsWhole) (arg16 : Memref sig .tc .vmem S24x8x128 .f32) (harg16 : arg16.IsWhole) (arg17 : Memref sig .tc .vmem S384x4096 .fp8e4m3) (harg17 : arg17.IsWhole) (arg18 : Memref sig .tc .vmem S384x4096 .fp8e4m3) (harg18 : arg18.IsWhole) (hc0 : ¬cond0_0 i) (hc1 : cond0_1 i) (hc2 : ¬cond0_2 i) (hc3 : ¬cond0_3 i)
    (x0 : Vec F S2 .f32) (x1 : Vec F S24 .f32) (x2 : Vec F S384x4096 .bf16) (x3 : Vec F S1x4096 .f32) (x4 : Vec F S4096x3072 .fp8e4m3) (x5 : Vec F S384x128 .f32) (x6 : Vec F S384x128 .f32) (x7 : Vec F S1x128 .f32) (x8 : Vec F S1x128 .f32) (xo14 : Vec F S8x128 .f32) (xo15 : Vec F S24x8x128 .f32) (xs0 : Vec F S384x4096 .fp8e4m3) :
    Σ' (L9 : List (View.Piece (Elt F) S384x4096 .fp8e4m3)), Σ' (L10 : List (View.Piece (Elt F) S384x2048 .fp8e4m3)), Σ' (L11 : List (View.Piece (Elt F) S384x512 .fp8e4m3)), Σ' (L12 : List (View.Piece (Elt F) S384x512 .fp8e4m3)), Σ' (L13 : List (View.Piece (Elt F) S512x384 .fp8e4m3)), Σ' (L14 : List (View.Piece (Elt F) S8x128 .f32)), Σ' (L15 : List (View.Piece (Elt F) S24x8x128 .f32)), Σ' (LS0 : List (View.Piece (Elt F) S384x4096 .fp8e4m3)), { LS1 : List (View.Piece (Elt F) S384x4096 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xo14 ∗ owns (c : Thread nD τ) arg16 fullShare xo15 ∗ owns (c : Thread nD τ) arg17 fullShare xs0 ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ owns (c : Thread nD τ) arg17 fullShare xs0 ∗ (∃ f, arg18.view.loc (c : Thread nD τ) ↦[arg18.view.set]{fullShare} arg18.view.writes (Elt F) f LS1)) -∗ K ⟨⟩))
          ⊢ wp frame (wpE (defs₀ (F := F)) Variants.none c none) E (cc0_qkv_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, [], ?_, fun E K => ?run⟩
  case run =>
    simp only [cc0_qkv_proj_eq_skeleton]; unfold cc0_qkv_proj_skel
    simp only [k0_part350_eq_skeleton, k0_part218_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part219_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg15.eq_unread hf14; obtain rfl := harg16.eq_unread hf15; obtain rfl := harg17.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]
    · iexists _; isplitr; · ipureintro; exact harg17.read_unread _
      iexact HS0
    iexists _; iexact HS1

end Cert.QkvIdeal.Gen

end
-- ==== Proof.QkvRunC.lean ====
/- The run of the body of the attention heads' projections at an even point between the first and the last (the products of the tile in buffer b, the next tile normalised into buffer a). -/
module

public import proofs.«01_k».proof.Proof.QkvRunB

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6088000 in
/-- The body's run at an even point between the first and the last (the products of the tile in buffer b, the next tile normalised into buffer a): the pieces its stores leave in each output and scratch buffer, with the proof that it runs from the blocks found to exactly those pieces. -/
noncomputable def kernelRun0_C (c : Dev nD) (i : grid0.Coords) (arg1 : Memref sig .tc .smem S2 .f32) (harg1 : arg1.IsWhole) (arg2 : Memref sig .tc .smem S24 .f32) (harg2 : arg2.IsWhole) (arg3 : Memref sig .tc .vmem S384x4096 .bf16) (harg3 : arg3.IsWhole) (arg4 : Memref sig .tc .vmem S1x4096 .f32) (harg4 : arg4.IsWhole) (arg5 : Memref sig .tc .vmem S4096x3072 .fp8e4m3) (harg5 : arg5.IsWhole) (arg6 : Memref sig .tc .vmem S384x128 .f32) (harg6 : arg6.IsWhole) (arg7 : Memref sig .tc .vmem S384x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S384x4096 .fp8e4m3) (harg10 : arg10.IsWhole) (arg11 : Memref sig .tc .vmem S384x2048 .fp8e4m3) (harg11 : arg11.IsWhole) (arg12 : Memref sig .tc .vmem S384x512 .fp8e4m3) (harg12 : arg12.IsWhole) (arg13 : Memref sig .tc .vmem S384x512 .fp8e4m3) (harg13 : arg13.IsWhole) (arg14 : Memref sig .tc .vmem S512x384 .fp8e4m3) (harg14 : arg14.IsWhole) (arg15 : Memref sig .tc .vmem S8x128 .f32) (harg15 : arg15.IsWhole) (arg16 : Memref sig .tc .vmem S24x8x128 .f32) (harg16 : arg16.IsWhole) (arg17 : Memref sig .tc .vmem S384x4096 .fp8e4m3) (harg17 : arg17.IsWhole) (arg18 : Memref sig .tc .vmem S384x4096 .fp8e4m3) (harg18 : arg18.IsWhole) (hc0 : ¬cond0_0 i) (hc1 : ¬cond0_1 i) (hc2 : cond0_2 i) (hc3 : ¬cond0_3 i)
    (x0 : Vec F S2 .f32) (x1 : Vec F S24 .f32) (x2 : Vec F S384x4096 .bf16) (x3 : Vec F S1x4096 .f32) (x4 : Vec F S4096x3072 .fp8e4m3) (x5 : Vec F S384x128 .f32) (x6 : Vec F S384x128 .f32) (x7 : Vec F S1x128 .f32) (x8 : Vec F S1x128 .f32) (xo14 : Vec F S8x128 .f32) (xo15 : Vec F S24x8x128 .f32) (xs1 : Vec F S384x4096 .fp8e4m3) :
    Σ' (L9 : List (View.Piece (Elt F) S384x4096 .fp8e4m3)), Σ' (L10 : List (View.Piece (Elt F) S384x2048 .fp8e4m3)), Σ' (L11 : List (View.Piece (Elt F) S384x512 .fp8e4m3)), Σ' (L12 : List (View.Piece (Elt F) S384x512 .fp8e4m3)), Σ' (L13 : List (View.Piece (Elt F) S512x384 .fp8e4m3)), Σ' (L14 : List (View.Piece (Elt F) S8x128 .f32)), Σ' (L15 : List (View.Piece (Elt F) S24x8x128 .f32)), Σ' (LS0 : List (View.Piece (Elt F) S384x4096 .fp8e4m3)), { LS1 : List (View.Piece (Elt F) S384x4096 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xo14 ∗ owns (c : Thread nD τ) arg16 fullShare xo15 ∗ (∃ d, owns (c : Thread nD τ) arg17 fullShare d) ∗ owns (c : Thread nD τ) arg18 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f LS0) ∗ owns (c : Thread nD τ) arg18 fullShare xs1) -∗ K ⟨⟩))
          ⊢ wp frame (wpE (defs₀ (F := F)) Variants.none c none) E (cc0_qkv_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, [], fun E K => ?run⟩
  case run =>
    simp only [cc0_qkv_proj_eq_skeleton]; unfold cc0_qkv_proj_skel
    simp only [k0_part350_eq_skeleton, k0_part341_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part342_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg15.eq_unread hf14; obtain rfl := harg16.eq_unread hf15; obtain rfl := harg18.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexists _; iexact HS0
    iexists _; isplitr; · ipureintro; exact harg18.read_unread _
    iexact HS1

end Cert.QkvIdeal.Gen

end
-- ==== Proof.QkvRunD.lean ====
/- The run of the body of the attention heads' projections at the last point (the products of the tile in buffer b, the last tile normalised once more into buffer a, the running maxima reduced). -/
module

public import proofs.«01_k».proof.Proof.QkvRunC

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6640000 in
/-- The body's run at the last point (the products of the tile in buffer b, the last tile normalised once more into buffer a, the running maxima reduced): the pieces its stores leave in each output and scratch buffer, with the proof that it runs from the blocks found to exactly those pieces. -/
noncomputable def kernelRun0_D (c : Dev nD) (i : grid0.Coords) (arg1 : Memref sig .tc .smem S2 .f32) (harg1 : arg1.IsWhole) (arg2 : Memref sig .tc .smem S24 .f32) (harg2 : arg2.IsWhole) (arg3 : Memref sig .tc .vmem S384x4096 .bf16) (harg3 : arg3.IsWhole) (arg4 : Memref sig .tc .vmem S1x4096 .f32) (harg4 : arg4.IsWhole) (arg5 : Memref sig .tc .vmem S4096x3072 .fp8e4m3) (harg5 : arg5.IsWhole) (arg6 : Memref sig .tc .vmem S384x128 .f32) (harg6 : arg6.IsWhole) (arg7 : Memref sig .tc .vmem S384x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S384x4096 .fp8e4m3) (harg10 : arg10.IsWhole) (arg11 : Memref sig .tc .vmem S384x2048 .fp8e4m3) (harg11 : arg11.IsWhole) (arg12 : Memref sig .tc .vmem S384x512 .fp8e4m3) (harg12 : arg12.IsWhole) (arg13 : Memref sig .tc .vmem S384x512 .fp8e4m3) (harg13 : arg13.IsWhole) (arg14 : Memref sig .tc .vmem S512x384 .fp8e4m3) (harg14 : arg14.IsWhole) (arg15 : Memref sig .tc .vmem S8x128 .f32) (harg15 : arg15.IsWhole) (arg16 : Memref sig .tc .vmem S24x8x128 .f32) (harg16 : arg16.IsWhole) (arg17 : Memref sig .tc .vmem S384x4096 .fp8e4m3) (harg17 : arg17.IsWhole) (arg18 : Memref sig .tc .vmem S384x4096 .fp8e4m3) (harg18 : arg18.IsWhole) (hc0 : ¬cond0_0 i) (hc1 : ¬cond0_1 i) (hc2 : cond0_2 i) (hc3 : cond0_3 i)
    (x0 : Vec F S2 .f32) (x1 : Vec F S24 .f32) (x2 : Vec F S384x4096 .bf16) (x3 : Vec F S1x4096 .f32) (x4 : Vec F S4096x3072 .fp8e4m3) (x5 : Vec F S384x128 .f32) (x6 : Vec F S384x128 .f32) (x7 : Vec F S1x128 .f32) (x8 : Vec F S1x128 .f32) (xo14 : Vec F S8x128 .f32) (xo15 : Vec F S24x8x128 .f32) (xs1 : Vec F S384x4096 .fp8e4m3) :
    Σ' (L9 : List (View.Piece (Elt F) S384x4096 .fp8e4m3)), Σ' (L10 : List (View.Piece (Elt F) S384x2048 .fp8e4m3)), Σ' (L11 : List (View.Piece (Elt F) S384x512 .fp8e4m3)), Σ' (L12 : List (View.Piece (Elt F) S384x512 .fp8e4m3)), Σ' (L13 : List (View.Piece (Elt F) S512x384 .fp8e4m3)), Σ' (L14 : List (View.Piece (Elt F) S8x128 .f32)), Σ' (L15 : List (View.Piece (Elt F) S24x8x128 .f32)), Σ' (LS0 : List (View.Piece (Elt F) S384x4096 .fp8e4m3)), { LS1 : List (View.Piece (Elt F) S384x4096 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xo14 ∗ owns (c : Thread nD τ) arg16 fullShare xo15 ∗ (∃ d, owns (c : Thread nD τ) arg17 fullShare d) ∗ owns (c : Thread nD τ) arg18 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f LS0) ∗ owns (c : Thread nD τ) arg18 fullShare xs1) -∗ K ⟨⟩))
          ⊢ wp frame (wpE (defs₀ (F := F)) Variants.none c none) E (cc0_qkv_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, [], fun E K => ?run⟩
  case run =>
    simp only [cc0_qkv_proj_eq_skeleton]; unfold cc0_qkv_proj_skel
    simp only [k0_part350_eq_skeleton, k0_part341_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part342_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part343_eq_skeleton, k0_part344_eq_skeleton, k0_part345_eq_skeleton, k0_part346_eq_skeleton, k0_part347_eq_skeleton, k0_part348_eq_skeleton, k0_part349_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg15.eq_unread hf14; obtain rfl := harg16.eq_unread hf15; obtain rfl := harg18.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexists _; iexact HS0
    iexists _; isplitr; · ipureintro; exact harg18.read_unread _
    iexact HS1

end Cert.QkvIdeal.Gen

end
-- ==== Proof.QkvFrame.lean ====
/- The frame of the attention heads' projections: what every buffer holds at every point, point by point from the runs, and from it that the kernel runs to the end and leaves its arguments alone. -/
module

public import proofs.«01_k».proof.Proof.QkvRunD
public import Idealize.ShloMosaic.Lib.Claim

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the blocks of codes (the attention half's input, the heads' q, k, v and v transposed), the running maxima, and the tile of codes in the scratch buffer it wrote. -/
abbrev St (F : FTy → Type) : Type := Vec F S384x4096 .fp8e4m3 × Vec F S384x2048 .fp8e4m3 × Vec F S384x512 .fp8e4m3 × Vec F S384x512 .fp8e4m3 × Vec F S512x384 .fp8e4m3 × Vec F S8x128 .f32 × Vec F S24x8x128 .f32 × Vec F S384x4096 .fp8e4m3

/-- The run at the first point, on the buffers it is called on. -/
def runA (c : Dev nD) (t : Fin cfg0.N) (h : conds0_A (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t)

/-- At the first point the stores cover the buffer of the input's codes. -/
theorem coverA_9 (c : Dev nD) (t : Fin cfg0.N) (h : conds0_A (grid0.coords t)) (y : S384x4096.Idx) :
    ∃ pc ∈ (runA m c t h).1, y ∈ pc.1.set :=
  View.cover_of_tiledL (runA m c t h).1 S32x512.size (by sl_kernel_rfl) y
/-- What the first point leaves in the buffer of the input's codes. -/
def outA_9 (c : Dev nD) (t : Fin cfg0.N) (h : conds0_A (grid0.coords t)) : Vec F S384x4096 .fp8e4m3 :=
  VO0_9.read (Elt F) (VO0_9.writes (Elt F) VO0_9.junk (runA m c t h).1)

/-- At the first point the stores cover the running maximum's buffer. -/
theorem coverA_14 (c : Dev nD) (t : Fin cfg0.N) (h : conds0_A (grid0.coords t)) (y : S8x128.Idx) :
    ∃ pc ∈ (runA m c t h).2.2.2.2.2.1, y ∈ pc.1.set :=
  View.cover_of_tiledL (runA m c t h).2.2.2.2.2.1 S8x128.size (by sl_kernel_rfl) y
/-- What the first point leaves in the running maximum's buffer. -/
def outA_14 (c : Dev nD) (t : Fin cfg0.N) (h : conds0_A (grid0.coords t)) : Vec F S8x128 .f32 :=
  VO0_14.read (Elt F) (VO0_14.writes (Elt F) VO0_14.junk (runA m c t h).2.2.2.2.2.1)

/-- At the first point the stores cover the buffer of the heads' running maxima. -/
theorem coverA_15 (c : Dev nD) (t : Fin cfg0.N) (h : conds0_A (grid0.coords t)) (y : S24x8x128.Idx) :
    ∃ pc ∈ (runA m c t h).2.2.2.2.2.2.1, y ∈ pc.1.set :=
  View.cover_of_tiledL (runA m c t h).2.2.2.2.2.2.1 S24x8x128.size (by sl_kernel_rfl) y
/-- What the first point leaves in the buffer of the heads' running maxima. -/
def outA_15 (c : Dev nD) (t : Fin cfg0.N) (h : conds0_A (grid0.coords t)) : Vec F S24x8x128 .f32 :=
  VO0_15.read (Elt F) (VO0_15.writes (Elt F) VO0_15.junk (runA m c t h).2.2.2.2.2.2.1)

/-- At the first point the stores cover the scratch tile. -/
theorem coverA_b (c : Dev nD) (t : Fin cfg0.N) (h : conds0_A (grid0.coords t)) (y : S384x4096.Idx) :
    ∃ pc ∈ (runA m c t h).2.2.2.2.2.2.2.1, y ∈ pc.1.set :=
  View.cover_of_tiledL (runA m c t h).2.2.2.2.2.2.2.1 S32x512.size (by sl_kernel_rfl) y
/-- What the first point leaves in the scratch tile. -/
def outA_b (c : Dev nD) (t : Fin cfg0.N) (h : conds0_A (grid0.coords t)) : Vec F S384x4096 .fp8e4m3 :=
  VS0_0.read (Elt F) (VS0_0.writes (Elt F) VS0_0.junk (runA m c t h).2.2.2.2.2.2.2.1)

/-- What the first point leaves. -/
def stA (c : Dev nD) (t : Fin cfg0.N) (h : conds0_A (grid0.coords t)) : St F :=
  (outA_9 m c t h, VO0_10.read (Elt F) VO0_10.junk, VO0_11.read (Elt F) VO0_11.junk, VO0_12.read (Elt F) VO0_12.junk, VO0_13.read (Elt F) VO0_13.junk, outA_14 m c t h, outA_15 m c t h, outA_b m c t h)

/-- The run at an odd point, on the buffers it is called on, over what the point before left. -/
def runB (c : Dev nD) (t : Fin cfg0.N) (h : conds0_B (grid0.coords t)) (p : St F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1 p.2.2.2.2.2.2.2

/-- At an odd point the stores cover the buffer of the input's codes. -/
theorem coverB_9 (c : Dev nD) (t : Fin cfg0.N) (h : conds0_B (grid0.coords t)) (p : St F) (y : S384x4096.Idx) :
    ∃ pc ∈ (runB m c t h p).1, y ∈ pc.1.set :=
  View.cover_of_tiledL (runB m c t h p).1 S32x512.size (by sl_kernel_rfl) y
/-- What an odd point leaves in the buffer of the input's codes. -/
def outB_9 (c : Dev nD) (t : Fin cfg0.N) (h : conds0_B (grid0.coords t)) (p : St F) : Vec F S384x4096 .fp8e4m3 :=
  VO0_9.read (Elt F) (VO0_9.writes (Elt F) VO0_9.junk (runB m c t h p).1)

/-- At an odd point the stores cover the buffer of q's codes. -/
theorem coverB_10 (c : Dev nD) (t : Fin cfg0.N) (h : conds0_B (grid0.coords t)) (p : St F) (y : S384x2048.Idx) :
    ∃ pc ∈ (runB m c t h p).2.1, y ∈ pc.1.set :=
  View.cover_of_tiledL (runB m c t h p).2.1 S384x128.size (by sl_kernel_rfl) y
/-- What an odd point leaves in the buffer of q's codes. -/
def outB_10 (c : Dev nD) (t : Fin cfg0.N) (h : conds0_B (grid0.coords t)) (p : St F) : Vec F S384x2048 .fp8e4m3 :=
  VO0_10.read (Elt F) (VO0_10.writes (Elt F) VO0_10.junk (runB m c t h p).2.1)

/-- At an odd point the stores cover the buffer of k's codes. -/
theorem coverB_11 (c : Dev nD) (t : Fin cfg0.N) (h : conds0_B (grid0.coords t)) (p : St F) (y : S384x512.Idx) :
    ∃ pc ∈ (runB m c t h p).2.2.1, y ∈ pc.1.set :=
  View.cover_of_tiledL (runB m c t h p).2.2.1 S384x128.size (by sl_kernel_rfl) y
/-- What an odd point leaves in the buffer of k's codes. -/
def outB_11 (c : Dev nD) (t : Fin cfg0.N) (h : conds0_B (grid0.coords t)) (p : St F) : Vec F S384x512 .fp8e4m3 :=
  VO0_11.read (Elt F) (VO0_11.writes (Elt F) VO0_11.junk (runB m c t h p).2.2.1)

/-- At an odd point the stores cover the buffer of v's codes. -/
theorem coverB_12 (c : Dev nD) (t : Fin cfg0.N) (h : conds0_B (grid0.coords t)) (p : St F) (y : S384x512.Idx) :
    ∃ pc ∈ (runB m c t h p).2.2.2.1, y ∈ pc.1.set :=
  View.cover_of_tiledL (runB m c t h p).2.2.2.1 S384x128.size (by sl_kernel_rfl) y
/-- What an odd point leaves in the buffer of v's codes. -/
def outB_12 (c : Dev nD) (t : Fin cfg0.N) (h : conds0_B (grid0.coords t)) (p : St F) : Vec F S384x512 .fp8e4m3 :=
  VO0_12.read (Elt F) (VO0_12.writes (Elt F) VO0_12.junk (runB m c t h p).2.2.2.1)

/-- At an odd point the stores cover the buffer of v's codes transposed. -/
theorem coverB_13 (c : Dev nD) (t : Fin cfg0.N) (h : conds0_B (grid0.coords t)) (p : St F) (y : S512x384.Idx) :
    ∃ pc ∈ (runB m c t h p).2.2.2.2.1, y ∈ pc.1.set :=
  View.cover_of_tiledL (runB m c t h p).2.2.2.2.1 S128x384.size (by sl_kernel_rfl) y
/-- What an odd point leaves in the buffer of v's codes transposed. -/
def outB_13 (c : Dev nD) (t : Fin cfg0.N) (h : conds0_B (grid0.coords t)) (p : St F) : Vec F S512x384 .fp8e4m3 :=
  VO0_13.read (Elt F) (VO0_13.writes (Elt F) VO0_13.junk (runB m c t h p).2.2.2.2.1)

/-- At an odd point the stores cover the running maximum's buffer. -/
theorem coverB_14 (c : Dev nD) (t : Fin cfg0.N) (h : conds0_B (grid0.coords t)) (p : St F) (y : S8x128.Idx) :
    ∃ pc ∈ (runB m c t h p).2.2.2.2.2.1, y ∈ pc.1.set :=
  View.cover_of_tiledL (runB m c t h p).2.2.2.2.2.1 S8x128.size (by sl_kernel_rfl) y
/-- What an odd point leaves in the running maximum's buffer. -/
def outB_14 (c : Dev nD) (t : Fin cfg0.N) (h : conds0_B (grid0.coords t)) (p : St F) : Vec F S8x128 .f32 :=
  VO0_14.read (Elt F) (VO0_14.writes (Elt F) VO0_14.junk (runB m c t h p).2.2.2.2.2.1)

/-- At an odd point the stores cover the buffer of the heads' running maxima. -/
theorem coverB_15 (c : Dev nD) (t : Fin cfg0.N) (h : conds0_B (grid0.coords t)) (p : St F) (y : S24x8x128.Idx) :
    ∃ pc ∈ (runB m c t h p).2.2.2.2.2.2.1, y ∈ pc.1.set :=
  View.cover_of_tiledL (runB m c t h p).2.2.2.2.2.2.1 S1x8x128.size (by sl_kernel_rfl) y
/-- What an odd point leaves in the buffer of the heads' running maxima. -/
def outB_15 (c : Dev nD) (t : Fin cfg0.N) (h : conds0_B (grid0.coords t)) (p : St F) : Vec F S24x8x128 .f32 :=
  VO0_15.read (Elt F) (VO0_15.writes (Elt F) VO0_15.junk (runB m c t h p).2.2.2.2.2.2.1)

/-- At an odd point the stores cover the scratch tile. -/
theorem coverB_b (c : Dev nD) (t : Fin cfg0.N) (h : conds0_B (grid0.coords t)) (p : St F) (y : S384x4096.Idx) :
    ∃ pc ∈ (runB m c t h p).2.2.2.2.2.2.2.2.1, y ∈ pc.1.set :=
  View.cover_of_tiledL (runB m c t h p).2.2.2.2.2.2.2.2.1 S32x512.size (by sl_kernel_rfl) y
/-- What an odd point leaves in the scratch tile. -/
def outB_b (c : Dev nD) (t : Fin cfg0.N) (h : conds0_B (grid0.coords t)) (p : St F) : Vec F S384x4096 .fp8e4m3 :=
  VS0_1.read (Elt F) (VS0_1.writes (Elt F) VS0_1.junk (runB m c t h p).2.2.2.2.2.2.2.2.1)

/-- What an odd point leaves. -/
def stB (c : Dev nD) (t : Fin cfg0.N) (h : conds0_B (grid0.coords t)) (p : St F) : St F :=
  (outB_9 m c t h p, outB_10 m c t h p, outB_11 m c t h p, outB_12 m c t h p, outB_13 m c t h p, outB_14 m c t h p, outB_15 m c t h p, outB_b m c t h p)

/-- The run at an even point inside, on the buffers it is called on, over what the point before left. -/
def runC (c : Dev nD) (t : Fin cfg0.N) (h : conds0_C (grid0.coords t)) (p : St F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1 p.2.2.2.2.2.2.2

/-- At an even point inside the stores cover the buffer of the input's codes. -/
theorem coverC_9 (c : Dev nD) (t : Fin cfg0.N) (h : conds0_C (grid0.coords t)) (p : St F) (y : S384x4096.Idx) :
    ∃ pc ∈ (runC m c t h p).1, y ∈ pc.1.set :=
  View.cover_of_tiledL (runC m c t h p).1 S32x512.size (by sl_kernel_rfl) y
/-- What an even point inside leaves in the buffer of the input's codes. -/
def outC_9 (c : Dev nD) (t : Fin cfg0.N) (h : conds0_C (grid0.coords t)) (p : St F) : Vec F S384x4096 .fp8e4m3 :=
  VO0_9.read (Elt F) (VO0_9.writes (Elt F) VO0_9.junk (runC m c t h p).1)

/-- At an even point inside the stores cover the buffer of q's codes. -/
theorem coverC_10 (c : Dev nD) (t : Fin cfg0.N) (h : conds0_C (grid0.coords t)) (p : St F) (y : S384x2048.Idx) :
    ∃ pc ∈ (runC m c t h p).2.1, y ∈ pc.1.set :=
  View.cover_of_tiledL (runC m c t h p).2.1 S384x128.size (by sl_kernel_rfl) y
/-- What an even point inside leaves in the buffer of q's codes. -/
def outC_10 (c : Dev nD) (t : Fin cfg0.N) (h : conds0_C (grid0.coords t)) (p : St F) : Vec F S384x2048 .fp8e4m3 :=
  VO0_10.read (Elt F) (VO0_10.writes (Elt F) VO0_10.junk (runC m c t h p).2.1)

/-- At an even point inside the stores cover the buffer of k's codes. -/
theorem coverC_11 (c : Dev nD) (t : Fin cfg0.N) (h : conds0_C (grid0.coords t)) (p : St F) (y : S384x512.Idx) :
    ∃ pc ∈ (runC m c t h p).2.2.1, y ∈ pc.1.set :=
  View.cover_of_tiledL (runC m c t h p).2.2.1 S384x128.size (by sl_kernel_rfl) y
/-- What an even point inside leaves in the buffer of k's codes. -/
def outC_11 (c : Dev nD) (t : Fin cfg0.N) (h : conds0_C (grid0.coords t)) (p : St F) : Vec F S384x512 .fp8e4m3 :=
  VO0_11.read (Elt F) (VO0_11.writes (Elt F) VO0_11.junk (runC m c t h p).2.2.1)

/-- At an even point inside the stores cover the buffer of v's codes. -/
theorem coverC_12 (c : Dev nD) (t : Fin cfg0.N) (h : conds0_C (grid0.coords t)) (p : St F) (y : S384x512.Idx) :
    ∃ pc ∈ (runC m c t h p).2.2.2.1, y ∈ pc.1.set :=
  View.cover_of_tiledL (runC m c t h p).2.2.2.1 S384x128.size (by sl_kernel_rfl) y
/-- What an even point inside leaves in the buffer of v's codes. -/
def outC_12 (c : Dev nD) (t : Fin cfg0.N) (h : conds0_C (grid0.coords t)) (p : St F) : Vec F S384x512 .fp8e4m3 :=
  VO0_12.read (Elt F) (VO0_12.writes (Elt F) VO0_12.junk (runC m c t h p).2.2.2.1)

/-- At an even point inside the stores cover the buffer of v's codes transposed. -/
theorem coverC_13 (c : Dev nD) (t : Fin cfg0.N) (h : conds0_C (grid0.coords t)) (p : St F) (y : S512x384.Idx) :
    ∃ pc ∈ (runC m c t h p).2.2.2.2.1, y ∈ pc.1.set :=
  View.cover_of_tiledL (runC m c t h p).2.2.2.2.1 S128x384.size (by sl_kernel_rfl) y
/-- What an even point inside leaves in the buffer of v's codes transposed. -/
def outC_13 (c : Dev nD) (t : Fin cfg0.N) (h : conds0_C (grid0.coords t)) (p : St F) : Vec F S512x384 .fp8e4m3 :=
  VO0_13.read (Elt F) (VO0_13.writes (Elt F) VO0_13.junk (runC m c t h p).2.2.2.2.1)

/-- At an even point inside the stores cover the running maximum's buffer. -/
theorem coverC_14 (c : Dev nD) (t : Fin cfg0.N) (h : conds0_C (grid0.coords t)) (p : St F) (y : S8x128.Idx) :
    ∃ pc ∈ (runC m c t h p).2.2.2.2.2.1, y ∈ pc.1.set :=
  View.cover_of_tiledL (runC m c t h p).2.2.2.2.2.1 S8x128.size (by sl_kernel_rfl) y
/-- What an even point inside leaves in the running maximum's buffer. -/
def outC_14 (c : Dev nD) (t : Fin cfg0.N) (h : conds0_C (grid0.coords t)) (p : St F) : Vec F S8x128 .f32 :=
  VO0_14.read (Elt F) (VO0_14.writes (Elt F) VO0_14.junk (runC m c t h p).2.2.2.2.2.1)

/-- At an even point inside the stores cover the buffer of the heads' running maxima. -/
theorem coverC_15 (c : Dev nD) (t : Fin cfg0.N) (h : conds0_C (grid0.coords t)) (p : St F) (y : S24x8x128.Idx) :
    ∃ pc ∈ (runC m c t h p).2.2.2.2.2.2.1, y ∈ pc.1.set :=
  View.cover_of_tiledL (runC m c t h p).2.2.2.2.2.2.1 S1x8x128.size (by sl_kernel_rfl) y
/-- What an even point inside leaves in the buffer of the heads' running maxima. -/
def outC_15 (c : Dev nD) (t : Fin cfg0.N) (h : conds0_C (grid0.coords t)) (p : St F) : Vec F S24x8x128 .f32 :=
  VO0_15.read (Elt F) (VO0_15.writes (Elt F) VO0_15.junk (runC m c t h p).2.2.2.2.2.2.1)

/-- At an even point inside the stores cover the scratch tile. -/
theorem coverC_b (c : Dev nD) (t : Fin cfg0.N) (h : conds0_C (grid0.coords t)) (p : St F) (y : S384x4096.Idx) :
    ∃ pc ∈ (runC m c t h p).2.2.2.2.2.2.2.1, y ∈ pc.1.set :=
  View.cover_of_tiledL (runC m c t h p).2.2.2.2.2.2.2.1 S32x512.size (by sl_kernel_rfl) y
/-- What an even point inside leaves in the scratch tile. -/
def outC_b (c : Dev nD) (t : Fin cfg0.N) (h : conds0_C (grid0.coords t)) (p : St F) : Vec F S384x4096 .fp8e4m3 :=
  VS0_0.read (Elt F) (VS0_0.writes (Elt F) VS0_0.junk (runC m c t h p).2.2.2.2.2.2.2.1)

/-- What an even point inside leaves. -/
def stC (c : Dev nD) (t : Fin cfg0.N) (h : conds0_C (grid0.coords t)) (p : St F) : St F :=
  (outC_9 m c t h p, outC_10 m c t h p, outC_11 m c t h p, outC_12 m c t h p, outC_13 m c t h p, outC_14 m c t h p, outC_15 m c t h p, outC_b m c t h p)

/-- The run at the last point, on the buffers it is called on, over what the point before left. -/
def runD (c : Dev nD) (t : Fin cfg0.N) (h : conds0_D (grid0.coords t)) (p : St F) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1 p.2.2.2.2.2.2.2

/-- At the last point the stores cover the buffer of the input's codes. -/
theorem coverD_9 (c : Dev nD) (t : Fin cfg0.N) (h : conds0_D (grid0.coords t)) (p : St F) (y : S384x4096.Idx) :
    ∃ pc ∈ (runD m c t h p).1, y ∈ pc.1.set :=
  View.cover_of_tiledL (runD m c t h p).1 S32x512.size (by sl_kernel_rfl) y
/-- What the last point leaves in the buffer of the input's codes. -/
def outD_9 (c : Dev nD) (t : Fin cfg0.N) (h : conds0_D (grid0.coords t)) (p : St F) : Vec F S384x4096 .fp8e4m3 :=
  VO0_9.read (Elt F) (VO0_9.writes (Elt F) VO0_9.junk (runD m c t h p).1)

/-- At the last point the stores cover the buffer of q's codes. -/
theorem coverD_10 (c : Dev nD) (t : Fin cfg0.N) (h : conds0_D (grid0.coords t)) (p : St F) (y : S384x2048.Idx) :
    ∃ pc ∈ (runD m c t h p).2.1, y ∈ pc.1.set :=
  View.cover_of_tiledL (runD m c t h p).2.1 S384x128.size (by sl_kernel_rfl) y
/-- What the last point leaves in the buffer of q's codes. -/
def outD_10 (c : Dev nD) (t : Fin cfg0.N) (h : conds0_D (grid0.coords t)) (p : St F) : Vec F S384x2048 .fp8e4m3 :=
  VO0_10.read (Elt F) (VO0_10.writes (Elt F) VO0_10.junk (runD m c t h p).2.1)

/-- At the last point the stores cover the buffer of k's codes. -/
theorem coverD_11 (c : Dev nD) (t : Fin cfg0.N) (h : conds0_D (grid0.coords t)) (p : St F) (y : S384x512.Idx) :
    ∃ pc ∈ (runD m c t h p).2.2.1, y ∈ pc.1.set :=
  View.cover_of_tiledL (runD m c t h p).2.2.1 S384x128.size (by sl_kernel_rfl) y
/-- What the last point leaves in the buffer of k's codes. -/
def outD_11 (c : Dev nD) (t : Fin cfg0.N) (h : conds0_D (grid0.coords t)) (p : St F) : Vec F S384x512 .fp8e4m3 :=
  VO0_11.read (Elt F) (VO0_11.writes (Elt F) VO0_11.junk (runD m c t h p).2.2.1)

/-- At the last point the stores cover the buffer of v's codes. -/
theorem coverD_12 (c : Dev nD) (t : Fin cfg0.N) (h : conds0_D (grid0.coords t)) (p : St F) (y : S384x512.Idx) :
    ∃ pc ∈ (runD m c t h p).2.2.2.1, y ∈ pc.1.set :=
  View.cover_of_tiledL (runD m c t h p).2.2.2.1 S384x128.size (by sl_kernel_rfl) y
/-- What the last point leaves in the buffer of v's codes. -/
def outD_12 (c : Dev nD) (t : Fin cfg0.N) (h : conds0_D (grid0.coords t)) (p : St F) : Vec F S384x512 .fp8e4m3 :=
  VO0_12.read (Elt F) (VO0_12.writes (Elt F) VO0_12.junk (runD m c t h p).2.2.2.1)

/-- At the last point the stores cover the buffer of v's codes transposed. -/
theorem coverD_13 (c : Dev nD) (t : Fin cfg0.N) (h : conds0_D (grid0.coords t)) (p : St F) (y : S512x384.Idx) :
    ∃ pc ∈ (runD m c t h p).2.2.2.2.1, y ∈ pc.1.set :=
  View.cover_of_tiledL (runD m c t h p).2.2.2.2.1 S128x384.size (by sl_kernel_rfl) y
/-- What the last point leaves in the buffer of v's codes transposed. -/
def outD_13 (c : Dev nD) (t : Fin cfg0.N) (h : conds0_D (grid0.coords t)) (p : St F) : Vec F S512x384 .fp8e4m3 :=
  VO0_13.read (Elt F) (VO0_13.writes (Elt F) VO0_13.junk (runD m c t h p).2.2.2.2.1)

/-- At the last point the stores cover the running maximum's buffer. -/
theorem coverD_14 (c : Dev nD) (t : Fin cfg0.N) (h : conds0_D (grid0.coords t)) (p : St F) (y : S8x128.Idx) :
    ∃ pc ∈ (runD m c t h p).2.2.2.2.2.1, y ∈ pc.1.set :=
  View.cover_of_tiledL (runD m c t h p).2.2.2.2.2.1 S8x128.size (by sl_kernel_rfl) y
/-- What the last point leaves in the running maximum's buffer. -/
def outD_14 (c : Dev nD) (t : Fin cfg0.N) (h : conds0_D (grid0.coords t)) (p : St F) : Vec F S8x128 .f32 :=
  VO0_14.read (Elt F) (VO0_14.writes (Elt F) VO0_14.junk (runD m c t h p).2.2.2.2.2.1)

/-- At the last point the stores cover the buffer of the heads' running maxima. -/
theorem coverD_15 (c : Dev nD) (t : Fin cfg0.N) (h : conds0_D (grid0.coords t)) (p : St F) (y : S24x8x128.Idx) :
    ∃ pc ∈ (runD m c t h p).2.2.2.2.2.2.1, y ∈ pc.1.set :=
  View.cover_of_tiledL (runD m c t h p).2.2.2.2.2.2.1 S1x8x128.size (by sl_kernel_rfl) y
/-- What the last point leaves in the buffer of the heads' running maxima. -/
def outD_15 (c : Dev nD) (t : Fin cfg0.N) (h : conds0_D (grid0.coords t)) (p : St F) : Vec F S24x8x128 .f32 :=
  VO0_15.read (Elt F) (VO0_15.writes (Elt F) VO0_15.junk (runD m c t h p).2.2.2.2.2.2.1)

/-- At the last point the stores cover the scratch tile. -/
theorem coverD_b (c : Dev nD) (t : Fin cfg0.N) (h : conds0_D (grid0.coords t)) (p : St F) (y : S384x4096.Idx) :
    ∃ pc ∈ (runD m c t h p).2.2.2.2.2.2.2.1, y ∈ pc.1.set :=
  View.cover_of_tiledL (runD m c t h p).2.2.2.2.2.2.2.1 S32x512.size (by sl_kernel_rfl) y
/-- What the last point leaves in the scratch tile. -/
def outD_b (c : Dev nD) (t : Fin cfg0.N) (h : conds0_D (grid0.coords t)) (p : St F) : Vec F S384x4096 .fp8e4m3 :=
  VS0_0.read (Elt F) (VS0_0.writes (Elt F) VS0_0.junk (runD m c t h p).2.2.2.2.2.2.2.1)

/-- What the last point leaves. -/
def stD (c : Dev nD) (t : Fin cfg0.N) (h : conds0_D (grid0.coords t)) (p : St F) : St F :=
  (outD_9 m c t h p, outD_10 m c t h p, outD_11 m c t h p, outD_12 m c t h p, outD_13 m c t h p, outD_14 m c t h p, outD_15 m c t h p, outD_b m c t h p)

/-- What every point leaves, from the first on. -/
def outsAt0 (c : Dev nD) : (n : ℕ) → n < cfg0.N → St F
  | 0, hn => stA m c ⟨0, hn⟩ (isA ⟨0, hn⟩ rfl)
  | n + 1, hn =>
    if hB : (n + 1) % 2 = 1 then stB m c ⟨n + 1, hn⟩ (isB ⟨n + 1, hn⟩ hB) (outsAt0 c n (Nat.lt_of_succ_lt hn))
    else if hD : n + 1 = 20 then stD m c ⟨n + 1, hn⟩ (isD ⟨n + 1, hn⟩ hD) (outsAt0 c n (Nat.lt_of_succ_lt hn))
    else stC m c ⟨n + 1, hn⟩ (isC ⟨n + 1, hn⟩ ⟨Nat.succ_ne_zero n, by show (n + 1) % 2 = 0; omega, hD⟩) (outsAt0 c n (Nat.lt_of_succ_lt hn))

/-- What the point before left. -/
abbrev prev (c : Dev nD) (t : Fin cfg0.N) : St F := outsAt0 m c (t.val - 1) (Nat.lt_of_le_of_lt (Nat.sub_le _ _) t.isLt)

/-- What the first point leaves. -/
theorem outsAt0_A (c : Dev nD) (t : Fin cfg0.N) (h : t.val = 0) : outsAt0 m c t.val t.isLt = stA m c t (isA t h) := by
  obtain ⟨n, hn⟩ := t
  cases n with
  | zero => rfl
  | succ n => exact absurd h (Nat.succ_ne_zero n)
/-- What an odd point leaves. -/
theorem outsAt0_B (c : Dev nD) (t : Fin cfg0.N) (h : t.val % 2 = 1) : outsAt0 m c t.val t.isLt = stB m c t (isB t h) (prev m c t) := by
  obtain ⟨n, hn⟩ := t
  cases n with
  | zero => exact absurd h (by show ¬(0 % 2 = 1); decide)
  | succ n => exact dif_pos h
/-- What an even point inside leaves. -/
theorem outsAt0_C (c : Dev nD) (t : Fin cfg0.N) (h : ¬t.val = 0 ∧ t.val % 2 = 0 ∧ ¬t.val = 20) :
    outsAt0 m c t.val t.isLt = stC m c t (isC t h) (prev m c t) := by
  obtain ⟨n, hn⟩ := t
  cases n with
  | zero => exact absurd rfl h.1
  | succ n => exact (dif_neg (by have := h.2.1; dsimp only at this; omega)).trans (dif_neg h.2.2)
/-- What the last point leaves. -/
theorem outsAt0_D (c : Dev nD) (t : Fin cfg0.N) (h : t.val = 20) : outsAt0 m c t.val t.isLt = stD m c t (isD t h) (prev m c t) := by
  obtain ⟨n, hn⟩ := t
  cases n with
  | zero => exact absurd h (by show ¬(0 = 20); decide)
  | succ n => exact (dif_neg (by dsimp only at h; omega)).trans (dif_pos h)

/-- Between points, after an even point: buffer a holds its tile, buffer b anything. -/
abbrev holdA (c : Dev nD) (p : St F) : sProp 𝕄 :=
  iprop(iprop(owns (c : Thread nD τ) scM0_0 fullShare p.2.2.2.2.2.2.2 ∗ (∃ d, owns (c : Thread nD τ) scM0_1 fullShare d)) ∗ (∃ r, prngReg c r))
/-- After an odd point: buffer b holds its tile, buffer a anything. -/
abbrev holdB (c : Dev nD) (p : St F) : sProp 𝕄 :=
  iprop(iprop((∃ d, owns (c : Thread nD τ) scM0_0 fullShare d) ∗ owns (c : Thread nD τ) scM0_1 fullShare p.2.2.2.2.2.2.2) ∗ (∃ r, prngReg c r))

/-- What is held between points: at the ends anything; else the buffer the next point reads at what the point before left in it. -/
def PhiS (c : Dev nD) : (n : ℕ) → n ≤ cfg0.N → sProp 𝕄
  | 0, _ => Pipeline.ΦA spec0 c
  | n + 1, hn => if n = 20 then Pipeline.ΦA spec0 c else if n % 2 = 0 then holdA c (outsAt0 m c n hn) else holdB c (outsAt0 m c n hn)

/-- Before an odd point buffer a holds what the point before left. -/
theorem PhiS_odd (c : Dev nD) (n : ℕ) (h : n < cfg0.N) (hb : n % 2 = 1) :
    PhiS m c n (Nat.le_of_lt h) = holdA c (outsAt0 m c (n - 1) (Nat.lt_of_le_of_lt (Nat.sub_le _ _) h)) := by
  cases n with
  | zero => exact absurd hb (by decide)
  | succ n => exact (if_neg (by have h : n + 1 < 21 := h; omega)).trans (if_pos (by omega))
/-- Before an even point but the first buffer b holds what the point before left. -/
theorem PhiS_even (c : Dev nD) (n : ℕ) (h : n < cfg0.N) (h0 : ¬n = 0) (hb : n % 2 = 0) :
    PhiS m c n (Nat.le_of_lt h) = holdB c (outsAt0 m c (n - 1) (Nat.lt_of_le_of_lt (Nat.sub_le _ _) h)) := by
  cases n with
  | zero => exact absurd rfl h0
  | succ n => exact (if_neg (by have h : n + 1 < 21 := h; omega)).trans (if_neg (by omega))

/-- After the last point anything is held. -/
theorem PhiS_last (c : Dev nD) (n : ℕ) (hn : n + 1 ≤ cfg0.N) (h : n = 20) : PhiS m c (n + 1) hn = Pipeline.ΦA spec0 c := if_pos h

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
    | ⟨12, _⟩ => (outsAt0 m c t.val t.isLt).2.2.2.1
    | ⟨13, _⟩ => (outsAt0 m c t.val t.isLt).2.2.2.2.1
    | ⟨14, _⟩ => (outsAt0 m c t.val t.isLt).2.2.2.2.2.1
    | ⟨15, _⟩ => (outsAt0 m c t.val t.isLt).2.2.2.2.2.2.1
    | ⟨k + 16, h⟩ => absurd (show k + 16 < 16 from h) (by omega)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]
theorem after0_12 (c : Dev nD) (t : Fin cfg0.N) : (dats m 0 c).after 12 t = (outsAt0 m c t.val t.isLt).2.2.2.1 := by dsimp only [dats]
theorem after0_13 (c : Dev nD) (t : Fin cfg0.N) : (dats m 0 c).after 13 t = (outsAt0 m c t.val t.isLt).2.2.2.2.1 := by dsimp only [dats]
theorem after0_14 (c : Dev nD) (t : Fin cfg0.N) : (dats m 0 c).after 14 t = (outsAt0 m c t.val t.isLt).2.2.2.2.2.1 := by dsimp only [dats]
theorem after0_15 (c : Dev nD) (t : Fin cfg0.N) : (dats m 0 c).after 15 t = (outsAt0 m c t.val t.isLt).2.2.2.2.2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- No point leaves window 14 alone. -/
theorem carry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  rw [live0_14 t] at hi; exact absurd hi Bool.false_ne_true
/-- A later point finds window 14 as the point before left it. -/
theorem before0_14 (c : Dev nD) (t : Fin cfg0.N) (h : ¬t.val = 0) (d) : (dats m 0 c).before 14 t d = (prev m c t).2.2.2.2.2.1 := by
  rw [Dat.before_out_traj _ 14 rfl (fun _ _ => rfl) (carry0_14 m c) t.val t rfl d,
    if_neg (by rw [notFresh0_14 t h]; exact Bool.false_ne_true)]
  dsimp only [dats]

/-- No point leaves window 15 alone. -/
theorem carry0_15 (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t _ hi _
  rw [live0_15 t] at hi; exact absurd hi Bool.false_ne_true
/-- A later point finds window 15 as the point before left it. -/
theorem before0_15 (c : Dev nD) (t : Fin cfg0.N) (h : ¬t.val = 0) (d) : (dats m 0 c).before 15 t d = (prev m c t).2.2.2.2.2.2.1 := by
  rw [Dat.before_out_traj _ 15 rfl (fun _ _ => rfl) (carry0_15 m c) t.val t rfl d,
    if_neg (by rw [notFresh0_15 t h]; exact Bool.false_ne_true)]
  dsimp only [dats]

/-- A window a point does not leave alone ends at what the proof data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- What the body is called with at a point … -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))
/-- … and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 8000000 in
/-- The body at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_castSucc m c t, show PhiS m c t.val (Nat.le_of_lt t.isLt) = Pipeline.ΦA spec0 c from by
      obtain ⟨n, hn⟩ := t; dsimp only at h; subst h; rfl, PhiA0_eq]
  rw [show PhiS m c (t.val + 1) t.isLt = if t.val = 20 then Pipeline.ΦA spec0 c else if t.val % 2 = 0 then holdA c (outsAt0 m c t.val t.isLt) else holdB c (outsAt0 m c t.val t.isLt) from rfl, if_neg (by omega), if_pos (by omega)]
  rw [leaves_live m c 0 t (live0_0 t), leaves_live m c 1 t (live0_1 t), leaves_live m c 2 t (live0_2 t), leaves_live m c 3 t (live0_3 t), leaves_live m c 4 t (live0_4 t), leaves_live m c 5 t (live0_5 t), leaves_live m c 6 t (live0_6 t), leaves_live m c 7 t (live0_7 t), leaves_live m c 8 t (live0_8 t), leaves_live m c 9 t (live0_9 t), leaves_live m c 14 t (live0_14 t), leaves_live m c 15 t (live0_15 t), Dat.leavesExact_idle (dats m 0 c) 10 t (idle0_10 t h) (noflush0_10 t h), Dat.leavesExact_idle (dats m 0 c) 11 t (idle0_11 t h) (noflush0_11 t h), Dat.leavesExact_idle (dats m 0 c) 12 t (idle0_12 t h) (noflush0_12 t h), Dat.leavesExact_idle (dats m 0 c) 13 t (idle0_13 t h) (noflush0_13 t h),
    after0_0, after0_1, after0_2, after0_3, after0_4, after0_5, after0_6, after0_7, after0_8, after0_9, after0_14, after0_15, outsAt0_A m c t h]
  unfold stA outA_9 outA_14 outA_15 outA_b
  dsimp only [holdA, holdB]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runA m c t (isA t h)).2.2.2.2.2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [H13]; · iexact H13
  isplitl [H14]; · iexists _; iexact H14
  isplitl [H15]; · iexists _; iexact H15
  isplitl [HS0]; · iexact HS0
  isplitl [HS1]; · iexact HS1
  iintro ⟨H0, H1, H2, H3, H4, H5, H6, H7, H8, ⟨%e9, H9⟩, H10, H11, H12, H13, ⟨%e14, H14⟩, ⟨%e15, H15⟩, ⟨%es0, HS0⟩, HS1⟩
  isplitl [HS0 HS1 Hg]
  · isplitl [HS0 HS1]
    · isplitl [HS0]
      · unfold owns; iexists _; isplitr
        swap; · iexact HS0
        ipureintro; exact View.read_writes_of_cover _ _ _ _ _ (coverA_b m c t (isA t h))
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (coverA_9 m c t (isA t h))
  isplitl [H10]
  · iexists _; iexact H10
  isplitl [H11]
  · iexists _; iexact H11
  isplitl [H12]
  · iexists _; iexact H12
  isplitl [H13]
  · iexists _; iexact H13
  isplitl [H14]
  · unfold owns; iexists _; isplitr
    swap; · iexact H14
    ipureintro; exact View.read_writes_of_cover _ _ _ _ _ (coverA_14 m c t (isA t h))
  unfold owns; iexists _; isplitr
  swap; · iexact H15
  ipureintro; exact View.read_writes_of_cover _ _ _ _ _ (coverA_15 m c t (isA t h))

set_option maxHeartbeats 8000000 in
/-- The body at an odd point. -/
theorem sound_B (c : Dev nD) (t : Fin cfg0.N) (h : t.val % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_castSucc m c t, PhiS_odd m c t.val t.isLt h]
  rw [show PhiS m c (t.val + 1) t.isLt = if t.val = 20 then Pipeline.ΦA spec0 c else if t.val % 2 = 0 then holdA c (outsAt0 m c t.val t.isLt) else holdB c (outsAt0 m c t.val t.isLt) from rfl, if_neg (by omega), if_neg (by omega)]
  rw [leaves_live m c 0 t (live0_0 t), leaves_live m c 1 t (live0_1 t), leaves_live m c 2 t (live0_2 t), leaves_live m c 3 t (live0_3 t), leaves_live m c 4 t (live0_4 t), leaves_live m c 5 t (live0_5 t), leaves_live m c 6 t (live0_6 t), leaves_live m c 7 t (live0_7 t), leaves_live m c 8 t (live0_8 t), leaves_live m c 9 t (live0_9 t), leaves_live m c 14 t (live0_14 t), leaves_live m c 15 t (live0_15 t), leaves_live m c 10 t (live0_10 t (by omega)), leaves_live m c 11 t (live0_11 t (by omega)), leaves_live m c 12 t (live0_12 t (by omega)), leaves_live m c 13 t (live0_13 t (by omega)),
    after0_0, after0_1, after0_2, after0_3, after0_4, after0_5, after0_6, after0_7, after0_8, after0_9, after0_10, after0_11, after0_12, after0_13, after0_14, after0_15, outsAt0_B m c t h]
  simp only [before0_14 m c t (by omega), before0_15 m c t (by omega)]
  unfold stB outB_9 outB_10 outB_11 outB_12 outB_13 outB_14 outB_15 outB_b
  dsimp only [holdA, holdB]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runB m c t (isB t h) (prev m c t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexact H15
  isplitl [HS0]; · iexact HS0
  isplitl [HS1]; · iexact HS1
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, HS0, ⟨%es1, HS1⟩⟩
  isplitl [HS0 HS1 Hg]
  · isplitl [HS0 HS1]
    · isplitl [HS0]
      · iexists _; iexact HS0
      unfold owns; iexists _; isplitr
      swap; · iexact HS1
      ipureintro; exact View.read_writes_of_cover _ _ _ _ _ (coverB_b m c t (isB t h) (prev m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (coverB_9 m c t (isB t h) (prev m c t))
  isplitl [H10]
  · unfold owns; iexists _; isplitr
    swap; · iexact H10
    ipureintro; exact View.read_writes_of_cover _ _ _ _ _ (coverB_10 m c t (isB t h) (prev m c t))
  isplitl [H11]
  · unfold owns; iexists _; isplitr
    swap; · iexact H11
    ipureintro; exact View.read_writes_of_cover _ _ _ _ _ (coverB_11 m c t (isB t h) (prev m c t))
  isplitl [H12]
  · unfold owns; iexists _; isplitr
    swap; · iexact H12
    ipureintro; exact View.read_writes_of_cover _ _ _ _ _ (coverB_12 m c t (isB t h) (prev m c t))
  isplitl [H13]
  · unfold owns; iexists _; isplitr
    swap; · iexact H13
    ipureintro; exact View.read_writes_of_cover _ _ _ _ _ (coverB_13 m c t (isB t h) (prev m c t))
  isplitl [H14]
  · unfold owns; iexists _; isplitr
    swap; · iexact H14
    ipureintro; exact View.read_writes_of_cover _ _ _ _ _ (coverB_14 m c t (isB t h) (prev m c t))
  unfold owns; iexists _; isplitr
  swap; · iexact H15
  ipureintro; exact View.read_writes_of_cover _ _ _ _ _ (coverB_15 m c t (isB t h) (prev m c t))

set_option maxHeartbeats 8000000 in
/-- The body at an even point inside. -/
theorem sound_C (c : Dev nD) (t : Fin cfg0.N) (h : ¬t.val = 0 ∧ t.val % 2 = 0 ∧ ¬t.val = 20) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_castSucc m c t, PhiS_even m c t.val t.isLt h.1 h.2.1]
  rw [show PhiS m c (t.val + 1) t.isLt = if t.val = 20 then Pipeline.ΦA spec0 c else if t.val % 2 = 0 then holdA c (outsAt0 m c t.val t.isLt) else holdB c (outsAt0 m c t.val t.isLt) from rfl, if_neg h.2.2, if_pos h.2.1]
  rw [leaves_live m c 0 t (live0_0 t), leaves_live m c 1 t (live0_1 t), leaves_live m c 2 t (live0_2 t), leaves_live m c 3 t (live0_3 t), leaves_live m c 4 t (live0_4 t), leaves_live m c 5 t (live0_5 t), leaves_live m c 6 t (live0_6 t), leaves_live m c 7 t (live0_7 t), leaves_live m c 8 t (live0_8 t), leaves_live m c 9 t (live0_9 t), leaves_live m c 14 t (live0_14 t), leaves_live m c 15 t (live0_15 t), leaves_live m c 10 t (live0_10 t h.1), leaves_live m c 11 t (live0_11 t h.1), leaves_live m c 12 t (live0_12 t h.1), leaves_live m c 13 t (live0_13 t h.1),
    after0_0, after0_1, after0_2, after0_3, after0_4, after0_5, after0_6, after0_7, after0_8, after0_9, after0_10, after0_11, after0_12, after0_13, after0_14, after0_15, outsAt0_C m c t h]
  simp only [before0_14 m c t h.1, before0_15 m c t h.1]
  unfold stC outC_9 outC_10 outC_11 outC_12 outC_13 outC_14 outC_15 outC_b
  dsimp only [holdA, holdB]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runC m c t (isC t h) (prev m c t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexact H15
  isplitl [HS0]; · iexact HS0
  isplitl [HS1]; · iexact HS1
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%es0, HS0⟩, HS1⟩
  isplitl [HS0 HS1 Hg]
  · isplitl [HS0 HS1]
    · isplitl [HS0]
      · unfold owns; iexists _; isplitr
        swap; · iexact HS0
        ipureintro; exact View.read_writes_of_cover _ _ _ _ _ (coverC_b m c t (isC t h) (prev m c t))
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (coverC_9 m c t (isC t h) (prev m c t))
  isplitl [H10]
  · unfold owns; iexists _; isplitr
    swap; · iexact H10
    ipureintro; exact View.read_writes_of_cover _ _ _ _ _ (coverC_10 m c t (isC t h) (prev m c t))
  isplitl [H11]
  · unfold owns; iexists _; isplitr
    swap; · iexact H11
    ipureintro; exact View.read_writes_of_cover _ _ _ _ _ (coverC_11 m c t (isC t h) (prev m c t))
  isplitl [H12]
  · unfold owns; iexists _; isplitr
    swap; · iexact H12
    ipureintro; exact View.read_writes_of_cover _ _ _ _ _ (coverC_12 m c t (isC t h) (prev m c t))
  isplitl [H13]
  · unfold owns; iexists _; isplitr
    swap; · iexact H13
    ipureintro; exact View.read_writes_of_cover _ _ _ _ _ (coverC_13 m c t (isC t h) (prev m c t))
  isplitl [H14]
  · unfold owns; iexists _; isplitr
    swap; · iexact H14
    ipureintro; exact View.read_writes_of_cover _ _ _ _ _ (coverC_14 m c t (isC t h) (prev m c t))
  unfold owns; iexists _; isplitr
  swap; · iexact H15
  ipureintro; exact View.read_writes_of_cover _ _ _ _ _ (coverC_15 m c t (isC t h) (prev m c t))

set_option maxHeartbeats 8000000 in
/-- The body at the last point. -/
theorem sound_D (c : Dev nD) (t : Fin cfg0.N) (h : t.val = 20) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_castSucc m c t, PhiS_even m c t.val t.isLt (by omega) (by omega)]
  rw [show PhiS m c (t.val + 1) t.isLt = if t.val = 20 then Pipeline.ΦA spec0 c else if t.val % 2 = 0 then holdA c (outsAt0 m c t.val t.isLt) else holdB c (outsAt0 m c t.val t.isLt) from rfl, if_pos h, PhiA0_eq]
  rw [leaves_live m c 0 t (live0_0 t), leaves_live m c 1 t (live0_1 t), leaves_live m c 2 t (live0_2 t), leaves_live m c 3 t (live0_3 t), leaves_live m c 4 t (live0_4 t), leaves_live m c 5 t (live0_5 t), leaves_live m c 6 t (live0_6 t), leaves_live m c 7 t (live0_7 t), leaves_live m c 8 t (live0_8 t), leaves_live m c 9 t (live0_9 t), leaves_live m c 14 t (live0_14 t), leaves_live m c 15 t (live0_15 t), leaves_live m c 10 t (live0_10 t (by omega)), leaves_live m c 11 t (live0_11 t (by omega)), leaves_live m c 12 t (live0_12 t (by omega)), leaves_live m c 13 t (live0_13 t (by omega)),
    after0_0, after0_1, after0_2, after0_3, after0_4, after0_5, after0_6, after0_7, after0_8, after0_9, after0_10, after0_11, after0_12, after0_13, after0_14, after0_15, outsAt0_D m c t h]
  simp only [before0_14 m c t (by omega), before0_15 m c t (by omega)]
  unfold stD outD_9 outD_10 outD_11 outD_12 outD_13 outD_14 outD_15 outD_b
  dsimp only [holdA, holdB]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runD m c t (isD t h) (prev m c t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexact H15
  isplitl [HS0]; · iexact HS0
  isplitl [HS1]; · iexact HS1
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%es0, HS0⟩, HS1⟩
  isplitl [HS0 HS1 Hg]
  · isplitl [HS0 HS1]
    · isplitl [HS0]
      · iexists _; unfold owns; iexists _; isplitr
        swap; · iexact HS0
        ipureintro; exact rfl
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (coverD_9 m c t (isD t h) (prev m c t))
  isplitl [H10]
  · unfold owns; iexists _; isplitr
    swap; · iexact H10
    ipureintro; exact View.read_writes_of_cover _ _ _ _ _ (coverD_10 m c t (isD t h) (prev m c t))
  isplitl [H11]
  · unfold owns; iexists _; isplitr
    swap; · iexact H11
    ipureintro; exact View.read_writes_of_cover _ _ _ _ _ (coverD_11 m c t (isD t h) (prev m c t))
  isplitl [H12]
  · unfold owns; iexists _; isplitr
    swap; · iexact H12
    ipureintro; exact View.read_writes_of_cover _ _ _ _ _ (coverD_12 m c t (isD t h) (prev m c t))
  isplitl [H13]
  · unfold owns; iexists _; isplitr
    swap; · iexact H13
    ipureintro; exact View.read_writes_of_cover _ _ _ _ _ (coverD_13 m c t (isD t h) (prev m c t))
  isplitl [H14]
  · unfold owns; iexists _; isplitr
    swap; · iexact H14
    ipureintro; exact View.read_writes_of_cover _ _ _ _ _ (coverD_14 m c t (isD t h) (prev m c t))
  unfold owns; iexists _; isplitr
  swap; · iexact H15
  ipureintro; exact View.read_writes_of_cover _ _ _ _ _ (coverD_15 m c t (isD t h) (prev m c t))

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  by_cases h1 : t.val % 2 = 1
  · exact sound_B m c t h1
  by_cases h2 : t.val = 20
  · exact sound_D m c t h2
  · exact sound_C m c t ⟨h0, by omega, h2⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what is held before the first point. -/
theorem hin (c : Dev nD) : Pipeline.ΦA spec0 c ⊢ (dats m 0 c).Φ 0 := by
  rw [show (dats m 0 c).Φ 0 = Pipeline.ΦA spec0 c from rfl]

/-- What is held after the last point is what the region hands back. -/
theorem hout (c : Dev nD) : (dats m 0 c).Φ (Fin.last cfg0.N) ⊢ Pipeline.ΦA spec0 c := by
  rw [show (dats m 0 c).Φ (Fin.last cfg0.N) = Pipeline.ΦA spec0 c from
    PhiS_last m c 20 (Nat.le_refl _) rfl]

/-! ## The run and the frame -/

-- `θ_run_frame_track`'s implicit arguments are found by unifying its conclusion with this one, which takes unfolding plain
-- definitions in a metavariable's type
set_option backward.isDefEq.respectTransparency.types false in
/-- The launch: the run ends with every array at what the proof data computes and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run of the whole program. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.QkvIdeal.Gen

end
-- ==== Proof.QkvBits.lean ====
/- The attention heads' projections at machine numbers: their program is, text for text, the one read over the reals, so the frame proved for every number type is their frame too. -/
module

public import proofs.«01_k».proof.Defs
public import proofs.«01_k».proof.Proof.Gen.Qkv
public import proofs.«01_k».proof.Proof.QkvFrame

@[expose] public section

namespace Cert.Qkv.Gen

open Idealize.ShloMosaic Idealize.ShloMosaic.TcCoe

/-- The kernel's program at machine numbers runs to the end, leaves its arguments as they were and ends quiescent. -/
theorem quiescent : Cert.quiescent_Qkv (hQkv := facts) := by
  have h : Cert.quiescent_Qkv (hQkv := facts) = (∀ (m : (ℓ : Loc Cert.QkvIdeal.nD Cert.QkvIdeal.τ Cert.QkvIdeal.sig) → Buf (Elt Bits) ℓ) (g : Dev Cert.QkvIdeal.nD → PrngReg), Cert.Pre_Qkv m →
    θ_run (@Cert.QkvIdeal.defs Bits _ Cert.QkvIdeal.Gen.facts) (onTc (τ := Cert.QkvIdeal.τ) (Cert.QkvIdeal.main (F := Bits))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ r.2.sem = fun _ => 0)) := by sl_kernel_rfl
  rw [h]
  exact fun m ρ _ => Cert.QkvIdeal.Gen.frame (F := Bits) m ρ

end Cert.Qkv.Gen

end
-- ==== Proof.QkvPieces.lean ====
/- The pieces each point of the attention heads' projections stores, as one formula in the row group, the chunk and the head: every payload of the printed body is one of a few formulas at its literal offsets. -/
module

public import proofs.«01_k».proof.Proof.QkvRuns
public import Idealize.ShloMosaic.Lib.VecWindow

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A load through a whole buffer that holds `x`. -/
abbrev rd {κ : Kind} {sp : Space} {S : Shape} {e : EltTy} (M : Memref sig κ sp S e) (h : M.IsWhole) (x : Vec F S e) (r : Rect S) : r.shape.Idx → Elt F e :=
  View.readAt (Elt F) M.view r.toLoadRect (h.unread x)

/-- The running sum of squares with a chunk's four lane blocks added. -/
def ssn (a : FVec F S32x128 .f32) (x : Vec F S32x512 .bf16) : FVec F S32x128 .f32 :=
  let q : FVec F S32x512 .f32 := mulf (extf .f32 x bitsLt_bf16_f32) (extf .f32 x bitsLt_bf16_f32)
  addf (addf (addf (addf a (extractStridedSlice S32x128 ![0, 0] q slices_S32x512_o0_0_S32x128)) (extractStridedSlice S32x128 ![0, 128] q slices_S32x512_o0_128_S32x128))
    (extractStridedSlice S32x128 ![0, 256] q slices_S32x512_o0_256_S32x128)) (extractStridedSlice S32x128 ![0, 384] q slices_S32x512_o0_384_S32x128)
/-- The sums of squares of a row group over its eight chunks. -/
def ssq (x : Fin 8 → Vec F S32x512 .bf16) : FVec F S32x128 .f32 :=
  ssn (ssn (ssn (ssn (ssn (ssn (ssn (ssn (broadcast S32x128 (Scalar.ofBits .f32 0x00000000#32)) (x 0)) (x 1)) (x 2)) (x 3)) (x 4)) (x 5)) (x 6)) (x 7)
/-- A group's normalised entries. -/
def nrm (q : FVec F S32x128 .f32) (x : Vec F S32x512 .bf16) (g : Vec F S1x512 .f32) : FVec F S32x512 .f32 := k0_pay10 q x g
/-- A group's codes. -/
def cod (s : F .f32) (n : FVec F S32x512 .f32) : FVec F S32x512 .fp8e4m3 :=
  truncf .fp8e4m3 (minimumf (broadcast S32x512 (Scalar.ofBits .f32 0x43E00000#32)) (maximumf (broadcast S32x512 (Scalar.ofBits .f32 0xC3E00000#32))
    (divf n (broadcastTo S32x512 (broadcast S1x512 s) broadcasts_S1x512_S32x512)))) bitsLt_fp8e4m3_f32
/-- A group's magnitudes, reduced to a tile. -/
def amx (n : FVec F S32x512 .f32) : FVec F S8x128 .f32 :=
  let r : FVec F S8x512 .f32 := multiReduction .maximumf [0] S8x512 (shapeCast S4x8x512 (absf n) shapeCasts_S32x512_S4x8x512) 0xFF800000#32 reduces_S4x8x512_S8x512 (.inl rfl) rfl
  maximumf (maximumf (maximumf (extractStridedSlice S8x128 ![0, 0] r slices_S8x512_o0_0_S8x128) (extractStridedSlice S8x128 ![0, 128] r slices_S8x512_o0_128_S8x128))
    (extractStridedSlice S8x128 ![0, 256] r slices_S8x512_o0_256_S8x128)) (extractStridedSlice S8x128 ![0, 384] r slices_S8x512_o0_384_S8x128)
/-- Codes kept for the next point. -/
def keep (v : FVec F S32x512 .fp8e4m3) : FVec F S32x512 .fp8e4m3 := shapeCast S32x512 v shapeCasts_S32x512_S32x512
/-- The running maximum with a row group's taken in. -/
def up (a : FVec F S8x128 .f32) (v : Vec F S8x128 .f32) : FVec F S8x128 .f32 := maximumf (shapeCast S8x128 v shapeCasts_S8x128_S8x128) a

/-- A head's scaled products: lane block `k` of the chunk's products. -/
def hlin (k : Fin 4) (s : F .f32) (a : FVec F S384x512 .f32) : FVec F S384x128 .f32 :=
  match k with
  | 0 => mulf (extractStridedSlice S384x128 ![0, 0] a slices_S384x512_o0_0_S384x128) (broadcast S384x128 s)
  | 1 => mulf (extractStridedSlice S384x128 ![0, 128] a slices_S384x512_o0_128_S384x128) (broadcast S384x128 s)
  | 2 => mulf (extractStridedSlice S384x128 ![0, 256] a slices_S384x512_o0_256_S384x128) (broadcast S384x128 s)
  | 3 => mulf (extractStridedSlice S384x128 ![0, 384] a slices_S384x512_o0_384_S384x128) (broadcast S384x128 s)
/-- A head's entries normalised by the root of their mean square, times the gain. -/
def hnrm (v : FVec F S384x128 .f32) (g : Vec F S1x128 .f32) : FVec F S384x128 .f32 :=
  mulf (mulf v (broadcastTo S384x128 (rsqrt (addf (divf (shapeCast S384x1 (multiReduction .add [1] S384 (mulf v v) 0x00000000#32 reduces_S384x128_S384 (.inl rfl) rfl) shapeCasts_S384_S384x1)
    (broadcast S384x1 (Scalar.ofBits .f32 0x43000000#32))) (broadcast S384x1 (Scalar.ofBits .f32 0x358637BD#32)))) broadcasts_S384x1_S384x128))
    (broadcastTo S384x128 (shapeCast S1x128 g shapeCasts_S1x128_S1x128) broadcasts_S1x128_S384x128)
/-- The rotary embedding of a head. -/
def hrot (n : FVec F S384x128 .f32) (a b : Vec F S384x128 .f32) : FVec F S384x128 .f32 :=
  addf (mulf n (shapeCast S384x128 a shapeCasts_S384x128_S384x128)) (mulf (dynamicRotate 1 64#32 none n rotates_S384x128_d1) (shapeCast S384x128 b shapeCasts_S384x128_S384x128))
/-- A head's clipped quotients. -/
def hclip (s : F .f32) (v : FVec F S384x128 .f32) : FVec F S384x128 .f32 :=
  minimumf (broadcast S384x128 (Scalar.ofBits .f32 0x43E00000#32)) (maximumf (broadcast S384x128 (Scalar.ofBits .f32 0xC3E00000#32))
    (divf v (broadcastTo S384x128 (broadcast S1x128 s) broadcasts_S1x128_S384x128)))
/-- A head's codes. -/
def hcod (s : F .f32) (v : FVec F S384x128 .f32) : FVec F S384x128 .fp8e4m3 := truncf .fp8e4m3 (hclip s v) bitsLt_fp8e4m3_f32
/-- A head's codes, transposed. -/
def hcodT (s : F .f32) (v : FVec F S384x128 .f32) : FVec F S128x384 .fp8e4m3 :=
  truncf .fp8e4m3 (transpose S128x384 [1, 0] (hclip s v) transposes_S384x128_p1_0_S128x384) bitsLt_fp8e4m3_f32
/-- A head's running maximum with a tile's magnitudes taken in. -/
def hup (v : FVec F S384x128 .f32) (x : Vec F S1x8x128 .f32) : FVec F S1x8x128 .f32 :=
  shapeCast S1x8x128 (maximumf (shapeCast S8x128 x shapeCasts_S1x8x128_S8x128) (multiReduction .maximumf [0] S8x128 (shapeCast S48x8x128 (absf v) shapeCasts_S384x128_S48x8x128) 0xFF800000#32 reduces_S48x8x128_S8x128 (.inl rfl) rfl)) shapeCasts_S8x128_S1x8x128
/-- The running maximum spread over its tile. -/
def spread (v : Vec F S8x128 .f32) : FVec F S8x128 .f32 := k0_pay1730 v

/-- The rectangle of row group `i`, chunk `j` of a tile. -/
abbrev rn (i : Fin 12) (j : Fin 8) : Rect S384x4096 := Rect.unit ![32 * i.val, 512 * j.val] ![32, 512] (Fin.forall_fin_two.mpr ⟨by show 32 * i.val + 32 ≤ 384; omega, by show 512 * j.val + 512 ≤ 4096; omega⟩)
abbrev rg (j : Fin 8) : Rect S1x4096 := Rect.unit ![0, 512 * j.val] ![1, 512] (Fin.forall_fin_two.mpr ⟨by show 0 + 1 ≤ 1; omega, by show 512 * j.val + 512 ≤ 4096; omega⟩)
abbrev rw' (j : Fin 6) : Rect S4096x3072 := Rect.unit ![0, 512 * j.val] ![4096, 512] (Fin.forall_fin_two.mpr ⟨by show 0 + 4096 ≤ 4096; omega, by show 512 * j.val + 512 ≤ 3072; omega⟩)
abbrev rs (k : Fin 2) : Rect S2 := Rect.unit ![k.val] ![1] (by intro a; fin_cases a; show k.val + 1 ≤ 2; omega)
abbrev rhs (k : Fin 24) : Rect S24 := Rect.unit ![k.val] ![1] (by intro a; fin_cases a; show k.val + 1 ≤ 24; omega)
abbrev ra : Rect S8x128 := Rect.unit ![0, 0] ![8, 128] inb_S8x128_S8x128_0_0
abbrev rcur : Rect S384x4096 := Rect.unit ![0, 0] ![384, 4096] inb_S384x4096_S384x4096_0_0
abbrev rcs : Rect S384x128 := Rect.unit ![0, 0] ![384, 128] inb_S384x128_S384x128_0_0
abbrev rgg : Rect S1x128 := Rect.unit ![0, 0] ![1, 128] inb_S1x128_S1x128_0_0
/-- The rectangle of query head `h`. -/
abbrev rqh (h : Fin 16) : Rect S384x2048 := Rect.unit ![0, 128 * h.val] ![384, 128] (Fin.forall_fin_two.mpr ⟨by show 0 + 384 ≤ 384; omega, by show 128 * h.val + 128 ≤ 2048; omega⟩)
/-- The rectangle of key or value head `h`. -/
abbrev rkh (h : Fin 4) : Rect S384x512 := Rect.unit ![0, 128 * h.val] ![384, 128] (Fin.forall_fin_two.mpr ⟨by show 0 + 384 ≤ 384; omega, by show 128 * h.val + 128 ≤ 512; omega⟩)
abbrev rvt (h : Fin 4) : Rect S512x384 := Rect.unit ![128 * h.val, 0] ![128, 384] (Fin.forall_fin_two.mpr ⟨by show 128 * h.val + 128 ≤ 512; omega, by show 0 + 384 ≤ 384; omega⟩)
/-- The rectangle of head `h`'s running maximum. -/
abbrev rm (h : Fin 24) : Rect S24x8x128 := Rect.unit ![h.val, 0, 0] ![1, 8, 128] (by intro a; fin_cases a; (show h.val + 1 ≤ 24; omega); (show 0 + 8 ≤ 8; omega); (show 0 + 128 ≤ 128; omega))
abbrev rmf : Rect S24x8x128 := Rect.unit ![0, 0, 0] ![24, 8, 128] inb_S24x8x128_S24x8x128_0_0_0

/-- A scalar argument, read at a point. -/
def scal (c : Dev nD) (t : Fin cfg0.N) (k : Fin 2) : F .f32 := rd (ms0_0 t) (hs0_0 t) (iblk m c 0 t) (rs k) (Shape.Idx.first (by show 0 < (Shape.mk 1 ![1]).numel; decide))
/-- A head's scale, read at a point. -/
def hscal (c : Dev nD) (t : Fin cfg0.N) (k : Fin 24) : F .f32 := rd (ms0_1 t) (hs0_1 t) (iblk m c 1 t) (rhs k) (Shape.Idx.first (by show 0 < (Shape.mk 1 ![1]).numel; decide))

/-- The normalised entries of group `i`, chunk `j` of a point's tile. -/
def nch (c : Dev nD) (t : Fin cfg0.N) (i : Fin 12) (j : Fin 8) : FVec F S32x512 .f32 :=
  nrm (ssq fun j => rd (ms0_2 t) (hs0_2 t) (iblk m c 2 t) (rn i j)) (rd (ms0_2 t) (hs0_2 t) (iblk m c 2 t) (rn i j)) (rd (ms0_3 t) (hs0_3 t) (iblk m c 3 t) (rg j))

/-- Row group `n`. -/
abbrev gi (n : ℕ) : Fin 12 := ⟨n % 12, Nat.mod_lt _ (by decide)⟩
/-- Chunk `n`. -/
abbrev ci (n : ℕ) : Fin 8 := ⟨n % 8, Nat.mod_lt _ (by decide)⟩
/-- Lane block `n` of a chunk. -/
abbrev li (n : ℕ) : Fin 4 := ⟨n % 4, Nat.mod_lt _ (by decide)⟩
/-- Chunk `n` of the weights. -/
abbrev wi (n : ℕ) : Fin 6 := ⟨n % 6, Nat.mod_lt _ (by decide)⟩
/-- Head `n`. -/
abbrev hi (n : ℕ) : Fin 24 := ⟨n % 24, Nat.mod_lt _ (by decide)⟩

/-- The scaled products of head `n` with the tile a buffer holds. -/
def lin (c : Dev nD) (t : Fin cfg0.N) (M : Memref sig .tc .vmem S384x4096 .fp8e4m3) (hM : M.IsWhole) (x : Vec F S384x4096 .fp8e4m3) (n : ℕ) : FVec F S384x128 .f32 :=
  hlin (li n) (Scalar.mulf (scal m c t 0) (scal m c t 1)) (matmul dot_S384x4096_S4096x512_S384x512_1_0_0_1_n_n none (rd M hM x rcur) (rd (ms0_4 t) (hs0_4 t) (iblk m c 4 t) (rw' (wi (n / 4)))) (constant S384x512 .f32 0x00000000#32))
/-- Query head `n`. -/
def qval (c : Dev nD) (t : Fin cfg0.N) (M : Memref sig .tc .vmem S384x4096 .fp8e4m3) (hM : M.IsWhole) (x : Vec F S384x4096 .fp8e4m3) (n : ℕ) : FVec F S384x128 .f32 :=
  hrot (hnrm (lin m c t M hM x n) (rd (ms0_7 t) (hs0_7 t) (iblk m c 7 t) rgg)) (rd (ms0_5 t) (hs0_5 t) (iblk m c 5 t) rcs) (rd (ms0_6 t) (hs0_6 t) (iblk m c 6 t) rcs)
/-- Key head `n`. -/
def kval (c : Dev nD) (t : Fin cfg0.N) (M : Memref sig .tc .vmem S384x4096 .fp8e4m3) (hM : M.IsWhole) (x : Vec F S384x4096 .fp8e4m3) (n : ℕ) : FVec F S384x128 .f32 :=
  hrot (hnrm (lin m c t M hM x n) (rd (ms0_8 t) (hs0_8 t) (iblk m c 8 t) rgg)) (rd (ms0_5 t) (hs0_5 t) (iblk m c 5 t) rcs) (rd (ms0_6 t) (hs0_6 t) (iblk m c 6 t) rcs)
/-- Head `n`: sixteen query heads, four key heads, four value heads. -/
def hval (c : Dev nD) (t : Fin cfg0.N) (M : Memref sig .tc .vmem S384x4096 .fp8e4m3) (hM : M.IsWhole) (x : Vec F S384x4096 .fp8e4m3) (n : ℕ) : FVec F S384x128 .f32 :=
  if n < 16 then qval m c t M hM x n else if n < 20 then kval m c t M hM x n else lin m c t M hM x n

/-- The largest magnitudes of row group `i`. -/
def ach (f : Fin 12 → Fin 8 → FVec F S32x512 .f32) (i : Fin 12) : FVec F S8x128 .f32 :=
  maximumf (maximumf (maximumf (maximumf (maximumf (maximumf (maximumf (maximumf k0_pay3 (amx (f i 0))) (amx (f i 1))) (amx (f i 2))) (amx (f i 3))) (amx (f i 4))) (amx (f i 5))) (amx (f i 6))) (amx (f i 7))

/-- The stores into the running maximum's buffer up to row group `n`, after the stores `L`: each takes what the buffer holds, read back, and the group's largest magnitudes. -/
def amL (M : Memref sig .tc .vmem S8x128 .f32) (L : List (View.Piece (Elt F) S8x128 .f32)) (v : Vec F S8x128 .f32) (f : Fin 12 → Fin 8 → FVec F S32x512 .f32) : ℕ → List (View.Piece (Elt F) S8x128 .f32)
  | 0 => ⟨ra, up (ach f 0) v⟩ :: L
  | n + 1 => ⟨ra, up (ach f (gi (n + 1))) (M.view.readCov (amL M L v f n) ra.toLoadRect)⟩ :: amL M L v f n
/-- The running maximum after row group `n`. -/
def amv (v : Vec F S8x128 .f32) (f : Fin 12 → Fin 8 → FVec F S32x512 .f32) : ℕ → Vec F S8x128 .f32
  | 0 => up (ach f 0) v
  | n + 1 => up (ach f (gi (n + 1))) (amv v f n)
/-- The newest store is read back. -/
theorem amL_read (M : Memref sig .tc .vmem S8x128 .f32) (L : List (View.Piece (Elt F) S8x128 .f32)) (v : Vec F S8x128 .f32) (f : Fin 12 → Fin 8 → FVec F S32x512 .f32) (n : ℕ) :
    M.view.readCov (amL M L v f n) ra.toLoadRect = amv v f n := by
  induction n with
  | zero => exact View.readCov_full _ _ _ _ _
  | succ n ih => unfold amL amv; rw [ih]; exact View.readCov_full _ _ _ _ _

/-- The stores of a tile's codes. -/
abbrev xL (c : Dev nD) (t : Fin cfg0.N) : List (View.Piece (Elt F) S384x4096 .fp8e4m3) :=
  List.ofFn fun x : Fin 96 => ⟨rn (gi (x.rev.val / 8)) (ci x.rev.val), cod (scal m c t 0) (nch m c t (gi (x.rev.val / 8)) (ci x.rev.val))⟩
/-- The same codes, kept for the next point. -/
abbrev xK (c : Dev nD) (t : Fin cfg0.N) : List (View.Piece (Elt F) S384x4096 .fp8e4m3) :=
  List.ofFn fun x : Fin 96 => ⟨rn (gi (x.rev.val / 8)) (ci x.rev.val), keep (cod (scal m c t 0) (nch m c t (gi (x.rev.val / 8)) (ci x.rev.val)))⟩
/-- A head's running maximum spread over its tile. -/
def hspread (v : Vec F S1x8x128 .f32) : FVec F S1x8x128 .f32 := k0_pay1731 v
/-- The last point's stores of the heads' spread maxima up to head `n`, after the stores `L`. -/
def spL (M : Memref sig .tc .vmem S24x8x128 .f32) (L : List (View.Piece (Elt F) S24x8x128 .f32)) : ℕ → List (View.Piece (Elt F) S24x8x128 .f32)
  | 0 => ⟨rm 0, hspread (M.view.readCov L (rm 0).toLoadRect)⟩ :: L
  | n + 1 => ⟨rm (hi (n + 1)), hspread (M.view.readCov (spL M L n) (rm (hi (n + 1))).toLoadRect)⟩ :: spL M L n

end Cert.QkvIdeal.Gen

end
-- ==== Proof.RootMean.lean ====
/- Two spellings of the normalisation by the root of the mean square, over the extended reals: dividing by the root of the quotient, and multiplying by the reciprocal root of the product. -/
module

public import Idealize.ShloMosaic.PureOps
public import Idealize.ShloMosaic.Lib.Pointwise

@[expose] public section

noncomputable section

open Idealize.ShloMosaic

namespace Cert.RootMean

/-- The word of 4096. -/
theorem c4096 : Ideal.ofBits .f32 0x45800000#32 = ((4096 : ℝ) : EReal) := by
  simp [Ideal.ofBits, Ideal.ieee]
  rw [← EReal.coe_mul]
  norm_num
/-- The word of 1/4096. -/
theorem r4096 : Ideal.ofBits .f32 0x39800000#32 = ((1 / 4096 : ℝ) : EReal) := by
  simp [Ideal.ofBits, Ideal.ieee]
  rw [← EReal.coe_mul]
  norm_num
/-- The word of the small constant under the root is positive. -/
theorem eps_pos : (0 : EReal) < Ideal.ofBits .f32 0x358637BD#32 := by
  simp [Ideal.ofBits, Ideal.ieee]
  rw [← EReal.coe_mul]
  exact EReal.coe_pos.2 (by norm_num)

/-- A square is not negative. -/
theorem sq_nonneg (x : EReal) : 0 ≤ x * x := by
  rcases le_total 0 x with h | h
  · exact mul_nonneg h h
  · exact EReal.mul_nonneg_iff.2 (Or.inr ⟨h, h⟩)

/-- Over a positive number, dividing by the root is multiplying by the reciprocal root. -/
theorem div_sqrt (v z : EReal) (hz : 0 < z) : Ideal.div v (Ideal.sqrt z) = v * Ideal.rsqrt z := by
  induction z with
  | bot => exact absurd hz (by simp)
  | top =>
    rw [Ideal.sqrt_top, Ideal.rsqrt_top]
    simp [Ideal.div]
  | coe r =>
    have hr : 0 < r := by exact_mod_cast hz
    have hs : Real.sqrt r ≠ 0 := (Real.sqrt_pos.2 hr).ne'
    rw [Ideal.sqrt_coe, Ideal.rsqrt_coe, if_neg hr.not_gt, if_neg hr.not_gt, if_neg hr.ne', Ideal.div_coe hs, one_div]

/-- The two spellings agree on every row. -/
theorem norm_eq {n : ℕ} (h : Fin n → EReal) (v : EReal) :
    Ideal.div v (Ideal.sqrt (Ideal.div (∑ q, h q * h q) (Ideal.ofBits .f32 0x45800000#32) + Ideal.ofBits .f32 0x358637BD#32))
      = v * Ideal.rsqrt ((∑ q, h q * h q) * Ideal.ofBits .f32 0x39800000#32 + Ideal.ofBits .f32 0x358637BD#32) := by
  have hS : (0 : EReal) ≤ ∑ q, h q * h q := Finset.sum_nonneg fun q _ => sq_nonneg (h q)
  rw [c4096, r4096, Ideal.div_coe (by norm_num)]
  refine div_sqrt _ _ (lt_of_lt_of_le eps_pos (le_add_of_nonneg_left (mul_nonneg hS ?_)))
  exact_mod_cast (by norm_num : (0 : ℝ) ≤ 1 / 4096)

end Cert.RootMean

end
-- ==== Proof.QkvSpec.lean ====
/- The attention heads' projections as functions of their arguments, over the extended reals: what both programs compute. -/
module

public import proofs.«01_k».proof.Proof.RootMean
public import proofs.«01_k».proof.Proof.MaxAbs

@[expose] public section

noncomputable section

open Idealize.ShloMosaic

namespace Cert.QkvSpec

/-- A row normalised by the root of its mean square and scaled by the gain. -/
def nR (h g : Fin 4096 → EReal) (q : Fin 4096) : EReal :=
  h q * Ideal.rsqrt ((∑ q' : Fin 4096, h q' * h q') * Ideal.ofBits .f32 0x39800000#32 + Ideal.ofBits .f32 0x358637BD#32) * g q

/-- The codes of an entry: its quotient by the scale, clipped to the range of the format. -/
abbrev cT (s n : EReal) : EReal := min (Ideal.ofBits .f32 0x43E00000#32) (max (Ideal.ofBits .f32 0xC3E00000#32) (Ideal.div n s))

/-- A head's row normalised by the root of its mean square and scaled by the gain. -/
def hN (v g : Fin 128 → EReal) (l : Fin 128) : EReal :=
  v l * Ideal.rsqrt (Ideal.div (∑ q : Fin 128, v q * v q) (Ideal.ofBits .f32 0x43000000#32) + Ideal.ofBits .f32 0x358637BD#32) * g l

/-- The rotary embedding of a head's row: the two halves turned by the angles whose cosines are `a` and sines `b`. -/
def rot (n : Fin 128 → EReal) (a b : Fin 64 → EReal) (l : Fin 128) : EReal :=
  if h : l.val < 64 then n l * a ⟨l.val, h⟩ - n ⟨64 + l.val, by omega⟩ * b ⟨l.val, h⟩
  else n l * a ⟨l.val - 64, by omega⟩ + n ⟨l.val - 64, by omega⟩ * b ⟨l.val - 64, by omega⟩

/-- A head's row: the query and key heads are normalised and turned, the value heads are left as they are. -/
def head (qg kg : Fin 128 → EReal) (a b : Fin 64 → EReal) (v : Fin 128 → EReal) (n : ℕ) (l : Fin 128) : EReal :=
  if n < 16 then rot (hN v qg) a b l else if n < 20 then rot (hN v kg) a b l else v l

/-- The word of 128. -/
theorem c128 : Ideal.ofBits .f32 0x43000000#32 = ((128 : ℝ) : EReal) := by
  simp [Ideal.ofBits, Ideal.ieee]
  rw [← EReal.coe_mul]
  norm_num

/-- Dividing a head's entry by the root of the mean square is multiplying it by the reciprocal root. -/
theorem head_norm_eq (h : Fin 128 → EReal) (v : EReal) :
    Ideal.div v (Ideal.sqrt (Ideal.div (∑ q, h q * h q) (Ideal.ofBits .f32 0x43000000#32) + Ideal.ofBits .f32 0x358637BD#32))
      = v * Ideal.rsqrt (Ideal.div (∑ q, h q * h q) (Ideal.ofBits .f32 0x43000000#32) + Ideal.ofBits .f32 0x358637BD#32) := by
  have hS : (0 : EReal) ≤ ∑ q, h q * h q := Finset.sum_nonneg fun q _ => RootMean.sq_nonneg (h q)
  rw [c128, Ideal.div_coe (by norm_num)]
  refine RootMean.div_sqrt _ _ (lt_of_lt_of_le RootMean.eps_pos (le_add_of_nonneg_left (mul_nonneg hS ?_)))
  exact_mod_cast (by norm_num : (0 : ℝ) ≤ 1 / 128)

/-- The arguments, entry by entry; the cosines and sines are given by the row they act on. -/
structure Args where
  /-- The input rows. -/
  X : Fin 7680 → Fin 4096 → EReal
  /-- The gain of the input's normalisation. -/
  G : Fin 4096 → EReal
  /-- The gain of the query heads. -/
  QG : Fin 128 → EReal
  /-- The gain of the key heads. -/
  KG : Fin 128 → EReal
  /-- The scale of the input's codes. -/
  sx : EReal
  /-- The scales of the query heads' codes. -/
  sq : Fin 16 → EReal
  /-- The scales of the key heads' codes. -/
  sk : Fin 4 → EReal
  /-- The scales of the value heads' codes. -/
  sv : Fin 4 → EReal
  /-- The weights. -/
  W : Fin 4096 → Fin 3072 → EReal
  /-- The scale of the weights. -/
  sw : EReal
  /-- The cosines, by batch, position and pair. -/
  cos : Fin 2 → Fin 1920 → Fin 64 → EReal
  /-- The sines. -/
  sin : Fin 2 → Fin 1920 → Fin 64 → EReal

/-- The normalised input. -/
def n1 (A : Args) (r : Fin 7680) (q : Fin 4096) : EReal := nR (A.X r) A.G q
/-- The codes of the input. -/
def xc (A : Args) (r : Fin 7680) (q : Fin 4096) : EReal := cT A.sx (n1 A r q)
/-- The scaled products of head `n`. -/
def lin (A : Args) (r : Fin 7680) (n : Fin 24) (l : Fin 128) : EReal :=
  (∑ k : Fin 4096, xc A r k * A.W k ⟨128 * n.val + l.val, by omega⟩) * (A.sx * A.sw)
/-- The batch of a row: each batch has two halves of 1920 rows. -/
abbrev bt (r : Fin 7680) : Fin 2 := ⟨r.val / 3840, by omega⟩
/-- The position of a row. -/
abbrev ps (r : Fin 7680) : Fin 1920 := ⟨r.val % 1920, by omega⟩
/-- Head `n`. -/
def hv (A : Args) (r : Fin 7680) (n : Fin 24) (l : Fin 128) : EReal :=
  head A.QG A.KG (A.cos (bt r) (ps r)) (A.sin (bt r) (ps r)) (lin A r n) n.val l
/-- The largest magnitude of the normalised input. -/
def xm (A : Args) : EReal := ⨆ i : Fin 7680 × Fin 4096, (FloatOps.absf (F := Ideal) (φ := .f32) (n1 A i.1 i.2) : EReal)
/-- The largest magnitude of head `n`. -/
def hm (A : Args) (n : Fin 24) : EReal := ⨆ i : Fin 7680 × Fin 128, (FloatOps.absf (F := Ideal) (φ := .f32) (hv A i.1 n i.2) : EReal)
/-- The codes of query head `h`, and of the key and value heads. -/
def qc (A : Args) (r : Fin 7680) (h : Fin 16) (l : Fin 128) : EReal := cT (A.sq h) (hv A r ⟨h.val, by omega⟩ l)
def kc (A : Args) (r : Fin 7680) (h : Fin 4) (l : Fin 128) : EReal := cT (A.sk h) (hv A r ⟨16 + h.val, by omega⟩ l)
def vc (A : Args) (r : Fin 7680) (h : Fin 4) (l : Fin 128) : EReal := cT (A.sv h) (hv A r ⟨20 + h.val, by omega⟩ l)

end Cert.QkvSpec

end
-- ==== Proof.QkvPoint.lean ====
/- The attention heads' projections at one point, over the reals: the pieces' formulas at an entry. -/
module

public import proofs.«01_k».proof.Proof.QkvPieces
public import proofs.«01_k».proof.Proof.QkvSpec
public import Idealize.ShloMosaic.Lib.Pipeline.ValueKit
public import Idealize.ShloMosaic.Lib.Pipeline.ReadBack
public import Idealize.ShloMosaic.Lib.Pointwise
public import Idealize.ShloMosaic.Lib.WholeRead
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.QkvIdeal.Val

open Cert.QkvIdeal Cert.QkvIdeal.Gen Cert.QkvSpec

variable (m : (ℓ : Loc nD τ sig) → Buf (Elt Ideal) ℓ)

/-- Column `q` of chunk `j`. -/
abbrev cq (j : Fin 8) (q : Fin 512) : Fin 4096 := ⟨512 * j.val + q.val, by omega⟩
/-- Row `r` of group `i`. -/
abbrev ir (i : Fin 12) (r : Fin 32) : Fin 384 := ⟨32 * i.val + r.val, by omega⟩
/-- Lane `l` of query head `h`. -/
abbrev ql (h : Fin 16) (l : Fin 128) : Fin 2048 := ⟨128 * h.val + l.val, by omega⟩
/-- Lane `l` of key or value head `h`. -/
abbrev kl (h : Fin 4) (l : Fin 128) : Fin 512 := ⟨128 * h.val + l.val, by omega⟩

theorem scal_eq (c : Dev nD) (t : Fin cfg0.N) (k : Fin 2) : (scal m c t k : EReal) = (iblk m c 0 t : FVec Ideal S2 .f32) (ix1 k) := by
  unfold scal
  refine ((hs0_0 t).readAt_unread _ _ _).trans ?_
  congr 1
  funext a
  fin_cases a
  apply Fin.ext
  rfl
theorem hscal_eq (c : Dev nD) (t : Fin cfg0.N) (k : Fin 24) : (hscal m c t k : EReal) = (iblk m c 1 t : FVec Ideal S24 .f32) (ix1 k) := by
  unfold hscal
  refine ((hs0_1 t).readAt_unread _ _ _).trans ?_
  congr 1
  funext a
  fin_cases a
  apply Fin.ext
  rfl

theorem rw_idx (j : Fin 6) (r : Fin 4096) (q : Fin 512) : (rw' j).idx (ix2 r q) = ix2 r (⟨512 * j.val + q.val, by omega⟩ : Fin 3072) := by
  funext a
  fin_cases a <;> (apply Fin.ext; simp [Rect.idx_unit_val])
theorem rg_idx (j : Fin 8) (r : Fin 1) (q : Fin 512) : (rg j).idx (ix2 r q) = ix2 r (cq j q) := by
  funext a
  fin_cases a <;> (apply Fin.ext; simp [Rect.idx_unit_val])
theorem rn_idx (i : Fin 12) (j : Fin 8) (r : Fin 32) (q : Fin 512) : (rn i j).idx (ix2 r q) = ix2 (ir i r) (cq j q) := by
  funext a
  fin_cases a <;> (apply Fin.ext; simp [Rect.idx_unit_val])
theorem rcur_idx (r : Fin 384) (q : Fin 4096) : rcur.idx (ix2 r q) = ix2 r q := by
  funext a
  fin_cases a <;> (apply Fin.ext; simp [Rect.idx_unit_val])
theorem rcs_idx (r : Fin 384) (q : Fin 128) : rcs.idx (ix2 r q) = ix2 r q := by
  funext a
  fin_cases a <;> (apply Fin.ext; simp [Rect.idx_unit_val])
theorem rgg_idx (r : Fin 1) (q : Fin 128) : rgg.idx (ix2 r q) = ix2 r q := by
  funext a
  fin_cases a <;> (apply Fin.ext; simp [Rect.idx_unit_val])
theorem rqh_idx (h : Fin 16) (r : Fin 384) (l : Fin 128) : (rqh h).idx (ix2 r l) = ix2 r (ql h l) := by
  funext a
  fin_cases a <;> (apply Fin.ext; simp [Rect.idx_unit_val])
theorem rkh_idx (h : Fin 4) (r : Fin 384) (l : Fin 128) : (rkh h).idx (ix2 r l) = ix2 r (kl h l) := by
  funext a
  fin_cases a <;> (apply Fin.ext; simp [Rect.idx_unit_val])
theorem rvt_idx (h : Fin 4) (l : Fin 128) (r : Fin 384) : (rvt h).idx (ix2 l r) = ix2 (kl h l) r := by
  funext a
  fin_cases a <;> (apply Fin.ext; simp [Rect.idx_unit_val])
theorem rm_idx (h : Fin 24) (z : Fin 1) (a : Fin 8) (b : Fin 128) : (rm h).idx (ix3 z a b) = ix3 h a b := by
  funext x
  fin_cases x <;> (apply Fin.ext; simp [Rect.idx_unit_val])

/-- The squares of a chunk's four lane blocks, added. -/
def s4 (h : Fin 4096 → EReal) (j : Fin 8) (l : Fin 128) : EReal :=
  h (cq j ⟨l.val, by omega⟩) * h (cq j ⟨l.val, by omega⟩) + h (cq j ⟨128 + l.val, by omega⟩) * h (cq j ⟨128 + l.val, by omega⟩)
    + h (cq j ⟨256 + l.val, by omega⟩) * h (cq j ⟨256 + l.val, by omega⟩) + h (cq j ⟨384 + l.val, by omega⟩) * h (cq j ⟨384 + l.val, by omega⟩)

theorem ssn_eq (a : FVec Ideal S32x128 .f32) (v : FVec Ideal S32x512 .bf16) (h : Fin 4096 → EReal) (j : Fin 8) (r : Fin 32) (l : Fin 128) (hv : ∀ q, (v (ix2 r q) : EReal) = h (cq j q)) :
    (ssn a v (ix2 r l) : EReal) = (a (ix2 r l) : EReal) + s4 h j l := by
  unfold s4
  simp only [← hv, ← add_assoc]
  pointwise [ssn]

theorem zero_eq (r : Fin 32) (l : Fin 128) : ((broadcast S32x128 (Scalar.ofBits .f32 0x00000000#32) : FVec Ideal S32x128 .f32) (ix2 r l) : EReal) = 0 := by
  pointwise

/-- The partial sums of squares of a row, over all eight chunks. -/
theorem ssq_eq (v : Fin 8 → FVec Ideal S32x512 .bf16) (h : Fin 4096 → EReal) (r : Fin 32) (l : Fin 128) (hv : ∀ j q, (v j (ix2 r q) : EReal) = h (cq j q)) :
    (ssq (F := Ideal) v (ix2 r l) : EReal) = ∑ j : Fin 8, s4 h j l := by
  unfold ssq
  simp only [ssn_eq _ _ h _ r l (hv _), Fin.sum_univ_eight]
  rw [zero_eq, zero_add]

/-- Added over the lanes they are the row's sum of squares. -/
theorem sum_s4 (h : Fin 4096 → EReal) : ∑ l : Fin 128, ∑ j : Fin 8, s4 h j l = ∑ q : Fin 4096, h q * h q := by
  rw [Finset.sum_comm, ← Fin.sum_mul_add_fin 8 512 (fun q : Fin 4096 => h q * h q)]
  refine Finset.sum_congr rfl fun j _ => ?_
  rw [← Fin.sum_mul_add_fin 4 128 (fun q : Fin 512 => h ⟨j.val * 512 + q.val, by omega⟩ * h ⟨j.val * 512 + q.val, by omega⟩), Finset.sum_comm]
  refine Finset.sum_congr rfl fun l _ => ?_
  have e : ∀ (x : ℕ) (hx hx'), h (⟨512 * j.val + x, hx⟩ : Fin 4096) = h ⟨j.val * 512 + x, hx'⟩ := fun x hx hx' => congrArg h (Fin.ext (by dsimp only; omega))
  unfold s4 cq
  rw [Fin.sum_univ_four]
  have z : ((0 : Fin 4).val * 128 + l.val) = l.val := by show 0 * 128 + l.val = l.val; omega
  simp only [z]
  rw [e _ _ (by omega), e _ _ (by omega), e _ _ (by omega), e _ _ (by omega)]
  rfl

/-- The normalised rows of a point's tile. -/
abbrev nT (c : Dev nD) (t : Fin cfg0.N) (r : Fin 384) : Fin 4096 → EReal :=
  nR (fun y => (iblk m c 2 t : FVec Ideal S384x4096 .bf16) (ix2 r y)) (fun y => (iblk m c 3 t : FVec Ideal S1x4096 .f32) (ix2 0 y))

/-- A group's normalised entries. -/
theorem nch_eq (c : Dev nD) (t : Fin cfg0.N) (i : Fin 12) (j : Fin 8) (r : Fin 32) (x : Fin 512) :
    (nch m c t i j (ix2 r x) : EReal) = nT m c t (ir i r) (cq j x) := by
  have hq : ∀ l : Fin 128, (ssq (F := Ideal) (fun j => rd (ms0_2 t) (hs0_2 t) (iblk m c 2 t) (rn i j)) (ix2 r l) : EReal)
      = ∑ j : Fin 8, s4 (fun y => (iblk m c 2 t : FVec Ideal S384x4096 .bf16) (ix2 (ir i r) y)) j l := fun l =>
    ssq_eq _ _ r l fun j q => by
      unfold rd
      simp only [Memref.IsWhole.readAt_unread, rn_idx]
  unfold nch nrm nT nR
  rw [← sum_s4]
  simp only [← hq]
  generalize ssq (F := Ideal) (fun j => rd (ms0_2 t) (hs0_2 t) (iblk m c 2 t) (rn i j)) = Q
  unfold rd
  pointwise [k0_pay10, k0_pay9]
  simp only [Memref.IsWhole.readAt_unread, rn_idx, rg_idx]

/-- A group's codes at an entry. -/
theorem cod_eq (s : Ideal .f32) (n : FVec Ideal S32x512 .f32) (r : Fin 32) (x : Fin 512) :
    (cod s n (ix2 r x) : EReal) = cT s (n (ix2 r x)) := by
  pointwise [cod]
/-- The codes are kept as they are. -/
theorem keep_eq (v : FVec Ideal S32x512 .fp8e4m3) (r : Fin 32) (x : Fin 512) : (keep v (ix2 r x) : EReal) = v (ix2 r x) := by
  pointwise [keep]

theorem hlin_eq (k : Fin 4) (s : Ideal .f32) (a : FVec Ideal S384x512 .f32) (r : Fin 384) (l : Fin 128) : (hlin k s a (ix2 r l) : EReal) = (a (ix2 r (kl k l)) : EReal) * s := by
  fin_cases k
  · show (mulf (extractStridedSlice S384x128 ![0, 0] a slices_S384x512_o0_0_S384x128) (broadcast S384x128 s) (ix2 r l) : EReal) = (a (ix2 r ⟨128 * 0 + l.val, _⟩) : EReal) * s
    simp only [Nat.mul_zero, Nat.zero_add]
    pointwise
  · show (mulf (extractStridedSlice S384x128 ![0, 128] a slices_S384x512_o0_128_S384x128) (broadcast S384x128 s) (ix2 r l) : EReal) = (a (ix2 r ⟨128 * 1 + l.val, _⟩) : EReal) * s
    pointwise
  · show (mulf (extractStridedSlice S384x128 ![0, 256] a slices_S384x512_o0_256_S384x128) (broadcast S384x128 s) (ix2 r l) : EReal) = (a (ix2 r ⟨128 * 2 + l.val, _⟩) : EReal) * s
    pointwise
  · show (mulf (extractStridedSlice S384x128 ![0, 384] a slices_S384x512_o0_384_S384x128) (broadcast S384x128 s) (ix2 r l) : EReal) = (a (ix2 r ⟨128 * 3 + l.val, _⟩) : EReal) * s
    pointwise

/-- A head's normalised row. -/
theorem hnrm_eq (v : FVec Ideal S384x128 .f32) (g : FVec Ideal S1x128 .f32) (r : Fin 384) (l : Fin 128) :
    (hnrm v g (ix2 r l) : EReal) = hN (fun q => v (ix2 r q)) (fun q => g (ix2 0 q)) l := by
  unfold hN
  pointwise [hnrm]

/-- The rotation by half the lanes. -/
theorem roll_eq (n : FVec Ideal S384x128 .f32) (r : Fin 384) (l : Fin 128) :
    dynamicRotate 1 64#32 none n rotates_S384x128_d1 (ix2 r l) = n (ix2 r ⟨(64 + l.val) % 128, Nat.mod_lt _ (by decide)⟩) := by
  unfold dynamicRotate
  dsimp only
  congr 1
  funext a
  have hl := l.isLt
  fin_cases a
  · rfl
  · apply Fin.ext
    show (l.val + 128 - (64 + 0) % 128) % 128 = (64 + l.val) % 128
    omega

/-- The rotary embedding of a head: the second half of the lanes meets the first. -/
theorem hrot_eq (n a b : FVec Ideal S384x128 .f32) (r : Fin 384) (A B : Fin 64 → EReal)
    (ha : ∀ l : Fin 128, (a (ix2 r l) : EReal) = A ⟨l.val % 64, Nat.mod_lt _ (by decide)⟩)
    (hb : ∀ l : Fin 128, (b (ix2 r l) : EReal) = if l.val < 64 then -B ⟨l.val % 64, Nat.mod_lt _ (by decide)⟩ else B ⟨l.val % 64, Nat.mod_lt _ (by decide)⟩) (l : Fin 128) :
    (hrot n a b (ix2 r l) : EReal) = rot (fun q => n (ix2 r q)) A B l := by
  have hl := l.isLt
  have e : (hrot n a b (ix2 r l) : EReal) = (n (ix2 r l) : EReal) * a (ix2 r l) + (n (ix2 r ⟨(64 + l.val) % 128, Nat.mod_lt _ (by decide)⟩) : EReal) * b (ix2 r l) := by
    rw [← roll_eq n r l]
    unfold hrot
    generalize dynamicRotate 1 64#32 none n rotates_S384x128_d1 = N
    pointwise
  rw [e, ha, hb]
  unfold rot
  by_cases h : l.val < 64
  · rw [dif_pos h, if_pos h, mul_neg, ← sub_eq_add_neg]
    simp only [Nat.mod_eq_of_lt h, Nat.mod_eq_of_lt (show 64 + l.val < 128 by omega)]
  · rw [dif_neg h, if_neg h]
    simp only [show l.val % 64 = l.val - 64 by omega, show (64 + l.val) % 128 = l.val - 64 by omega]

/-- A head's codes at an entry. -/
theorem hcod_eq (s : Ideal .f32) (v : FVec Ideal S384x128 .f32) (r : Fin 384) (l : Fin 128) : (hcod s v (ix2 r l) : EReal) = cT s (v (ix2 r l)) := by
  pointwise [hcod, hclip]
theorem hcodT_eq (s : Ideal .f32) (v : FVec Ideal S384x128 .f32) (r : Fin 384) (l : Fin 128) : (hcodT s v (ix2 l r) : EReal) = cT s (v (ix2 r l)) := by
  pointwise [hcodT, hclip]

/-- The scale of the input's codes, and of the weights, at point `t`. -/
abbrev sB (c : Dev nD) (t : Fin cfg0.N) (k : Fin 2) : EReal := (iblk m c 0 t : FVec Ideal S2 .f32) (ix1 k)
/-- The scaled products of head `n` with the rows `C`, at point `t`. -/
def lT (c : Dev nD) (t : Fin cfg0.N) (C : Fin 384 → Fin 4096 → EReal) (n : Fin 24) (r : Fin 384) (l : Fin 128) : EReal :=
  (∑ k : Fin 4096, C r k * (iblk m c 4 t : FVec Ideal S4096x3072 .fp8e4m3) (ix2 k (⟨128 * n.val + l.val, by omega⟩ : Fin 3072)))
    * (sB m c t 0 * sB m c t 1)

/-- The products of the codes with a chunk of the weights. -/
theorem mm_eq (a : FVec Ideal S384x4096 .fp8e4m3) (w : FVec Ideal S4096x512 .fp8e4m3) (r : Fin 384) (q : Fin 512) :
    (matmul (F := Ideal) dot_S384x4096_S4096x512_S384x512_1_0_0_1_n_n none a w (constant S384x512 .f32 0x00000000#32) (ix2 r q) : EReal) = ∑ k : Fin 4096, (a (ix2 r k) : EReal) * (w (ix2 k q) : EReal) := by
  pointwise
theorem wcol (n : Fin 24) (l : Fin 128) : (⟨512 * (wi (n.val / 4)).val + (kl (li n.val) l).val, by omega⟩ : Fin 3072) = ⟨128 * n.val + l.val, by omega⟩ := by
  have hn := n.isLt
  exact Fin.ext (by dsimp only; omega)
theorem lin_eq (c : Dev nD) (t : Fin cfg0.N) (M : Memref sig .tc .vmem S384x4096 .fp8e4m3) (hM : M.IsWhole) (x : FVec Ideal S384x4096 .fp8e4m3) (C : Fin 384 → Fin 4096 → EReal)
    (hx : ∀ r q, (x (ix2 r q) : EReal) = C r q) (n : Fin 24) (r : Fin 384) (l : Fin 128) :
    (Gen.lin m c t M hM x n.val (ix2 r l) : EReal) = lT m c t C n r l := by
  have hA : ∀ k, (rd (F := Ideal) M hM x rcur (ix2 r k) : EReal) = C r k := fun k => by
    unfold rd
    rw [Memref.IsWhole.readAt_unread]
    exact (congrArg x (rcur_idx r k)).trans (hx r k)
  have hW : ∀ k, (rd (F := Ideal) (ms0_4 t) (hs0_4 t) (iblk m c 4 t) (rw' (wi (n.val / 4))) (ix2 k (kl (li n.val) l)) : EReal)
      = (iblk m c 4 t : FVec Ideal S4096x3072 .fp8e4m3) (ix2 k (⟨128 * n.val + l.val, by omega⟩ : Fin 3072)) := fun k => by
    unfold rd
    rw [Memref.IsWhole.readAt_unread]
    refine (congrArg (iblk m c 4 t) (rw_idx (wi (n.val / 4)) k (kl (li n.val) l))).trans ?_
    rw [wcol n l]
  unfold Gen.lin lT
  rw [hlin_eq, mm_eq]
  refine congrArg₂ (fun a b : EReal => a * b) (Finset.sum_congr rfl fun k _ => congrArg₂ (fun a b : EReal => a * b) (hA k) (hW k)) ?_
  exact congrArg₂ (fun a b : EReal => a * b) (scal_eq m c t 0) (scal_eq m c t 1)

/-- The head values at point `t`, from the rows `C` and the row's angles. -/
def hT (c : Dev nD) (t : Fin cfg0.N) (C : Fin 384 → Fin 4096 → EReal) (A B : Fin 384 → Fin 64 → EReal) (n : Fin 24) (r : Fin 384) (l : Fin 128) : EReal :=
  head (fun q => (iblk m c 7 t : FVec Ideal S1x128 .f32) (ix2 0 q)) (fun q => (iblk m c 8 t : FVec Ideal S1x128 .f32) (ix2 0 q)) (A r) (B r) (lT m c t C n r) n.val l

/-- The blocks of cosines and sines at point `t` are the angles `A` and `B`, repeated over the halves of the lanes, the first half of the sines negated. -/
def Trig (c : Dev nD) (t : Fin cfg0.N) (A B : Fin 384 → Fin 64 → EReal) : Prop :=
  (∀ r (l : Fin 128), ((iblk m c 5 t : FVec Ideal S384x128 .f32) (ix2 r l) : EReal) = A r ⟨l.val % 64, Nat.mod_lt _ (by decide)⟩)
  ∧ ∀ r (l : Fin 128), ((iblk m c 6 t : FVec Ideal S384x128 .f32) (ix2 r l) : EReal) = if l.val < 64 then -B r ⟨l.val % 64, Nat.mod_lt _ (by decide)⟩ else B r ⟨l.val % 64, Nat.mod_lt _ (by decide)⟩

theorem hval_eq (c : Dev nD) (t : Fin cfg0.N) (M : Memref sig .tc .vmem S384x4096 .fp8e4m3) (hM : M.IsWhole) (x : FVec Ideal S384x4096 .fp8e4m3) (C : Fin 384 → Fin 4096 → EReal) (A B : Fin 384 → Fin 64 → EReal)
    (hx : ∀ r q, (x (ix2 r q) : EReal) = C r q) (hab : Trig m c t A B) (n : Fin 24) (r : Fin 384) (l : Fin 128) :
    (hval m c t M hM x n.val (ix2 r l) : EReal) = hT m c t C A B n r l := by
  have h5 : ∀ l : Fin 128, ((rd (ms0_5 t) (hs0_5 t) (iblk m c 5 t) rcs : FVec Ideal S384x128 .f32) (ix2 r l) : EReal) = A r ⟨l.val % 64, Nat.mod_lt _ (by decide)⟩ := fun l => by
    unfold rd
    simp only [Memref.IsWhole.readAt_unread, rcs_idx]
    exact hab.1 r l
  have h6 : ∀ l : Fin 128, ((rd (ms0_6 t) (hs0_6 t) (iblk m c 6 t) rcs : FVec Ideal S384x128 .f32) (ix2 r l) : EReal) = if l.val < 64 then -B r ⟨l.val % 64, Nat.mod_lt _ (by decide)⟩ else B r ⟨l.val % 64, Nat.mod_lt _ (by decide)⟩ := fun l => by
    unfold rd
    simp only [Memref.IsWhole.readAt_unread, rcs_idx]
    exact hab.2 r l
  have h7 : ∀ q : Fin 128, ((rd (ms0_7 t) (hs0_7 t) (iblk m c 7 t) rgg : FVec Ideal S1x128 .f32) (ix2 0 q) : EReal) = (iblk m c 7 t : FVec Ideal S1x128 .f32) (ix2 0 q) := fun q => by
    unfold rd
    simp only [Memref.IsWhole.readAt_unread, rgg_idx]
  have h8 : ∀ q : Fin 128, ((rd (ms0_8 t) (hs0_8 t) (iblk m c 8 t) rgg : FVec Ideal S1x128 .f32) (ix2 0 q) : EReal) = (iblk m c 8 t : FVec Ideal S1x128 .f32) (ix2 0 q) := fun q => by
    unfold rd
    simp only [Memref.IsWhole.readAt_unread, rgg_idx]
  unfold hval hT head
  split
  · unfold qval
    rw [hrot_eq _ _ _ r (A r) (B r) h5 h6 l]
    refine congrArg (fun z => rot z (A r) (B r) l) (funext fun q => ?_)
    rw [hnrm_eq]
    exact congrArg₂ (fun a b => hN a b q) (funext fun q => lin_eq m c t M hM x C hx n r q) (funext h7)
  · split
    · unfold kval
      rw [hrot_eq _ _ _ r (A r) (B r) h5 h6 l]
      refine congrArg (fun z => rot z (A r) (B r) l) (funext fun q => ?_)
      rw [hnrm_eq]
      exact congrArg₂ (fun a b => hN a b q) (funext fun q => lin_eq m c t M hM x C hx n r q) (funext h8)
    · exact lin_eq m c t M hM x C hx n r l

end Cert.QkvIdeal.Val

end
-- ==== Proof.QkvAmax.lean ====
/- The running maxima of the attention heads' projections: what bounds them after a point. -/
module

public import proofs.«01_k».proof.Proof.QkvPoint

@[expose] public section

set_option maxRecDepth 16384

noncomputable section

open Idealize.ShloMosaic Idealize.ShloMosaic.TcCoe Idealize.SL.Sem
open Idealize.ShloMosaic.Pipeline (Dat)

namespace Cert.QkvIdeal.Val

open Cert.QkvIdeal Cert.QkvIdeal.Gen Cert.QkvSpec

variable (m : (ℓ : Loc nD τ sig) → Buf (Elt Ideal) ℓ)

/-- `b` bounds the magnitudes of `v` at the entries whose row is `j 0` modulo 8 and whose column is `j 1` modulo 128. -/
def AbsLe {R C : ℕ} (v : Fin R → Fin C → EReal) (j : S8x128.Idx) (b : EReal) : Prop :=
  ∀ (r : Fin R) (q : Fin C), r.val % 8 = (j 0).val → q.val % 128 = (j 1).val → (FloatOps.absf (F := Ideal) (φ := .f32) (v r q) : EReal) ≤ b

/-- A group's reduced magnitudes are bounded exactly when its magnitudes are. -/
theorem amx_le (n : FVec Ideal S32x512 .f32) (j : S8x128.Idx) (b : EReal) :
    (amx n j : EReal) ≤ b ↔ AbsLe (fun r q => (n (ix2 r q) : EReal)) j b := by
  have hj0 : (j 0).val < 8 := (j 0).isLt
  have hj1 : (j 1).val < 128 := (j 1).isLt
  pointwise [amx]
  simp only [max_le_iff, Finset.fold_max_le, MaxAbs.ninf, bot_le, true_and, Finset.mem_univ, forall_const, AbsLe]
  constructor
  · rintro ⟨⟨⟨h0, h1⟩, h2⟩, h3⟩ r q hr hq
    have hrl := r.isLt
    have hql := q.isLt
    have er : ∀ (x : Fin 4) (hx), x.val = r.val / 8 → (⟨x.val * 8 + (j 0).val, hx⟩ : Fin 32) = r := fun x hx e => Fin.ext (by dsimp only; omega)
    rcases (by omega : q.val = (j 1).val ∨ q.val = 128 + (j 1).val ∨ q.val = 256 + (j 1).val ∨ q.val = 384 + (j 1).val) with h | h | h | h
    · have := h0 ⟨r.val / 8, by omega⟩
      rwa [er _ _ rfl, show (⟨(j 1).val, by omega⟩ : Fin 512) = q from Fin.ext h.symm] at this
    · have := h1 ⟨r.val / 8, by omega⟩
      rwa [er _ _ rfl, show (⟨128 + (j 1).val, by omega⟩ : Fin 512) = q from Fin.ext h.symm] at this
    · have := h2 ⟨r.val / 8, by omega⟩
      rwa [er _ _ rfl, show (⟨256 + (j 1).val, by omega⟩ : Fin 512) = q from Fin.ext h.symm] at this
    · have := h3 ⟨r.val / 8, by omega⟩
      rwa [er _ _ rfl, show (⟨384 + (j 1).val, by omega⟩ : Fin 512) = q from Fin.ext h.symm] at this
  · intro h
    exact ⟨⟨⟨fun x => h _ _ (by dsimp only; omega) (by dsimp only; omega), fun x => h _ _ (by dsimp only; omega) (by dsimp only; omega)⟩,
      fun x => h _ _ (by dsimp only; omega) (by dsimp only; omega)⟩, fun x => h _ _ (by dsimp only; omega) (by dsimp only; omega)⟩

theorem up_le (a v : FVec Ideal S8x128 .f32) (j : S8x128.Idx) (b : EReal) : (up a v j : EReal) ≤ b ↔ (v j : EReal) ≤ b ∧ (a j : EReal) ≤ b := by
  rw [← max_le_iff]
  pointwise [up]
theorem pay3_zero (j : S8x128.Idx) : (k0_pay3 (F := Ideal) j : EReal) = 0 := by
  pointwise [k0_pay3]
theorem pay4_zero (j : S24x8x128.Idx) : (k0_pay4 (F := Ideal) j : EReal) = 0 := by
  pointwise [k0_pay4]
/-- The last point spreads the largest entry of the running maximum. -/
theorem spread_le (v : FVec Ideal S8x128 .f32) (j : S8x128.Idx) (b : EReal) : (spread (F := Ideal) v j : EReal) ≤ b ↔ ∀ i, (v i : EReal) ≤ b := by
  pointwise [spread, k0_pay1730]
  simp only [Finset.fold_max_le, MaxAbs.ninf, bot_le, true_and, Finset.mem_univ, forall_const]
  exact ⟨fun h i => by have := h (i 0, i 1); rwa [← eq_ix2 i] at this, fun h x => h _⟩
/-- The last point spreads the largest entry of a head's running maximum. -/
theorem hspread_le (v : FVec Ideal S1x8x128 .f32) (x : Fin 8) (y : Fin 128) (b : EReal) :
    (hspread (F := Ideal) v (ix3 0 x y) : EReal) ≤ b ↔ ∀ (x : Fin 8) (y : Fin 128), (v (ix3 0 x y) : EReal) ≤ b := by
  pointwise [hspread, k0_pay1731]
  simp only [Finset.fold_max_le, MaxAbs.ninf, bot_le, true_and, Finset.mem_univ, forall_const]
  exact ⟨fun h x y => h (x, y), fun h x => h _ _⟩
/-- A head's running maximum takes in a tile's magnitudes. -/
theorem hup_le (v : FVec Ideal S384x128 .f32) (p : FVec Ideal S1x8x128 .f32) (x : Fin 8) (y : Fin 128) (b : EReal) :
    (hup v p (ix3 0 x y) : EReal) ≤ b ↔ (p (ix3 0 x y) : EReal) ≤ b ∧ ∀ r : Fin 384, r.val % 8 = x.val → (FloatOps.absf (F := Ideal) (φ := .f32) (v (ix2 r y) : EReal) : EReal) ≤ b := by
  have hx := x.isLt
  pointwise [hup]
  simp only [max_le_iff, Finset.fold_max_le, MaxAbs.ninf, bot_le, true_and, Finset.mem_univ, forall_const]
  refine and_congr_right fun _ => ⟨fun h r hr => ?_, fun h z => h _ (by dsimp only; omega)⟩
  have hrl := r.isLt
  have := h ⟨r.val / 8, by omega⟩
  rwa [show (⟨r.val / 8 * 8 + x.val, by omega⟩ : Fin 384) = r from Fin.ext (by dsimp only; omega)] at this

theorem max_le (a v : FVec Ideal S8x128 .f32) (j : S8x128.Idx) (b : EReal) : (maximumf a v j : EReal) ≤ b ↔ (a j : EReal) ≤ b ∧ (v j : EReal) ≤ b := by
  rw [← max_le_iff]
  pointwise

/-- A row group's magnitudes bounded: nonnegative, and every chunk's bounded. -/
theorem ach_le (f : Fin 12 → Fin 8 → FVec Ideal S32x512 .f32) (i : Fin 12) (j : S8x128.Idx) (b : EReal) :
    (ach f i j : EReal) ≤ b ↔ 0 ≤ b ∧ ∀ x : Fin 8, AbsLe (fun r q => (f i x (ix2 r q) : EReal)) j b := by
  unfold ach
  simp only [max_le, amx_le, pay3_zero, and_assoc]
  refine and_congr_right fun _ => ⟨fun ⟨h0, h1, h2, h3, h4, h5, h6, h7⟩ x => ?_, fun h => ⟨h 0, h 1, h 2, h 3, h 4, h 5, h 6, h 7⟩⟩
  fin_cases x
  exacts [h0, h1, h2, h3, h4, h5, h6, h7]

/-- The running maximum after row group `n`. -/
theorem amv_le (v : FVec Ideal S8x128 .f32) (f : Fin 12 → Fin 8 → FVec Ideal S32x512 .f32) (n : ℕ) (j : S8x128.Idx) (b : EReal) :
    (amv v f n j : EReal) ≤ b ↔ (v j : EReal) ≤ b ∧ ∀ k ≤ n, (ach f (gi k) j : EReal) ≤ b := by
  induction n with
  | zero =>
    unfold amv
    rw [up_le]
    exact and_congr_right fun _ => ⟨fun h k hk => by obtain rfl := Nat.le_zero.1 hk; exact h, fun h => h 0 (le_refl _)⟩
  | succ n ih =>
    unfold amv
    rw [up_le, ih, and_assoc]
    refine and_congr_right fun _ => ⟨fun ⟨h1, h2⟩ k hk => ?_, fun h => ⟨fun k hk => h k (by omega), h _ (le_refl _)⟩⟩
    rcases Nat.lt_or_ge k (n + 1) with hl | hl
    · exact h1 k (by omega)
    · obtain rfl : k = n + 1 := by omega
      exact h2

/-- A point bounds the running maximum and the magnitudes of its tile. -/
theorem amv_tile (v : FVec Ideal S8x128 .f32) (f : Fin 12 → Fin 8 → FVec Ideal S32x512 .f32) (N : Fin 384 → Fin 4096 → EReal)
    (hf : ∀ i j r x, (f i j (ix2 r x) : EReal) = N (ir i r) (cq j x)) (j : S8x128.Idx) (b : EReal) :
    (amv v f 11 j : EReal) ≤ b ↔ (v j : EReal) ≤ b ∧ 0 ≤ b ∧ AbsLe N j b := by
  rw [amv_le]
  simp only [ach_le, AbsLe, hf]
  refine and_congr_right fun _ => ⟨fun h => ⟨(h 0 (by omega)).1, fun r q hr hq => ?_⟩, fun ⟨h0, h⟩ k hk => ⟨h0, fun x r q hr hq => h _ _ (by dsimp only; omega) (by dsimp only; omega)⟩⟩
  have hrl := r.isLt
  have hql := q.isLt
  have := (h (r.val / 32) (by omega)).2 ⟨q.val / 512, by omega⟩ ⟨r.val % 32, by omega⟩ ⟨q.val % 512, by omega⟩ (by dsimp only; omega) (by dsimp only; omega)
  rwa [show ir (gi (r.val / 32)) ⟨r.val % 32, by omega⟩ = r from Fin.ext (by dsimp only; omega),
    show cq ⟨q.val / 512, by omega⟩ ⟨q.val % 512, by omega⟩ = q from Fin.ext (by dsimp only; omega)] at this

end Cert.QkvIdeal.Val

end
-- ==== Proof.QkvReads.lean ====
/- Families of stores of the attention heads' projections, read back at an entry. -/
module

public import proofs.«01_k».proof.Proof.QkvPoint

@[expose] public section

set_option maxRecDepth 16384

noncomputable section

open Idealize.ShloMosaic Idealize.ShloMosaic.TcCoe Idealize.SL.Sem
open Idealize.ShloMosaic.Pipeline (Dat)

namespace Cert.QkvIdeal.Val

open Cert.QkvIdeal Cert.QkvIdeal.Gen Cert.QkvSpec

variable (m : (ℓ : Loc nD τ sig) → Buf (Elt Ideal) ℓ)

/-- A family of stores at an entry one of them writes, when every other that writes it writes the same. -/
theorem canon_family {S : Shape} {e : EltTy} {N : ℕ} (R : Fin N → Rect S)
    (P : (k : Fin N) → (R k).shape.Idx → Elt Ideal e) (k : Fin N) (x : (R k).shape.Idx) (y : S.Idx) (hy : (R k).emb x = y)
    (h : ∀ k' x', (R k').emb x' = y → P k' x' = P k x) :
    View.canon (Val := Elt Ideal) (List.ofFn fun k => (⟨R k, P k⟩ : View.Piece (Elt Ideal) S e)) y = P k x := by
  have hm : y ∈ (R k).set := hy ▸ (R k).idx_mem x
  exact View.canon_ofFn_eq_of_forall R P y _ ⟨k, hm⟩ fun k' x' hx' => h k' x' hx'

/-- The same, read through a view. -/
theorem read_family {κ : Kind} {sp : Space} {S : Shape} {e : EltTy} (V : View sig κ sp S e) (f : V.ty.Contents (Elt Ideal)) {N : ℕ} (R : Fin N → Rect S)
    (P : (k : Fin N) → (R k).shape.Idx → Elt Ideal e) (k : Fin N) (x : (R k).shape.Idx) (y : S.Idx) (hy : (R k).emb x = y)
    (h : ∀ k' x', (R k').emb x' = y → P k' x' = P k x) :
    V.read (Elt Ideal) (V.writes (Elt Ideal) f (List.ofFn fun k => (⟨R k, P k⟩ : View.Piece (Elt Ideal) S e))) y = P k x := by
  have hm : y ∈ (R k).set := hy ▸ (R k).idx_mem x
  rw [View.read_writes_apply_eq_canon _ _ _ _ ⟨⟨R k, P k⟩, List.mem_ofFn.mpr ⟨k, rfl⟩, hm⟩]
  exact canon_family R P k x y hy h

theorem cq_inj {j j' : Fin 8} {q q' : Fin 512} (h : cq j q = cq j' q') : j = j' ∧ q = q' := by
  have h := congrArg Fin.val h
  have hq := q.isLt
  have hq' := q'.isLt
  exact ⟨Fin.ext (by dsimp only at h; omega), Fin.ext (by dsimp only at h; omega)⟩
theorem ir_inj {j j' : Fin 12} {q q' : Fin 32} (h : ir j q = ir j' q') : j = j' ∧ q = q' := by
  have h := congrArg Fin.val h
  have hq := q.isLt
  have hq' := q'.isLt
  exact ⟨Fin.ext (by dsimp only at h; omega), Fin.ext (by dsimp only at h; omega)⟩
theorem ql_inj {j j' : Fin 16} {q q' : Fin 128} (h : ql j q = ql j' q') : j = j' ∧ q = q' := by
  have h := congrArg Fin.val h
  have hq := q.isLt
  have hq' := q'.isLt
  exact ⟨Fin.ext (by dsimp only at h; omega), Fin.ext (by dsimp only at h; omega)⟩
theorem kl_inj {j j' : Fin 4} {q q' : Fin 128} (h : kl j q = kl j' q') : j = j' ∧ q = q' := by
  have h := congrArg Fin.val h
  have hq := q.isLt
  have hq' := q'.isLt
  exact ⟨Fin.ext (by dsimp only at h; omega), Fin.ext (by dsimp only at h; omega)⟩
theorem ix2_inj {a b : ℕ} {r r' : Fin a} {q q' : Fin b} (h : ix2 r q = ix2 r' q') : r = r' ∧ q = q' :=
  ⟨congrFun h 0, congrFun h 1⟩
theorem ix3_inj {a b d : ℕ} {r r' : Fin a} {q q' : Fin b} {s s' : Fin d} (h : ix3 r q s = ix3 r' q' s') : r = r' ∧ q = q' ∧ s = s' :=
  ⟨congrFun h 0, congrFun h 1, congrFun h 2⟩

/-- The stores of row groups and chunks, read at an entry. -/
theorem read_groups {κ : Kind} {sp : Space} {e : EltTy} (V : View sig κ sp S384x4096 e) (f : V.ty.Contents (Elt Ideal)) (P : Fin 12 → Fin 8 → S32x512.Idx → Elt Ideal e) (i : Fin 12) (j : Fin 8) (r : Fin 32) (q : Fin 512) :
    V.read (Elt Ideal) (V.writes (Elt Ideal) f (List.ofFn fun x : Fin 96 => (⟨rn (gi (x.rev.val / 8)) (ci x.rev.val), P (gi (x.rev.val / 8)) (ci x.rev.val)⟩ : View.Piece (Elt Ideal) S384x4096 e))) (ix2 (ir i r) (cq j q))
      = P i j (ix2 r q) := by
  have hi := i.isLt
  have hj := j.isLt
  have hr : (⟨8 * i.val + j.val, by omega⟩ : Fin 96).rev.rev = ⟨8 * i.val + j.val, by omega⟩ := Fin.rev_rev _
  have ei : gi ((⟨8 * i.val + j.val, by omega⟩ : Fin 96).rev.rev.val / 8) = i := by rw [hr]; exact Fin.ext (by dsimp only; omega)
  have ej : ci (⟨8 * i.val + j.val, by omega⟩ : Fin 96).rev.rev.val = j := by rw [hr]; exact Fin.ext (by dsimp only; omega)
  refine (read_family V f (fun x : Fin 96 => rn (gi (x.rev.val / 8)) (ci x.rev.val)) (fun x => P (gi (x.rev.val / 8)) (ci x.rev.val)) (⟨8 * i.val + j.val, by omega⟩ : Fin 96).rev (ix2 r q) _ ?_ fun k x hx => ?_).trans ?_
  · rw [ei, ej]
    exact rn_idx i j r q
  · rw [eq_ix2 x] at hx ⊢
    obtain ⟨h0, h1⟩ := ix2_inj ((rn_idx (gi (k.rev.val / 8)) (ci k.rev.val) (x 0) (x 1)).symm.trans hx)
    obtain ⟨h2, h3⟩ := cq_inj h1
    obtain ⟨h4, h5⟩ := ir_inj h0
    rw [ei, ej, h2, h3, h4, h5]
  · rw [ei, ej]

/-- The stores of the query heads, read at an entry. -/
theorem read_q {κ : Kind} {sp : Space} {e : EltTy} (V : View sig κ sp S384x2048 e) (f : V.ty.Contents (Elt Ideal)) (P : ℕ → S384x128.Idx → Elt Ideal e) (j : Fin 16) (r : Fin 384) (q : Fin 128) :
    V.read (Elt Ideal) (V.writes (Elt Ideal) f (List.ofFn fun j : Fin 16 => (⟨rqh j.rev, P j.rev.val⟩ : View.Piece (Elt Ideal) S384x2048 e))) (ix2 r (ql j q)) = P j.val (ix2 r q) := by
  refine (read_family V f (fun j : Fin 16 => rqh j.rev) (fun j => P j.rev.val) j.rev (ix2 r q) _ ?_ fun k x hx => ?_).trans ?_
  · rw [Fin.rev_rev]
    exact rqh_idx j r q
  · rw [eq_ix2 x] at hx ⊢
    obtain ⟨h0, h1⟩ := ix2_inj ((rqh_idx k.rev (x 0) (x 1)).symm.trans hx)
    obtain ⟨h2, h3⟩ := ql_inj h1
    rw [Fin.rev_rev, h0, h2, h3]
  · rw [Fin.rev_rev]
/-- The stores of the key or value heads, read at an entry. -/
theorem read_k {κ : Kind} {sp : Space} {e : EltTy} (V : View sig κ sp S384x512 e) (f : V.ty.Contents (Elt Ideal)) (P : ℕ → S384x128.Idx → Elt Ideal e) (j : Fin 4) (r : Fin 384) (q : Fin 128) :
    V.read (Elt Ideal) (V.writes (Elt Ideal) f (List.ofFn fun j : Fin 4 => (⟨rkh j.rev, P j.rev.val⟩ : View.Piece (Elt Ideal) S384x512 e))) (ix2 r (kl j q)) = P j.val (ix2 r q) := by
  refine (read_family V f (fun j : Fin 4 => rkh j.rev) (fun j => P j.rev.val) j.rev (ix2 r q) _ ?_ fun k x hx => ?_).trans ?_
  · rw [Fin.rev_rev]
    exact rkh_idx j r q
  · rw [eq_ix2 x] at hx ⊢
    obtain ⟨h0, h1⟩ := ix2_inj ((rkh_idx k.rev (x 0) (x 1)).symm.trans hx)
    obtain ⟨h2, h3⟩ := kl_inj h1
    rw [Fin.rev_rev, h0, h2, h3]
  · rw [Fin.rev_rev]
/-- The stores of the transposed value heads, read at an entry. -/
theorem read_vt {κ : Kind} {sp : Space} {e : EltTy} (V : View sig κ sp S512x384 e) (f : V.ty.Contents (Elt Ideal)) (P : ℕ → S128x384.Idx → Elt Ideal e) (j : Fin 4) (r : Fin 384) (q : Fin 128) :
    V.read (Elt Ideal) (V.writes (Elt Ideal) f (List.ofFn fun j : Fin 4 => (⟨rvt j.rev, P j.rev.val⟩ : View.Piece (Elt Ideal) S512x384 e))) (ix2 (kl j q) r) = P j.val (ix2 q r) := by
  refine (read_family V f (fun j : Fin 4 => rvt j.rev) (fun j => P j.rev.val) j.rev (ix2 q r) _ ?_ fun k x hx => ?_).trans ?_
  · rw [Fin.rev_rev]
    exact rvt_idx j q r
  · rw [eq_ix2 x] at hx ⊢
    obtain ⟨h1, h0⟩ := ix2_inj ((rvt_idx k.rev (x 0) (x 1)).symm.trans hx)
    obtain ⟨h2, h3⟩ := kl_inj h1
    rw [Fin.rev_rev, h0, h2, h3]
  · rw [Fin.rev_rev]

/-- The stores of the heads' running maxima. -/
abbrev hmL (P : Fin 24 → S1x8x128.Idx → Elt Ideal .f32) : List (View.Piece (Elt Ideal) S24x8x128 .f32) :=
  List.ofFn fun j : Fin 24 => (⟨rm j.rev, P j.rev⟩ : View.Piece (Elt Ideal) S24x8x128 .f32)
theorem one3 (z : S1x8x128.Idx) : z = ix3 (0 : Fin 1) (z 1) (z 2) := by
  have h : @Eq (Fin 1) (z 0) 0 := Subsingleton.elim (α := Fin 1) _ _
  exact (eq_ix3 z).trans (congrArg (fun a : Fin 1 => (ix3 a (z 1) (z 2) : S1x8x128.Idx)) h)
theorem hi_val (n : ℕ) (hn : n < 24) : (hi n).val = n := Nat.mod_eq_of_lt hn
/-- The stores of the heads' running maxima, at an entry. -/
theorem canon_m (P : Fin 24 → S1x8x128.Idx → Elt Ideal .f32) (j : Fin 24) (x : Fin 8) (y : Fin 128) :
    View.canon (Val := Elt Ideal) (hmL P) (ix3 j x y) = P j (ix3 0 x y) := by
  refine (canon_family (fun j : Fin 24 => rm j.rev) (fun j => P j.rev) j.rev (ix3 0 x y) _ ?_ fun k z hz => ?_).trans ?_
  · rw [Fin.rev_rev]
    exact rm_idx j 0 x y
  · rw [one3 z] at hz ⊢
    obtain ⟨h0, h1, h2⟩ := ix3_inj ((rm_idx k.rev 0 (z 1) (z 2)).symm.trans hz)
    rw [Fin.rev_rev, h0, h1, h2]
    rfl
  · rw [Fin.rev_rev]
theorem mem_m (j : Fin 24) (x : Fin 8) (y : Fin 128) : (ix3 j x y : S24x8x128.Idx) ∈ (rm j).set := by
  have := (rm j).idx_mem (ix3 0 x y)
  rwa [rm_idx] at this
theorem not_mem_m (k j : Fin 24) (h : k ≠ j) (x : Fin 8) (y : Fin 128) : (ix3 j x y : S24x8x128.Idx) ∉ (rm k).set := by
  intro hm
  obtain ⟨z, hz⟩ := (rm k).exists_idx_of_mem hm
  rw [eq_ix3 z] at hz
  exact h (ix3_inj ((rm_idx k (z 0) (z 1) (z 2)).symm.trans hz)).1
theorem read_m {κ : Kind} {sp : Space} (V : View sig κ sp S24x8x128 .f32) (f : V.ty.Contents (Elt Ideal)) (P : Fin 24 → S1x8x128.Idx → Elt Ideal .f32) (j : Fin 24) (x : Fin 8) (y : Fin 128) :
    V.read (Elt Ideal) (V.writes (Elt Ideal) f (hmL P)) (ix3 j x y) = P j (ix3 0 x y) := by
  rw [View.read_writes_apply_eq_canon _ _ _ _ ⟨⟨rm j, P j⟩, List.mem_ofFn.mpr ⟨j.rev, by rw [Fin.rev_rev]⟩, mem_m j x y⟩]
  exact canon_m P j x y

/-- Spreading the first heads' maxima leaves the later heads'. -/
theorem canon_spL_later (M : Memref sig .tc .vmem S24x8x128 .f32) (L : List (View.Piece (Elt Ideal) S24x8x128 .f32)) (n : ℕ) (j : Fin 24) (h : n < j.val) (x : Fin 8) (y : Fin 128) :
    View.canon (Val := Elt Ideal) (spL M L n) (ix3 j x y) = View.canon (Val := Elt Ideal) L (ix3 j x y) := by
  have hj := j.isLt
  induction n with
  | zero =>
    unfold spL
    refine View.canon_cons_of_not_mem _ _ ?_
    exact not_mem_m 0 j (fun e => by rw [← e] at h; exact absurd h (by decide)) x y
  | succ n ih =>
    have hne : hi (n + 1) ≠ j := fun e => by
      have := congrArg Fin.val e
      rw [hi_val (n + 1) (by omega)] at this
      omega
    unfold spL
    refine (View.canon_cons_of_not_mem _ _ ?_).trans (ih (by omega))
    exact not_mem_m (hi (n + 1)) j hne x y
/-- A head's maximum as it was before it was spread. -/
abbrev hrow (L : List (View.Piece (Elt Ideal) S24x8x128 .f32)) (j : Fin 24) : FVec Ideal S1x8x128 .f32 := fun z => View.canon (Val := Elt Ideal) L (ix3 j (z 1) (z 2))
theorem readCov_m (M : Memref sig .tc .vmem S24x8x128 .f32) (L L' : List (View.Piece (Elt Ideal) S24x8x128 .f32)) (j : Fin 24)
    (h : ∀ x y, View.canon (Val := Elt Ideal) L' (ix3 j x y) = View.canon (Val := Elt Ideal) L (ix3 j x y)) :
    M.view.readCov L' (rm j).toLoadRect = hrow L j := by
  rw [View.readCov_eq_canon']
  funext z
  show View.canon L' ((rm j).idx z) = _
  rw [eq_ix3 z]
  exact (congrArg (View.canon L') (rm_idx j (z 0) (z 1) (z 2))).trans (h _ _)
/-- Every head's maximum is spread. -/
theorem canon_spL (M : Memref sig .tc .vmem S24x8x128 .f32) (L : List (View.Piece (Elt Ideal) S24x8x128 .f32)) (n : ℕ) (hn : n < 24) (j : Fin 24) (h : j.val ≤ n) (x : Fin 8) (y : Fin 128) :
    View.canon (Val := Elt Ideal) (spL M L n) (ix3 j x y) = hspread (F := Ideal) (hrow L j) (ix3 0 x y) := by
  induction n with
  | zero =>
    obtain rfl : j = 0 := Fin.ext (by omega)
    unfold spL
    rw [readCov_m M L L 0 fun _ _ => rfl, ← rm_idx 0 0 x y]
    exact View.canon_cons_emb (rm 0) _ _ (ix3 0 x y)
  | succ n ih =>
    unfold spL
    rcases Nat.lt_or_ge j.val (n + 1) with hl | hl
    · have hne : hi (n + 1) ≠ j := fun e => by
        have := congrArg Fin.val e
        rw [hi_val (n + 1) hn] at this
        omega
      refine (View.canon_cons_of_not_mem _ _ ?_).trans (ih (by omega) (by omega))
      exact not_mem_m (hi (n + 1)) j hne x y
    · have e : hi (n + 1) = j := Fin.ext ((hi_val (n + 1) hn).trans (by omega))
      rw [e, readCov_m M L _ j fun x y => canon_spL_later M L n _ (by omega) x y, ← rm_idx j 0 x y]
      exact View.canon_cons_emb (rm j) _ _ (ix3 0 x y)
theorem mem_spL (M : Memref sig .tc .vmem S24x8x128 .f32) (L : List (View.Piece (Elt Ideal) S24x8x128 .f32)) (n : ℕ) (p : View.Piece (Elt Ideal) S24x8x128 .f32) (h : p ∈ L) : p ∈ spL M L n := by
  induction n with
  | zero => unfold spL; exact List.mem_cons_of_mem _ h
  | succ n ih => unfold spL; exact List.mem_cons_of_mem _ ih
theorem read_spL {κ : Kind} {sp : Space} (M : Memref sig .tc .vmem S24x8x128 .f32) (V : View sig κ sp S24x8x128 .f32) (f : V.ty.Contents (Elt Ideal)) (P : Fin 24 → S1x8x128.Idx → Elt Ideal .f32) (j : Fin 24) (x : Fin 8) (y : Fin 128) :
    V.read (Elt Ideal) (V.writes (Elt Ideal) f (spL M (hmL P) 23)) (ix3 j x y) = hspread (F := Ideal) (fun z => P j (ix3 0 (z 1) (z 2))) (ix3 0 x y) := by
  rw [View.read_writes_apply_eq_canon _ _ _ _ ⟨⟨rm j, P j⟩, mem_spL _ _ _ _ (List.mem_ofFn.mpr ⟨j.rev, by rw [Fin.rev_rev]⟩), mem_m j x y⟩]
  rw [canon_spL M _ 23 (by decide) j (by omega) x y]
  refine congrArg (fun v => hspread (F := Ideal) v (ix3 0 x y)) (funext fun z => ?_)
  exact canon_m P j (z 1) (z 2)

theorem col (q : Fin 4096) : cq ⟨q.val / 512, by omega⟩ ⟨q.val % 512, by omega⟩ = q := Fin.ext (by dsimp only; omega)
theorem row (r : Fin 384) : ir ⟨r.val / 32, by omega⟩ ⟨r.val % 32, by omega⟩ = r := Fin.ext (by dsimp only; omega)

/-- A tile's codes after a point's stores. -/
theorem xL_eq (c : Dev nD) (t : Fin cfg0.N) {κ : Kind} {sp : Space} (V : View sig κ sp S384x4096 .fp8e4m3) (f : V.ty.Contents (Elt Ideal)) (r : Fin 384) (x : Fin 4096) :
    (V.read (Elt Ideal) (V.writes (Elt Ideal) f (xL m c t)) (ix2 r x) : EReal) = cT (scal m c t 0) (nT m c t r x) := by
  have h := read_groups (e := .fp8e4m3) V f (fun i j => cod (scal m c t 0) (nch m c t i j)) ⟨r.val / 32, by omega⟩ ⟨x.val / 512, by omega⟩ ⟨r.val % 32, by omega⟩ ⟨x.val % 512, by omega⟩
  rw [col, row] at h
  refine h.trans ?_
  rw [cod_eq, nch_eq, col, row]
theorem xK_eq (c : Dev nD) (t : Fin cfg0.N) {κ : Kind} {sp : Space} (V : View sig κ sp S384x4096 .fp8e4m3) (f : V.ty.Contents (Elt Ideal)) (r : Fin 384) (x : Fin 4096) :
    (V.read (Elt Ideal) (V.writes (Elt Ideal) f (xK m c t)) (ix2 r x) : EReal) = cT (scal m c t 0) (nT m c t r x) := by
  have h := read_groups (e := .fp8e4m3) V f (fun i j => keep (cod (scal m c t 0) (nch m c t i j))) ⟨r.val / 32, by omega⟩ ⟨x.val / 512, by omega⟩ ⟨r.val % 32, by omega⟩ ⟨x.val % 512, by omega⟩
  rw [col, row] at h
  refine h.trans ?_
  rw [keep_eq, cod_eq, nch_eq, col, row]

theorem read_am (M : Memref sig .tc .vmem S8x128 .f32) (L : List (View.Piece (Elt Ideal) S8x128 .f32)) (V : View sig .tc .vmem S8x128 .f32) (f : V.ty.Contents (Elt Ideal)) (v : FVec Ideal S8x128 .f32) (g : Fin 12 → Fin 8 → FVec Ideal S32x512 .f32) :
    V.read (Elt Ideal) (V.writes (Elt Ideal) f (amL M L v g 11)) = amv v g 11 := by
  unfold amL amv
  rw [amL_read]
  exact View.read_writes_full V f _ _ _
/-- The running maximum a point finds, read whole. -/
theorem rd_ra (t : Fin cfg0.N) (v : FVec Ideal S8x128 .f32) : rd (F := Ideal) (S := S8x128) (e := .f32) (ms0_14 t) (hs0_14 t) v ra = v := by
  funext j
  refine ((hs0_14 t).readAt_unread (Val := Elt Ideal) v ra.toLoadRect j).trans ?_
  show v (ra.idx j) = v j
  congr 1
  funext a
  fin_cases a <;> (apply Fin.ext; simp [Rect.idx_unit_val])
/-- A head's running maximum a point finds. -/
theorem rd_rm (t : Fin cfg0.N) (v : FVec Ideal S24x8x128 .f32) (j : Fin 24) (x : Fin 8) (y : Fin 128) :
    rd (F := Ideal) (S := S24x8x128) (e := .f32) (ms0_15 t) (hs0_15 t) v (rm j) (ix3 0 x y) = v (ix3 j x y) := by
  refine ((hs0_15 t).readAt_unread (Val := Elt Ideal) v (rm j).toLoadRect (ix3 0 x y)).trans ?_
  show v ((rm j).idx (ix3 0 x y)) = _
  rw [rm_idx]

end Cert.QkvIdeal.Val

end
-- ==== Proof.QkvHeads.lean ====
/- The stores of the attention heads' projections at a point, over the reals: codes and maxima of every head. -/
module

public import proofs.«01_k».proof.Proof.QkvAmax
public import proofs.«01_k».proof.Proof.QkvReads

@[expose] public section

set_option maxRecDepth 16384

noncomputable section

open Idealize.ShloMosaic Idealize.ShloMosaic.TcCoe Idealize.SL.Sem
open Idealize.ShloMosaic.Pipeline (Dat)

namespace Cert.QkvIdeal.Val

open Cert.QkvIdeal Cert.QkvIdeal.Gen Cert.QkvSpec

variable (m : (ℓ : Loc nD τ sig) → Buf (Elt Ideal) ℓ)

/-- The codes of point `t`'s tile. -/
abbrev cc (c : Dev nD) (t : Fin cfg0.N) (r : Fin 384) (x : Fin 4096) : EReal := cT (sB m c t 0) (nT m c t r x)
/-- The scale of head `n`'s codes at point `t`. -/
abbrev hsB (c : Dev nD) (t : Fin cfg0.N) (n : Fin 24) : EReal := (iblk m c 1 t : FVec Ideal S24 .f32) (ix1 n)
/-- `b` bounds the magnitudes of head `n` at lane `y` and the rows that are `x` modulo 8. -/
def HAbs (c : Dev nD) (t : Fin cfg0.N) (C : Fin 384 → Fin 4096 → EReal) (A B : Fin 384 → Fin 64 → EReal) (n : Fin 24) (x : Fin 8) (y : Fin 128) (b : EReal) : Prop :=
  ∀ r : Fin 384, r.val % 8 = x.val → (FloatOps.absf (F := Ideal) (φ := .f32) (hT m c t C A B n r y) : EReal) ≤ b

theorem xL_cc (c : Dev nD) (t : Fin cfg0.N) {κ : Kind} {sp : Space} (V : View sig κ sp S384x4096 .fp8e4m3) (f : V.ty.Contents (Elt Ideal)) (r : Fin 384) (x : Fin 4096) :
    (V.read (Elt Ideal) (V.writes (Elt Ideal) f (xL m c t)) (ix2 r x) : EReal) = cc m c t r x :=
  (xL_eq m c t V f r x).trans (congrArg (fun s => cT s _) (scal_eq m c t 0))
theorem xK_cc (c : Dev nD) (t : Fin cfg0.N) {κ : Kind} {sp : Space} (V : View sig κ sp S384x4096 .fp8e4m3) (f : V.ty.Contents (Elt Ideal)) (r : Fin 384) (x : Fin 4096) :
    (V.read (Elt Ideal) (V.writes (Elt Ideal) f (xK m c t)) (ix2 r x) : EReal) = cc m c t r x :=
  (xK_eq m c t V f r x).trans (congrArg (fun s => cT s _) (scal_eq m c t 0))

/-- Head `k`'s maxima as a point updates them: those of its tile into those it finds. -/
abbrev hmP (c : Dev nD) (t : Fin cfg0.N) (M : Memref sig .tc .vmem S384x4096 .fp8e4m3) (hM : M.IsWhole) (z : FVec Ideal S384x4096 .fp8e4m3) (w : FVec Ideal S24x8x128 .f32) (k : Fin 24) : FVec Ideal S1x8x128 .f32 :=
  hup (F := Ideal) (hval m c t M hM z k.val) (rd (F := Ideal) (S := S24x8x128) (e := .f32) (ms0_15 t) (hs0_15 t) w (rm k))

section Heads

variable (c : Dev nD) (t : Fin cfg0.N) (M : Memref sig .tc .vmem S384x4096 .fp8e4m3) (hM : M.IsWhole) (z : FVec Ideal S384x4096 .fp8e4m3) (C : Fin 384 → Fin 4096 → EReal) (A B : Fin 384 → Fin 64 → EReal)
    (hx : ∀ r q, (z (ix2 r q) : EReal) = C r q) (hab : Trig m c t A B)
include hx hab

theorem code_eq (k : ℕ) (hk : k < 24) (r : Fin 384) (l : Fin 128) :
    (hcod (hscal m c t (hi k)) (hval m c t M hM z k) (ix2 r l) : EReal) = cT (hsB m c t ⟨k, hk⟩) (hT m c t C A B ⟨k, hk⟩ r l) := by
  rw [hcod_eq, hscal_eq, show hi k = ⟨k, hk⟩ from Fin.ext (hi_val k hk)]
  exact congrArg (fun v : EReal => cT _ v) (hval_eq m c t M hM z C A B hx hab ⟨k, hk⟩ r l)
theorem codeT_eq (k : ℕ) (hk : k < 24) (r : Fin 384) (l : Fin 128) :
    (hcodT (hscal m c t (hi k)) (hval m c t M hM z k) (ix2 l r) : EReal) = cT (hsB m c t ⟨k, hk⟩) (hT m c t C A B ⟨k, hk⟩ r l) := by
  rw [hcodT_eq, hscal_eq, show hi k = ⟨k, hk⟩ from Fin.ext (hi_val k hk)]
  exact congrArg (fun v : EReal => cT _ v) (hval_eq m c t M hM z C A B hx hab ⟨k, hk⟩ r l)

theorem q_eq {κ : Kind} {sp : Space} (V : View sig κ sp S384x2048 .fp8e4m3) (f : V.ty.Contents (Elt Ideal)) (n : Fin 16) (r : Fin 384) (l : Fin 128) :
    (V.read (Elt Ideal) (V.writes (Elt Ideal) f (List.ofFn fun x : Fin 16 => (⟨rqh x.rev, hcod (hscal m c t (hi x.rev.val)) (hval m c t M hM z x.rev.val)⟩ : View.Piece (Elt Ideal) S384x2048 .fp8e4m3))) (ix2 r (ql n l)) : EReal)
      = cT (hsB m c t ⟨n.val, by omega⟩) (hT m c t C A B ⟨n.val, by omega⟩ r l) :=
  (read_q (e := .fp8e4m3) V f (fun k => hcod (hscal m c t (hi k)) (hval m c t M hM z k)) n r l).trans (code_eq m c t M hM z C A B hx hab n.val (by omega) r l)
theorem k_eq {κ : Kind} {sp : Space} (V : View sig κ sp S384x512 .fp8e4m3) (f : V.ty.Contents (Elt Ideal)) (n : Fin 4) (r : Fin 384) (l : Fin 128) :
    (V.read (Elt Ideal) (V.writes (Elt Ideal) f (List.ofFn fun x : Fin 4 => (⟨rkh x.rev, hcod (hscal m c t (hi (16 + x.rev.val))) (hval m c t M hM z (16 + x.rev.val))⟩ : View.Piece (Elt Ideal) S384x512 .fp8e4m3))) (ix2 r (kl n l)) : EReal)
      = cT (hsB m c t ⟨16 + n.val, by omega⟩) (hT m c t C A B ⟨16 + n.val, by omega⟩ r l) :=
  (read_k (e := .fp8e4m3) V f (fun k => hcod (hscal m c t (hi (16 + k))) (hval m c t M hM z (16 + k))) n r l).trans (code_eq m c t M hM z C A B hx hab (16 + n.val) (by omega) r l)
theorem v_eq {κ : Kind} {sp : Space} (V : View sig κ sp S384x512 .fp8e4m3) (f : V.ty.Contents (Elt Ideal)) (n : Fin 4) (r : Fin 384) (l : Fin 128) :
    (V.read (Elt Ideal) (V.writes (Elt Ideal) f (List.ofFn fun x : Fin 4 => (⟨rkh x.rev, hcod (hscal m c t (hi (20 + x.rev.val))) (hval m c t M hM z (20 + x.rev.val))⟩ : View.Piece (Elt Ideal) S384x512 .fp8e4m3))) (ix2 r (kl n l)) : EReal)
      = cT (hsB m c t ⟨20 + n.val, by omega⟩) (hT m c t C A B ⟨20 + n.val, by omega⟩ r l) :=
  (read_k (e := .fp8e4m3) V f (fun k => hcod (hscal m c t (hi (20 + k))) (hval m c t M hM z (20 + k))) n r l).trans (code_eq m c t M hM z C A B hx hab (20 + n.val) (by omega) r l)
theorem vt_eq {κ : Kind} {sp : Space} (V : View sig κ sp S512x384 .fp8e4m3) (f : V.ty.Contents (Elt Ideal)) (n : Fin 4) (r : Fin 384) (l : Fin 128) :
    (V.read (Elt Ideal) (V.writes (Elt Ideal) f (List.ofFn fun x : Fin 4 => (⟨rvt x.rev, hcodT (hscal m c t (hi (20 + x.rev.val))) (hval m c t M hM z (20 + x.rev.val))⟩ : View.Piece (Elt Ideal) S512x384 .fp8e4m3))) (ix2 (kl n l) r) : EReal)
      = cT (hsB m c t ⟨20 + n.val, by omega⟩) (hT m c t C A B ⟨20 + n.val, by omega⟩ r l) :=
  (read_vt (e := .fp8e4m3) V f (fun k => hcodT (hscal m c t (hi (20 + k))) (hval m c t M hM z (20 + k))) n r l).trans (codeT_eq m c t M hM z C A B hx hab (20 + n.val) (by omega) r l)

/-- A head's maxima as a point updates them. -/
theorem hup_eq (w : FVec Ideal S24x8x128 .f32) (n : Fin 24) (x : Fin 8) (y : Fin 128) (b : EReal) :
    (hup (hval m c t M hM z n.val) (rd (F := Ideal) (S := S24x8x128) (e := .f32) (ms0_15 t) (hs0_15 t) w (rm n)) (ix3 0 x y) : EReal) ≤ b ↔ (w (ix3 n x y) : EReal) ≤ b ∧ HAbs m c t C A B n x y b := by
  rw [hup_le]
  refine and_congr (by rw [rd_rm]) (forall_congr' fun r => forall_congr' fun _ => ?_)
  rw [hval_eq m c t M hM z C A B hx hab n r y]
/-- The pieces of the heads' maxima. -/
theorem hm_le {κ : Kind} {sp : Space} (V : View sig κ sp S24x8x128 .f32) (f : V.ty.Contents (Elt Ideal)) (w : FVec Ideal S24x8x128 .f32) (n : Fin 24) (x : Fin 8) (y : Fin 128) (b : EReal) :
    (V.read (Elt Ideal) (V.writes (Elt Ideal) f (hmL (hmP m c t M hM z w))) (ix3 n x y) : EReal) ≤ b
      ↔ (w (ix3 n x y) : EReal) ≤ b ∧ HAbs m c t C A B n x y b := by
  rw [← hup_eq m c t M hM z C A B hx hab w n x y b]
  exact iff_of_eq (congrArg (fun v : EReal => v ≤ b) (read_m V f (hmP m c t M hM z w) n x y))
/-- The same after each head's largest is spread. -/
theorem sp_le {κ : Kind} {sp : Space} (M' : Memref sig .tc .vmem S24x8x128 .f32) (V : View sig κ sp S24x8x128 .f32) (f : V.ty.Contents (Elt Ideal)) (w : FVec Ideal S24x8x128 .f32) (n : Fin 24) (x : Fin 8) (y : Fin 128) (b : EReal) :
    (V.read (Elt Ideal) (V.writes (Elt Ideal) f (spL M' (hmL (hmP m c t M hM z w)) 23)) (ix3 n x y) : EReal) ≤ b
      ↔ ∀ (x : Fin 8) (y : Fin 128), (w (ix3 n x y) : EReal) ≤ b ∧ HAbs m c t C A B n x y b := by
  refine (iff_of_eq (congrArg (fun v : EReal => v ≤ b) (read_spL M' V f (hmP m c t M hM z w) n x y))).trans ?_
  rw [hspread_le]
  exact forall_congr' fun x => forall_congr' fun y => hup_eq m c t M hM z C A B hx hab w n x y b
end Heads

end Cert.QkvIdeal.Val

end
-- ==== Proof.QkvPieceA.lean ====
/- The pieces the first point of the attention heads' projections stores. -/
module

public import proofs.«01_k».proof.Proof.QkvPieces
public import proofs.«01_k».proof.Proof.QkvFrame

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The codes the first point stores. -/
theorem runA_9 (c : Dev nD) (t : Fin cfg0.N) (h : conds0_A (grid0.coords t)) : (runA m c t h).1
    = xL m c t := by sl_kernel_rfl
/-- The codes the first point keeps. -/
theorem runA_a (c : Dev nD) (t : Fin cfg0.N) (h : conds0_A (grid0.coords t)) : (runA m c t h).2.2.2.2.2.2.2.1
    = xK m c t := by sl_kernel_rfl
/-- The stores of the first point into the running maximum. -/
theorem runA_14 (c : Dev nD) (t : Fin cfg0.N) (h : conds0_A (grid0.coords t)) : (runA m c t h).2.2.2.2.2.1
    = amL (ms0_14 t) [⟨ra, k0_pay3⟩] ((ms0_14 t).view.readCov [⟨ra, k0_pay3⟩] ra.toLoadRect) (nch m c t) 11 := by sl_kernel_rfl
/-- The store of the first point into the heads' running maxima. -/
theorem runA_15 (c : Dev nD) (t : Fin cfg0.N) (h : conds0_A (grid0.coords t)) : (runA m c t h).2.2.2.2.2.2.1
    = [⟨rmf, k0_pay4⟩] := by sl_kernel_rfl

end Cert.QkvIdeal.Gen

end
-- ==== Proof.QkvPieceB.lean ====
/- The pieces an odd point of the attention heads' projections stores. -/
module

public import proofs.«01_k».proof.Proof.QkvPieces
public import proofs.«01_k».proof.Proof.QkvFrame

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The codes an odd point stores. -/
theorem runB_9 (c : Dev nD) (t : Fin cfg0.N) (h : conds0_B (grid0.coords t)) (p : St F) : (runB m c t h p).1
    = xL m c t := by sl_kernel_rfl
/-- The codes an odd point keeps. -/
theorem runB_b (c : Dev nD) (t : Fin cfg0.N) (h : conds0_B (grid0.coords t)) (p : St F) : (runB m c t h p).2.2.2.2.2.2.2.2.1
    = xK m c t := by sl_kernel_rfl
/-- The stores of an odd point into the running maximum. -/
theorem runB_14 (c : Dev nD) (t : Fin cfg0.N) (h : conds0_B (grid0.coords t)) (p : St F) : (runB m c t h p).2.2.2.2.2.1
    = amL (ms0_14 t) [] (rd (ms0_14 t) (hs0_14 t) p.2.2.2.2.2.1 ra) (nch m c t) 11 := by sl_kernel_rfl
/-- Head `n` at an odd point. -/
abbrev hvB (c : Dev nD) (t : Fin cfg0.N) (p : St F) (n : ℕ) : FVec F S384x128 .f32 := hval m c t scM0_0 (Memref.isWhole_whole _) p.2.2.2.2.2.2.2 n
/-- The query codes an odd point stores. -/
theorem runB_10 (c : Dev nD) (t : Fin cfg0.N) (h : conds0_B (grid0.coords t)) (p : St F) : (runB m c t h p).2.1
    = List.ofFn fun x : Fin 16 => (⟨rqh x.rev, hcod (hscal m c t (hi x.rev.val)) (hvB m c t p x.rev.val)⟩ : View.Piece (Elt F) S384x2048 .fp8e4m3) := by sl_kernel_rfl
/-- The key codes an odd point stores. -/
theorem runB_11 (c : Dev nD) (t : Fin cfg0.N) (h : conds0_B (grid0.coords t)) (p : St F) : (runB m c t h p).2.2.1
    = List.ofFn fun x : Fin 4 => (⟨rkh x.rev, hcod (hscal m c t (hi (16 + x.rev.val))) (hvB m c t p (16 + x.rev.val))⟩ : View.Piece (Elt F) S384x512 .fp8e4m3) := by sl_kernel_rfl
/-- The value codes an odd point stores. -/
theorem runB_12 (c : Dev nD) (t : Fin cfg0.N) (h : conds0_B (grid0.coords t)) (p : St F) : (runB m c t h p).2.2.2.1
    = List.ofFn fun x : Fin 4 => (⟨rkh x.rev, hcod (hscal m c t (hi (20 + x.rev.val))) (hvB m c t p (20 + x.rev.val))⟩ : View.Piece (Elt F) S384x512 .fp8e4m3) := by sl_kernel_rfl
/-- The transposed value codes an odd point stores. -/
theorem runB_13 (c : Dev nD) (t : Fin cfg0.N) (h : conds0_B (grid0.coords t)) (p : St F) : (runB m c t h p).2.2.2.2.1
    = List.ofFn fun x : Fin 4 => (⟨rvt x.rev, hcodT (hscal m c t (hi (20 + x.rev.val))) (hvB m c t p (20 + x.rev.val))⟩ : View.Piece (Elt F) S512x384 .fp8e4m3) := by sl_kernel_rfl
/-- The stores of an odd point into the heads' running maxima. -/
theorem runB_15 (c : Dev nD) (t : Fin cfg0.N) (h : conds0_B (grid0.coords t)) (p : St F) : (runB m c t h p).2.2.2.2.2.2.1
    = (List.ofFn fun x : Fin 24 => (⟨rm x.rev, hup (hvB m c t p x.rev.val) (rd (ms0_15 t) (hs0_15 t) p.2.2.2.2.2.2.1 (rm x.rev))⟩ : View.Piece (Elt F) S24x8x128 .f32)) := by sl_kernel_rfl

end Cert.QkvIdeal.Gen

end
-- ==== Proof.QkvPieceC.lean ====
/- The pieces an even point inside of the attention heads' projections stores. -/
module

public import proofs.«01_k».proof.Proof.QkvPieces
public import proofs.«01_k».proof.Proof.QkvFrame

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The codes an even point inside stores. -/
theorem runC_9 (c : Dev nD) (t : Fin cfg0.N) (h : conds0_C (grid0.coords t)) (p : St F) : (runC m c t h p).1
    = xL m c t := by sl_kernel_rfl
/-- The codes an even point inside keeps. -/
theorem runC_a (c : Dev nD) (t : Fin cfg0.N) (h : conds0_C (grid0.coords t)) (p : St F) : (runC m c t h p).2.2.2.2.2.2.2.1
    = xK m c t := by sl_kernel_rfl
/-- The stores of an even point inside into the running maximum. -/
theorem runC_14 (c : Dev nD) (t : Fin cfg0.N) (h : conds0_C (grid0.coords t)) (p : St F) : (runC m c t h p).2.2.2.2.2.1
    = amL (ms0_14 t) [] (rd (ms0_14 t) (hs0_14 t) p.2.2.2.2.2.1 ra) (nch m c t) 11 := by sl_kernel_rfl
/-- Head `n` at an even point inside. -/
abbrev hvC (c : Dev nD) (t : Fin cfg0.N) (p : St F) (n : ℕ) : FVec F S384x128 .f32 := hval m c t scM0_1 (Memref.isWhole_whole _) p.2.2.2.2.2.2.2 n
/-- The query codes an even point inside stores. -/
theorem runC_10 (c : Dev nD) (t : Fin cfg0.N) (h : conds0_C (grid0.coords t)) (p : St F) : (runC m c t h p).2.1
    = List.ofFn fun x : Fin 16 => (⟨rqh x.rev, hcod (hscal m c t (hi x.rev.val)) (hvC m c t p x.rev.val)⟩ : View.Piece (Elt F) S384x2048 .fp8e4m3) := by sl_kernel_rfl
/-- The key codes an even point inside stores. -/
theorem runC_11 (c : Dev nD) (t : Fin cfg0.N) (h : conds0_C (grid0.coords t)) (p : St F) : (runC m c t h p).2.2.1
    = List.ofFn fun x : Fin 4 => (⟨rkh x.rev, hcod (hscal m c t (hi (16 + x.rev.val))) (hvC m c t p (16 + x.rev.val))⟩ : View.Piece (Elt F) S384x512 .fp8e4m3) := by sl_kernel_rfl
/-- The value codes an even point inside stores. -/
theorem runC_12 (c : Dev nD) (t : Fin cfg0.N) (h : conds0_C (grid0.coords t)) (p : St F) : (runC m c t h p).2.2.2.1
    = List.ofFn fun x : Fin 4 => (⟨rkh x.rev, hcod (hscal m c t (hi (20 + x.rev.val))) (hvC m c t p (20 + x.rev.val))⟩ : View.Piece (Elt F) S384x512 .fp8e4m3) := by sl_kernel_rfl
/-- The transposed value codes an even point inside stores. -/
theorem runC_13 (c : Dev nD) (t : Fin cfg0.N) (h : conds0_C (grid0.coords t)) (p : St F) : (runC m c t h p).2.2.2.2.1
    = List.ofFn fun x : Fin 4 => (⟨rvt x.rev, hcodT (hscal m c t (hi (20 + x.rev.val))) (hvC m c t p (20 + x.rev.val))⟩ : View.Piece (Elt F) S512x384 .fp8e4m3) := by sl_kernel_rfl
/-- The stores of an even point inside into the heads' running maxima. -/
theorem runC_15 (c : Dev nD) (t : Fin cfg0.N) (h : conds0_C (grid0.coords t)) (p : St F) : (runC m c t h p).2.2.2.2.2.2.1
    = (List.ofFn fun x : Fin 24 => (⟨rm x.rev, hup (hvC m c t p x.rev.val) (rd (ms0_15 t) (hs0_15 t) p.2.2.2.2.2.2.1 (rm x.rev))⟩ : View.Piece (Elt F) S24x8x128 .f32)) := by sl_kernel_rfl

end Cert.QkvIdeal.Gen

end
-- ==== Proof.QkvPieceD.lean ====
/- The pieces the last point of the attention heads' projections stores. -/
module

public import proofs.«01_k».proof.Proof.QkvPieces
public import proofs.«01_k».proof.Proof.QkvFrame

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The codes the last point stores. -/
theorem runD_9 (c : Dev nD) (t : Fin cfg0.N) (h : conds0_D (grid0.coords t)) (p : St F) : (runD m c t h p).1
    = xL m c t := by sl_kernel_rfl
/-- The codes the last point keeps. -/
theorem runD_a (c : Dev nD) (t : Fin cfg0.N) (h : conds0_D (grid0.coords t)) (p : St F) : (runD m c t h p).2.2.2.2.2.2.2.1
    = xK m c t := by sl_kernel_rfl
/-- The stores of the last point into the running maximum. -/
theorem runD_14 (c : Dev nD) (t : Fin cfg0.N) (h : conds0_D (grid0.coords t)) (p : St F) : (runD m c t h p).2.2.2.2.2.1
    = ⟨ra, spread ((ms0_14 t).view.readCov (amL (ms0_14 t) [] (rd (ms0_14 t) (hs0_14 t) p.2.2.2.2.2.1 ra) (nch m c t) 11) ra.toLoadRect)⟩ :: amL (ms0_14 t) [] (rd (ms0_14 t) (hs0_14 t) p.2.2.2.2.2.1 ra) (nch m c t) 11 := by sl_kernel_rfl
/-- Head `n` at the last point. -/
abbrev hvD (c : Dev nD) (t : Fin cfg0.N) (p : St F) (n : ℕ) : FVec F S384x128 .f32 := hval m c t scM0_1 (Memref.isWhole_whole _) p.2.2.2.2.2.2.2 n
/-- The query codes the last point stores. -/
theorem runD_10 (c : Dev nD) (t : Fin cfg0.N) (h : conds0_D (grid0.coords t)) (p : St F) : (runD m c t h p).2.1
    = List.ofFn fun x : Fin 16 => (⟨rqh x.rev, hcod (hscal m c t (hi x.rev.val)) (hvD m c t p x.rev.val)⟩ : View.Piece (Elt F) S384x2048 .fp8e4m3) := by sl_kernel_rfl
/-- The key codes the last point stores. -/
theorem runD_11 (c : Dev nD) (t : Fin cfg0.N) (h : conds0_D (grid0.coords t)) (p : St F) : (runD m c t h p).2.2.1
    = List.ofFn fun x : Fin 4 => (⟨rkh x.rev, hcod (hscal m c t (hi (16 + x.rev.val))) (hvD m c t p (16 + x.rev.val))⟩ : View.Piece (Elt F) S384x512 .fp8e4m3) := by sl_kernel_rfl
/-- The value codes the last point stores. -/
theorem runD_12 (c : Dev nD) (t : Fin cfg0.N) (h : conds0_D (grid0.coords t)) (p : St F) : (runD m c t h p).2.2.2.1
    = List.ofFn fun x : Fin 4 => (⟨rkh x.rev, hcod (hscal m c t (hi (20 + x.rev.val))) (hvD m c t p (20 + x.rev.val))⟩ : View.Piece (Elt F) S384x512 .fp8e4m3) := by sl_kernel_rfl
/-- The transposed value codes the last point stores. -/
theorem runD_13 (c : Dev nD) (t : Fin cfg0.N) (h : conds0_D (grid0.coords t)) (p : St F) : (runD m c t h p).2.2.2.2.1
    = List.ofFn fun x : Fin 4 => (⟨rvt x.rev, hcodT (hscal m c t (hi (20 + x.rev.val))) (hvD m c t p (20 + x.rev.val))⟩ : View.Piece (Elt F) S512x384 .fp8e4m3) := by sl_kernel_rfl
/-- The stores of the last point into the heads' running maxima. -/
theorem runD_15 (c : Dev nD) (t : Fin cfg0.N) (h : conds0_D (grid0.coords t)) (p : St F) : (runD m c t h p).2.2.2.2.2.2.1
    = spL (ms0_15 t) (List.ofFn fun x : Fin 24 => (⟨rm x.rev, hup (hvD m c t p x.rev.val) (rd (ms0_15 t) (hs0_15 t) p.2.2.2.2.2.2.1 (rm x.rev))⟩ : View.Piece (Elt F) S24x8x128 .f32)) 23 := by sl_kernel_rfl

end Cert.QkvIdeal.Gen

end
-- ==== Proof.QkvOuts.lean ====
/- What each point of the attention heads' projections leaves in its buffers, over the reals. -/
module

public import proofs.«01_k».proof.Proof.QkvHeads
public import proofs.«01_k».proof.Proof.QkvPieceA
public import proofs.«01_k».proof.Proof.QkvPieceB
public import proofs.«01_k».proof.Proof.QkvPieceC
public import proofs.«01_k».proof.Proof.QkvPieceD

@[expose] public section

set_option maxRecDepth 16384

noncomputable section

open Idealize.ShloMosaic Idealize.ShloMosaic.TcCoe Idealize.SL.Sem
open Idealize.ShloMosaic.Pipeline (Dat)

namespace Cert.QkvIdeal.Val

open Cert.QkvIdeal Cert.QkvIdeal.Gen Cert.QkvSpec

variable (m : (ℓ : Loc nD τ sig) → Buf (Elt Ideal) ℓ)

/-- The scratch tile of `p` holds the codes `C`. -/
def Holds (p : St Ideal) (C : Fin 384 → Fin 4096 → EReal) : Prop := ∀ r x, (p.2.2.2.2.2.2.2 (ix2 r x) : EReal) = C r x

/-- The first point keeps its tile's codes. -/
theorem holdsA (c : Dev nD) (t : Fin cfg0.N) (h : conds0_A (grid0.coords t)) : Holds (stA m c t h) (cc m c t) := by
  unfold Holds stA
  dsimp only
  intro r x
  unfold outA_b
  rw [runA_a]
  exact xK_cc m c t _ _ r x
/-- The first point leaves its tile's codes. -/
theorem codesA (c : Dev nD) (t : Fin cfg0.N) (h : conds0_A (grid0.coords t)) (r : Fin 384) (x : Fin 4096) : ((stA m c t h).1 (ix2 r x) : EReal) = cc m c t r x := by
  unfold stA
  dsimp only
  unfold outA_9
  rw [runA_9]
  exact xL_cc m c t _ _ r x
/-- The first point takes the magnitudes of its tile into a maximum that begins at zero. -/
theorem amaxA (c : Dev nD) (t : Fin cfg0.N) (h : conds0_A (grid0.coords t)) (j : S8x128.Idx) (b : EReal) :
    ((stA m c t h).2.2.2.2.2.1 j : EReal) ≤ b ↔ 0 ≤ b ∧ AbsLe (nT m c t) j b := by
  unfold stA
  dsimp only
  unfold outA_14
  rw [runA_14, read_am, amv_tile _ _ _ (nch_eq m c t) j b, View.readCov_full, pay3_zero]
  exact and_self_left
/-- The first point leaves the heads' maxima at zero. -/
theorem hmaxA (c : Dev nD) (t : Fin cfg0.N) (h : conds0_A (grid0.coords t)) (j : S24x8x128.Idx) : ((stA m c t h).2.2.2.2.2.2.1 j : EReal) = 0 := by
  unfold stA
  dsimp only
  unfold outA_15
  rw [runA_15, View.read_writes_full]
  exact pay4_zero j

/-- An odd point keeps its tile's codes. -/
theorem holdsB (c : Dev nD) (t : Fin cfg0.N) (h : conds0_B (grid0.coords t)) (p : St Ideal) : Holds (stB m c t h p) (cc m c t) := by
  unfold Holds stB
  dsimp only
  intro r x
  unfold outB_b
  rw [runB_b]
  exact xK_cc m c t _ _ r x
/-- An odd point leaves its tile's codes. -/
theorem codesB (c : Dev nD) (t : Fin cfg0.N) (h : conds0_B (grid0.coords t)) (p : St Ideal) (r : Fin 384) (x : Fin 4096) : ((stB m c t h p).1 (ix2 r x) : EReal) = cc m c t r x := by
  unfold stB
  dsimp only
  unfold outB_9
  rw [runB_9]
  exact xL_cc m c t _ _ r x
/-- An odd point takes the magnitudes of its tile into the running maximum. -/
theorem amaxB (c : Dev nD) (t : Fin cfg0.N) (h : conds0_B (grid0.coords t)) (p : St Ideal) (j : S8x128.Idx) (b : EReal) :
    ((stB m c t h p).2.2.2.2.2.1 j : EReal) ≤ b ↔ (p.2.2.2.2.2.1 j : EReal) ≤ b ∧ 0 ≤ b ∧ AbsLe (nT m c t) j b := by
  unfold stB
  dsimp only
  unfold outB_14
  rw [runB_14, read_am, rd_ra]
  exact amv_tile _ _ _ (nch_eq m c t) j b
/-- An odd point leaves the query codes of the tile the point before kept. -/
theorem qB (c : Dev nD) (t : Fin cfg0.N) (h : conds0_B (grid0.coords t)) (p : St Ideal) (C : Fin 384 → Fin 4096 → EReal) (A B : Fin 384 → Fin 64 → EReal) (hp : Holds p C) (hab : Trig m c t A B) (n : Fin 16) (r : Fin 384) (l : Fin 128) :
    ((stB m c t h p).2.1 (ix2 r (ql n l)) : EReal) = cT (hsB m c t ⟨n.val, by omega⟩) (hT m c t C A B ⟨n.val, by omega⟩ r l) := by
  unfold stB
  dsimp only
  unfold outB_10
  rw [runB_10]
  exact q_eq m c t scM0_0 (Memref.isWhole_whole _) p.2.2.2.2.2.2.2 C A B hp hab _ _ n r l
/-- An odd point leaves the key codes of the tile the point before kept. -/
theorem kB (c : Dev nD) (t : Fin cfg0.N) (h : conds0_B (grid0.coords t)) (p : St Ideal) (C : Fin 384 → Fin 4096 → EReal) (A B : Fin 384 → Fin 64 → EReal) (hp : Holds p C) (hab : Trig m c t A B) (n : Fin 4) (r : Fin 384) (l : Fin 128) :
    ((stB m c t h p).2.2.1 (ix2 r (kl n l)) : EReal) = cT (hsB m c t ⟨16 + n.val, by omega⟩) (hT m c t C A B ⟨16 + n.val, by omega⟩ r l) := by
  unfold stB
  dsimp only
  unfold outB_11
  rw [runB_11]
  exact k_eq m c t scM0_0 (Memref.isWhole_whole _) p.2.2.2.2.2.2.2 C A B hp hab _ _ n r l
/-- An odd point leaves the value codes of the tile the point before kept. -/
theorem vB (c : Dev nD) (t : Fin cfg0.N) (h : conds0_B (grid0.coords t)) (p : St Ideal) (C : Fin 384 → Fin 4096 → EReal) (A B : Fin 384 → Fin 64 → EReal) (hp : Holds p C) (hab : Trig m c t A B) (n : Fin 4) (r : Fin 384) (l : Fin 128) :
    ((stB m c t h p).2.2.2.1 (ix2 r (kl n l)) : EReal) = cT (hsB m c t ⟨20 + n.val, by omega⟩) (hT m c t C A B ⟨20 + n.val, by omega⟩ r l) := by
  unfold stB
  dsimp only
  unfold outB_12
  rw [runB_12]
  exact v_eq m c t scM0_0 (Memref.isWhole_whole _) p.2.2.2.2.2.2.2 C A B hp hab _ _ n r l
/-- An odd point leaves the transposed value codes of the tile the point before kept. -/
theorem vtB (c : Dev nD) (t : Fin cfg0.N) (h : conds0_B (grid0.coords t)) (p : St Ideal) (C : Fin 384 → Fin 4096 → EReal) (A B : Fin 384 → Fin 64 → EReal) (hp : Holds p C) (hab : Trig m c t A B) (n : Fin 4) (r : Fin 384) (l : Fin 128) :
    ((stB m c t h p).2.2.2.2.1 (ix2 (kl n l) r) : EReal) = cT (hsB m c t ⟨20 + n.val, by omega⟩) (hT m c t C A B ⟨20 + n.val, by omega⟩ r l) := by
  unfold stB
  dsimp only
  unfold outB_13
  rw [runB_13]
  exact vt_eq m c t scM0_0 (Memref.isWhole_whole _) p.2.2.2.2.2.2.2 C A B hp hab _ _ n r l
/-- An odd point takes the magnitudes of those heads into the running maxima. -/
theorem hmaxB (c : Dev nD) (t : Fin cfg0.N) (h : conds0_B (grid0.coords t)) (p : St Ideal) (C : Fin 384 → Fin 4096 → EReal) (A B : Fin 384 → Fin 64 → EReal) (hp : Holds p C) (hab : Trig m c t A B) (n : Fin 24) (x : Fin 8) (y : Fin 128) (b : EReal) :
    ((stB m c t h p).2.2.2.2.2.2.1 (ix3 n x y) : EReal) ≤ b ↔ (p.2.2.2.2.2.2.1 (ix3 n x y) : EReal) ≤ b ∧ HAbs m c t C A B n x y b := by
  unfold stB
  dsimp only
  unfold outB_15
  rw [runB_15]
  exact hm_le m c t scM0_0 (Memref.isWhole_whole _) p.2.2.2.2.2.2.2 C A B hp hab _ _ _ n x y b

/-- An even point inside keeps its tile's codes. -/
theorem holdsC (c : Dev nD) (t : Fin cfg0.N) (h : conds0_C (grid0.coords t)) (p : St Ideal) : Holds (stC m c t h p) (cc m c t) := by
  unfold Holds stC
  dsimp only
  intro r x
  unfold outC_b
  rw [runC_a]
  exact xK_cc m c t _ _ r x
/-- An even point inside leaves its tile's codes. -/
theorem codesC (c : Dev nD) (t : Fin cfg0.N) (h : conds0_C (grid0.coords t)) (p : St Ideal) (r : Fin 384) (x : Fin 4096) : ((stC m c t h p).1 (ix2 r x) : EReal) = cc m c t r x := by
  unfold stC
  dsimp only
  unfold outC_9
  rw [runC_9]
  exact xL_cc m c t _ _ r x
/-- An even point inside takes the magnitudes of its tile into the running maximum. -/
theorem amaxC (c : Dev nD) (t : Fin cfg0.N) (h : conds0_C (grid0.coords t)) (p : St Ideal) (j : S8x128.Idx) (b : EReal) :
    ((stC m c t h p).2.2.2.2.2.1 j : EReal) ≤ b ↔ (p.2.2.2.2.2.1 j : EReal) ≤ b ∧ 0 ≤ b ∧ AbsLe (nT m c t) j b := by
  unfold stC
  dsimp only
  unfold outC_14
  rw [runC_14, read_am, rd_ra]
  exact amv_tile _ _ _ (nch_eq m c t) j b
/-- An even point inside leaves the query codes of the tile the point before kept. -/
theorem qC (c : Dev nD) (t : Fin cfg0.N) (h : conds0_C (grid0.coords t)) (p : St Ideal) (C : Fin 384 → Fin 4096 → EReal) (A B : Fin 384 → Fin 64 → EReal) (hp : Holds p C) (hab : Trig m c t A B) (n : Fin 16) (r : Fin 384) (l : Fin 128) :
    ((stC m c t h p).2.1 (ix2 r (ql n l)) : EReal) = cT (hsB m c t ⟨n.val, by omega⟩) (hT m c t C A B ⟨n.val, by omega⟩ r l) := by
  unfold stC
  dsimp only
  unfold outC_10
  rw [runC_10]
  exact q_eq m c t scM0_1 (Memref.isWhole_whole _) p.2.2.2.2.2.2.2 C A B hp hab _ _ n r l
/-- An even point inside leaves the key codes of the tile the point before kept. -/
theorem kC (c : Dev nD) (t : Fin cfg0.N) (h : conds0_C (grid0.coords t)) (p : St Ideal) (C : Fin 384 → Fin 4096 → EReal) (A B : Fin 384 → Fin 64 → EReal) (hp : Holds p C) (hab : Trig m c t A B) (n : Fin 4) (r : Fin 384) (l : Fin 128) :
    ((stC m c t h p).2.2.1 (ix2 r (kl n l)) : EReal) = cT (hsB m c t ⟨16 + n.val, by omega⟩) (hT m c t C A B ⟨16 + n.val, by omega⟩ r l) := by
  unfold stC
  dsimp only
  unfold outC_11
  rw [runC_11]
  exact k_eq m c t scM0_1 (Memref.isWhole_whole _) p.2.2.2.2.2.2.2 C A B hp hab _ _ n r l
/-- An even point inside leaves the value codes of the tile the point before kept. -/
theorem vC (c : Dev nD) (t : Fin cfg0.N) (h : conds0_C (grid0.coords t)) (p : St Ideal) (C : Fin 384 → Fin 4096 → EReal) (A B : Fin 384 → Fin 64 → EReal) (hp : Holds p C) (hab : Trig m c t A B) (n : Fin 4) (r : Fin 384) (l : Fin 128) :
    ((stC m c t h p).2.2.2.1 (ix2 r (kl n l)) : EReal) = cT (hsB m c t ⟨20 + n.val, by omega⟩) (hT m c t C A B ⟨20 + n.val, by omega⟩ r l) := by
  unfold stC
  dsimp only
  unfold outC_12
  rw [runC_12]
  exact v_eq m c t scM0_1 (Memref.isWhole_whole _) p.2.2.2.2.2.2.2 C A B hp hab _ _ n r l
/-- An even point inside leaves the transposed value codes of the tile the point before kept. -/
theorem vtC (c : Dev nD) (t : Fin cfg0.N) (h : conds0_C (grid0.coords t)) (p : St Ideal) (C : Fin 384 → Fin 4096 → EReal) (A B : Fin 384 → Fin 64 → EReal) (hp : Holds p C) (hab : Trig m c t A B) (n : Fin 4) (r : Fin 384) (l : Fin 128) :
    ((stC m c t h p).2.2.2.2.1 (ix2 (kl n l) r) : EReal) = cT (hsB m c t ⟨20 + n.val, by omega⟩) (hT m c t C A B ⟨20 + n.val, by omega⟩ r l) := by
  unfold stC
  dsimp only
  unfold outC_13
  rw [runC_13]
  exact vt_eq m c t scM0_1 (Memref.isWhole_whole _) p.2.2.2.2.2.2.2 C A B hp hab _ _ n r l
/-- An even point inside takes the magnitudes of those heads into the running maxima. -/
theorem hmaxC (c : Dev nD) (t : Fin cfg0.N) (h : conds0_C (grid0.coords t)) (p : St Ideal) (C : Fin 384 → Fin 4096 → EReal) (A B : Fin 384 → Fin 64 → EReal) (hp : Holds p C) (hab : Trig m c t A B) (n : Fin 24) (x : Fin 8) (y : Fin 128) (b : EReal) :
    ((stC m c t h p).2.2.2.2.2.2.1 (ix3 n x y) : EReal) ≤ b ↔ (p.2.2.2.2.2.2.1 (ix3 n x y) : EReal) ≤ b ∧ HAbs m c t C A B n x y b := by
  unfold stC
  dsimp only
  unfold outC_15
  rw [runC_15]
  exact hm_le m c t scM0_1 (Memref.isWhole_whole _) p.2.2.2.2.2.2.2 C A B hp hab _ _ _ n x y b

/-- The last point keeps its tile's codes. -/
theorem holdsD (c : Dev nD) (t : Fin cfg0.N) (h : conds0_D (grid0.coords t)) (p : St Ideal) : Holds (stD m c t h p) (cc m c t) := by
  unfold Holds stD
  dsimp only
  intro r x
  unfold outD_b
  rw [runD_a]
  exact xK_cc m c t _ _ r x
/-- The last point leaves its tile's codes. -/
theorem codesD (c : Dev nD) (t : Fin cfg0.N) (h : conds0_D (grid0.coords t)) (p : St Ideal) (r : Fin 384) (x : Fin 4096) : ((stD m c t h p).1 (ix2 r x) : EReal) = cc m c t r x := by
  unfold stD
  dsimp only
  unfold outD_9
  rw [runD_9]
  exact xL_cc m c t _ _ r x
/-- The last point takes the magnitudes of its tile into the running maximum and spreads the largest. -/
theorem amaxD (c : Dev nD) (t : Fin cfg0.N) (h : conds0_D (grid0.coords t)) (p : St Ideal) (j : S8x128.Idx) (b : EReal) :
    ((stD m c t h p).2.2.2.2.2.1 j : EReal) ≤ b ↔ ∀ j, (p.2.2.2.2.2.1 j : EReal) ≤ b ∧ 0 ≤ b ∧ AbsLe (nT m c t) j b := by
  unfold stD
  dsimp only
  unfold outD_14
  rw [runD_14, View.read_writes_full, amL_read, rd_ra, spread_le]
  exact forall_congr' fun j => amv_tile _ _ _ (nch_eq m c t) j b
/-- The last point leaves the query codes of the tile the point before kept. -/
theorem qD (c : Dev nD) (t : Fin cfg0.N) (h : conds0_D (grid0.coords t)) (p : St Ideal) (C : Fin 384 → Fin 4096 → EReal) (A B : Fin 384 → Fin 64 → EReal) (hp : Holds p C) (hab : Trig m c t A B) (n : Fin 16) (r : Fin 384) (l : Fin 128) :
    ((stD m c t h p).2.1 (ix2 r (ql n l)) : EReal) = cT (hsB m c t ⟨n.val, by omega⟩) (hT m c t C A B ⟨n.val, by omega⟩ r l) := by
  unfold stD
  dsimp only
  unfold outD_10
  rw [runD_10]
  exact q_eq m c t scM0_1 (Memref.isWhole_whole _) p.2.2.2.2.2.2.2 C A B hp hab _ _ n r l
/-- The last point leaves the key codes of the tile the point before kept. -/
theorem kD (c : Dev nD) (t : Fin cfg0.N) (h : conds0_D (grid0.coords t)) (p : St Ideal) (C : Fin 384 → Fin 4096 → EReal) (A B : Fin 384 → Fin 64 → EReal) (hp : Holds p C) (hab : Trig m c t A B) (n : Fin 4) (r : Fin 384) (l : Fin 128) :
    ((stD m c t h p).2.2.1 (ix2 r (kl n l)) : EReal) = cT (hsB m c t ⟨16 + n.val, by omega⟩) (hT m c t C A B ⟨16 + n.val, by omega⟩ r l) := by
  unfold stD
  dsimp only
  unfold outD_11
  rw [runD_11]
  exact k_eq m c t scM0_1 (Memref.isWhole_whole _) p.2.2.2.2.2.2.2 C A B hp hab _ _ n r l
/-- The last point leaves the value codes of the tile the point before kept. -/
theorem vD (c : Dev nD) (t : Fin cfg0.N) (h : conds0_D (grid0.coords t)) (p : St Ideal) (C : Fin 384 → Fin 4096 → EReal) (A B : Fin 384 → Fin 64 → EReal) (hp : Holds p C) (hab : Trig m c t A B) (n : Fin 4) (r : Fin 384) (l : Fin 128) :
    ((stD m c t h p).2.2.2.1 (ix2 r (kl n l)) : EReal) = cT (hsB m c t ⟨20 + n.val, by omega⟩) (hT m c t C A B ⟨20 + n.val, by omega⟩ r l) := by
  unfold stD
  dsimp only
  unfold outD_12
  rw [runD_12]
  exact v_eq m c t scM0_1 (Memref.isWhole_whole _) p.2.2.2.2.2.2.2 C A B hp hab _ _ n r l
/-- The last point leaves the transposed value codes of the tile the point before kept. -/
theorem vtD (c : Dev nD) (t : Fin cfg0.N) (h : conds0_D (grid0.coords t)) (p : St Ideal) (C : Fin 384 → Fin 4096 → EReal) (A B : Fin 384 → Fin 64 → EReal) (hp : Holds p C) (hab : Trig m c t A B) (n : Fin 4) (r : Fin 384) (l : Fin 128) :
    ((stD m c t h p).2.2.2.2.1 (ix2 (kl n l) r) : EReal) = cT (hsB m c t ⟨20 + n.val, by omega⟩) (hT m c t C A B ⟨20 + n.val, by omega⟩ r l) := by
  unfold stD
  dsimp only
  unfold outD_13
  rw [runD_13]
  exact vt_eq m c t scM0_1 (Memref.isWhole_whole _) p.2.2.2.2.2.2.2 C A B hp hab _ _ n r l
/-- The last point takes the magnitudes of those heads into the running maxima and spreads each head's largest. -/
theorem hmaxD (c : Dev nD) (t : Fin cfg0.N) (h : conds0_D (grid0.coords t)) (p : St Ideal) (C : Fin 384 → Fin 4096 → EReal) (A B : Fin 384 → Fin 64 → EReal) (hp : Holds p C) (hab : Trig m c t A B) (n : Fin 24) (x : Fin 8) (y : Fin 128) (b : EReal) :
    ((stD m c t h p).2.2.2.2.2.2.1 (ix3 n x y) : EReal) ≤ b ↔ ∀ (x : Fin 8) (y : Fin 128), (p.2.2.2.2.2.2.1 (ix3 n x y) : EReal) ≤ b ∧ HAbs m c t C A B n x y b := by
  unfold stD
  dsimp only
  unfold outD_15
  rw [runD_15]
  exact sp_le m c t scM0_1 (Memref.isWhole_whole _) p.2.2.2.2.2.2.2 C A B hp hab _ _ _ _ n x y b

end Cert.QkvIdeal.Val

end
-- ==== Proof.QkvArrays.lean ====
/- The arrays the attention heads' projections end with, as functions of the arrays they are given. -/
module

public import proofs.«01_k».proof.Proof.QkvSpec
public import Idealize.ShloMosaic.Lib.Pipeline.ValueKit
public import Idealize.ShloMosaic.Lib.Pointwise

@[expose] public section

noncomputable section

open Idealize.ShloMosaic

namespace Cert.QkvSpec

/-- The arguments of the arrays given. -/
def args (x : FVec Ideal ⟨2, ![7680, 4096]⟩ .bf16) (g : FVec Ideal ⟨1, ![4096]⟩ .f32) (qg kg : FVec Ideal ⟨1, ![128]⟩ .f32) (sx : FVec Ideal ⟨1, ![1]⟩ .f32) (sq : FVec Ideal ⟨1, ![16]⟩ .f32)
    (sk sv : FVec Ideal ⟨1, ![4]⟩ .f32) (w : FVec Ideal ⟨2, ![4096, 3072]⟩ .fp8e4m3) (sw : FVec Ideal ⟨1, ![1]⟩ .f32) (co si : FVec Ideal ⟨3, ![2, 1920, 64]⟩ .f32) : Args where
  X r q := x (ix2 r q)
  G q := g (ix1 q)
  QG l := qg (ix1 l)
  KG l := kg (ix1 l)
  sx := sx (ix1 0)
  sq h := sq (ix1 h)
  sk h := sk (ix1 h)
  sv h := sv (ix1 h)
  W k j := w (ix2 k j)
  sw := sw (ix1 0)
  cos b p l := co (ix3 b p l)
  sin b p l := si (ix3 b p l)

/-- The head of a column of the heads' arrays, and its lane. -/
abbrev hd (N : ℕ) (q : Fin (N * 128)) : Fin N := ⟨q.val / 128, by omega⟩
abbrev ln (N : ℕ) (q : Fin (N * 128)) : Fin 128 := ⟨q.val % 128, by omega⟩

/-- The codes of the normalised input. -/
def xA (A : Args) : FVec Ideal ⟨2, ![7680, 4096]⟩ .fp8e4m3 := fun i => (xc A (i 0) (i 1) : EReal)
/-- The codes of the query heads, side by side. -/
def qA (A : Args) : FVec Ideal ⟨2, ![7680, 2048]⟩ .fp8e4m3 := fun i => (qc A (i 0) (hd 16 (i 1)) (ln 16 (i 1)) : EReal)
/-- The codes of the key heads. -/
def kA (A : Args) : FVec Ideal ⟨2, ![7680, 512]⟩ .fp8e4m3 := fun i => (kc A (i 0) (hd 4 (i 1)) (ln 4 (i 1)) : EReal)
/-- The codes of the value heads. -/
def vA (A : Args) : FVec Ideal ⟨2, ![7680, 512]⟩ .fp8e4m3 := fun i => (vc A (i 0) (hd 4 (i 1)) (ln 4 (i 1)) : EReal)
/-- The codes of the value heads, transposed. -/
def vtA (A : Args) : FVec Ideal ⟨2, ![512, 7680]⟩ .fp8e4m3 := fun i => (vc A (i 1) (hd 4 (i 0)) (ln 4 (i 0)) : EReal)
/-- The largest magnitude of the normalised input, at every entry. -/
def mA (A : Args) : FVec Ideal ⟨2, ![8, 128]⟩ .f32 := fun _ => (xm A : EReal)
/-- The largest magnitude of each head, at every entry of its tile. -/
def hA (A : Args) : FVec Ideal ⟨3, ![24, 8, 128]⟩ .f32 := fun i => (hm A (i 0) : EReal)

end Cert.QkvSpec

end
-- ==== Proof.QkvEntry.lean ====
/- What the blocks of the attention heads' projections hold, in terms of the program's arguments. -/
module

public import proofs.«01_k».proof.Proof.QkvHeads
public import proofs.«01_k».proof.Proof.QkvArrays
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.QkvIdeal.Val

open Cert.QkvIdeal Cert.QkvIdeal.Gen Cert.QkvSpec

variable (m : (ℓ : Loc nD τ sig) → Buf (Elt Ideal) ℓ)

/-- The blocks of the windows at a point. -/
theorem idx : ∀ t : Fin cfg0.N, win0_0.index t = ![0] ∧ win0_1.index t = ![0] ∧ win0_2.index t = ![min t.val 19, 0] ∧ win0_3.index t = ![0, 0] ∧ win0_4.index t = ![0, 0]
    ∧ win0_5.index t = ![(t.val - 1) / 10 * 5 + (t.val - 1) % 5, 0] ∧ win0_6.index t = ![(t.val - 1) / 10 * 5 + (t.val - 1) % 5, 0] ∧ win0_7.index t = ![0, 0] ∧ win0_8.index t = ![0, 0]
    ∧ win0_9.index t = ![min t.val 19, 0] ∧ win0_10.index t = ![t.val - 1, 0] ∧ win0_11.index t = ![t.val - 1, 0] ∧ win0_12.index t = ![t.val - 1, 0] ∧ win0_13.index t = ![0, t.val - 1]
    ∧ win0_14.index t = ![0, 0] ∧ win0_15.index t = ![0, 0, 0] :=
  (by decide +kernel : ∀ t : Fin grid0.N, _)

/-- The program's arguments. -/
abbrev ag (c : Dev nD) : Args := args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem emb0 (t : Fin cfg0.N) (y : S2.Idx) : (win0_0.blk t).view.emb y = y := by
  blk_ext [idx t]
theorem emb1 (t : Fin cfg0.N) (y : S24.Idx) : (win0_1.blk t).view.emb y = y := by
  blk_ext [idx t]
theorem emb3 (t : Fin cfg0.N) (y : S1x4096.Idx) : (win0_3.blk t).view.emb y = y := by
  blk_ext [idx t]
theorem emb4 (t : Fin cfg0.N) (y : S4096x3072.Idx) : (win0_4.blk t).view.emb y = y := by
  blk_ext [idx t]
theorem emb7 (t : Fin cfg0.N) (y : S1x128.Idx) : (win0_7.blk t).view.emb y = y := by
  blk_ext [idx t]
theorem emb8 (t : Fin cfg0.N) (y : S1x128.Idx) : (win0_8.blk t).view.emb y = y := by
  blk_ext [idx t]

/-- The scales of the input's codes and of the weights are the program's. -/
theorem scale0 (c : Dev nD) (t : Fin cfg0.N) : sB m c t 0 = (ag m c).sx := by
  show V m c main_v8 ((win0_0.blk t).view.emb (ix1 0)) = m ((c : Thread nD τ).loc main_arg4) (ix1 0)
  rw [emb0 t (ix1 0)]
  entry_read
  pointwise
  try rfl
theorem scale1 (c : Dev nD) (t : Fin cfg0.N) : sB m c t 1 = (ag m c).sw := by
  show V m c main_v8 ((win0_0.blk t).view.emb (ix1 1)) = m ((c : Thread nD τ).loc main_arg9) (ix1 0)
  rw [emb0 t (ix1 1)]
  entry_read
  pointwise
  try rfl
/-- The gains are the program's. -/
theorem gain (c : Dev nD) (t : Fin cfg0.N) (y : Fin 4096) : ((iblk m c 3 t : FVec Ideal S1x4096 .f32) (ix2 0 y) : EReal) = (ag m c).G y := by
  show V m c main_v5 ((win0_3.blk t).view.emb (ix2 0 y)) = m ((c : Thread nD τ).loc main_arg1) (ix1 y)
  rw [emb3 t (ix2 0 y)]
  entry_read
  pointwise
  try rfl
theorem qgain (c : Dev nD) (t : Fin cfg0.N) (y : Fin 128) : ((iblk m c 7 t : FVec Ideal S1x128 .f32) (ix2 0 y) : EReal) = (ag m c).QG y := by
  show V m c main_v6 ((win0_7.blk t).view.emb (ix2 0 y)) = m ((c : Thread nD τ).loc main_arg2) (ix1 y)
  rw [emb7 t (ix2 0 y)]
  entry_read
  pointwise
  try rfl
theorem kgain (c : Dev nD) (t : Fin cfg0.N) (y : Fin 128) : ((iblk m c 8 t : FVec Ideal S1x128 .f32) (ix2 0 y) : EReal) = (ag m c).KG y := by
  show V m c main_v7 ((win0_8.blk t).view.emb (ix2 0 y)) = m ((c : Thread nD τ).loc main_arg3) (ix1 y)
  rw [emb8 t (ix2 0 y)]
  entry_read
  pointwise
  try rfl
/-- The weights are the program's. -/
theorem wt (c : Dev nD) (t : Fin cfg0.N) (k : Fin 4096) (j : Fin 3072) : ((iblk m c 4 t : FVec Ideal S4096x3072 .fp8e4m3) (ix2 k j) : EReal) = (ag m c).W k j := by
  show V m c main_arg8 ((win0_4.blk t).view.emb (ix2 k j)) = m ((c : Thread nD τ).loc main_arg8) (ix2 k j)
  rw [emb4 t (ix2 k j)]
  try rfl
/-- The heads' scales are the program's. -/
theorem hsq (c : Dev nD) (t : Fin cfg0.N) (n : Fin 16) : hsB m c t ⟨n.val, by omega⟩ = (ag m c).sq n := by
  show V m c main_v9 ((win0_1.blk t).view.emb (ix1 ⟨n.val, by omega⟩)) = m ((c : Thread nD τ).loc main_arg5) (ix1 n)
  rw [emb1 t (ix1 ⟨n.val, by omega⟩)]
  entry_read
  pointwise
  try rfl
theorem hsk (c : Dev nD) (t : Fin cfg0.N) (n : Fin 4) : hsB m c t ⟨16 + n.val, by omega⟩ = (ag m c).sk n := by
  show V m c main_v9 ((win0_1.blk t).view.emb (ix1 ⟨16 + n.val, by omega⟩)) = m ((c : Thread nD τ).loc main_arg6) (ix1 n)
  rw [emb1 t (ix1 ⟨16 + n.val, by omega⟩)]
  entry_read
  pointwise
  try rfl
theorem hsv (c : Dev nD) (t : Fin cfg0.N) (n : Fin 4) : hsB m c t ⟨20 + n.val, by omega⟩ = (ag m c).sv n := by
  show V m c main_v9 ((win0_1.blk t).view.emb (ix1 ⟨20 + n.val, by omega⟩)) = m ((c : Thread nD τ).loc main_arg7) (ix1 n)
  rw [emb1 t (ix1 ⟨20 + n.val, by omega⟩)]
  entry_read
  pointwise
  rw [dif_neg (by omega), dif_neg (by omega)]
  congr 2
  exact Fin.ext (by simp; omega)

/-- The cosines of a row, over the rows of both batches. -/
theorem cos_arr (c : Dev nD) (R : Fin 3840) (l : Fin 128) : (V m c main_v1 (ix2 R l) : EReal) = (ag m c).cos ⟨R.val / 1920, by omega⟩ ⟨R.val % 1920, by omega⟩ ⟨l.val % 64, by omega⟩ := by
  show _ = m ((c : Thread nD τ).loc main_arg10) (ix3 ⟨R.val / 1920, by omega⟩ ⟨R.val % 1920, by omega⟩ ⟨l.val % 64, by omega⟩)
  entry_read
  pointwise
  by_cases h : l.val < 64
  · rw [dif_pos h, show (⟨l.val % 64, by omega⟩ : Fin 64) = ⟨l.val, h⟩ from Fin.ext (by dsimp only; omega)]
    all_goals rfl
  · rw [dif_neg h, show (⟨l.val % 64, by omega⟩ : Fin 64) = ⟨l.val - 64, by omega⟩ from Fin.ext (by dsimp only; omega)]
    all_goals rfl
theorem sin_arr (c : Dev nD) (R : Fin 3840) (l : Fin 128) : (V m c main_v4 (ix2 R l) : EReal) = if l.val < 64 then -(ag m c).sin ⟨R.val / 1920, by omega⟩ ⟨R.val % 1920, by omega⟩ ⟨l.val % 64, by omega⟩
    else (ag m c).sin ⟨R.val / 1920, by omega⟩ ⟨R.val % 1920, by omega⟩ ⟨l.val % 64, by omega⟩ := by
  entry_read
  pointwise
  by_cases h : l.val < 64
  · rw [dif_pos h, if_pos h, show (⟨l.val % 64, by omega⟩ : Fin 64) = ⟨l.val, h⟩ from Fin.ext (by dsimp only; omega)]
    all_goals rfl
  · rw [dif_neg h, if_neg h, show (⟨l.val % 64, by omega⟩ : Fin 64) = ⟨l.val - 64, by omega⟩ from Fin.ext (by dsimp only; omega)]
    all_goals rfl

/-- The point before. -/
abbrev pr (t : Fin cfg0.N) : Fin cfg0.N := ⟨t.val - 1, Nat.lt_of_le_of_lt (Nat.sub_le _ _) t.isLt⟩
/-- The row of the whole input that row `r` of point `t`'s tile is. -/
abbrev rowT (t : Fin cfg0.N) (r : Fin 384) : Fin 7680 := ⟨384 * min t.val 19 + r.val, by omega⟩
/-- The row of the whole input that row `r` of the tile before is. -/
abbrev rowP (t : Fin cfg0.N) (r : Fin 384) : Fin 7680 := ⟨384 * (t.val - 1) + r.val, by have : t.val < 21 := t.isLt; omega⟩

/-- The tile of the input. -/
theorem xt (c : Dev nD) (t : Fin cfg0.N) (r : Fin 384) (y : Fin 4096) : ((iblk m c 2 t : FVec Ideal S384x4096 .bf16) (ix2 r y) : EReal) = (ag m c).X (rowT t r) y := by
  show V m c main_arg0 ((win0_2.blk t).view.emb (ix2 r y)) = m ((c : Thread nD τ).loc main_arg0) (ix2 (rowT t r) y)
  rw [show (win0_2.blk t).view.emb (ix2 r y) = ix2 (rowT t r) y from by blk_ext [idx t]]
  rfl

/-- A point's normalised tile is the whole input's at its rows. -/
theorem nT_eq (c : Dev nD) (t : Fin cfg0.N) (r : Fin 384) (x : Fin 4096) : nT m c t r x = n1 (ag m c) (rowT t r) x := by
  unfold nT n1
  rw [funext fun y => xt m c t r y, funext fun y => gain m c t y]

/-- So are its codes. -/
theorem cc_eq (c : Dev nD) (t : Fin cfg0.N) (r : Fin 384) (x : Fin 4096) : cc m c t r x = xc (ag m c) (rowT t r) x := by
  unfold cc xc
  rw [scale0 m c t, nT_eq m c t r x]

/-- The angles of a point's heads. -/
abbrev cA (c : Dev nD) (t : Fin cfg0.N) (r : Fin 384) : Fin 64 → EReal := (ag m c).cos (bt (rowP t r)) (ps (rowP t r))
abbrev sA (c : Dev nD) (t : Fin cfg0.N) (r : Fin 384) : Fin 64 → EReal := (ag m c).sin (bt (rowP t r)) (ps (rowP t r))
/-- The row of the arrays of cosines and sines. -/
abbrev rowC (t : Fin cfg0.N) (r : Fin 384) : Fin 3840 := ⟨384 * ((t.val - 1) / 10 * 5 + (t.val - 1) % 5) + r.val, by have : t.val < 21 := t.isLt; omega⟩
theorem rowC_div (t : Fin cfg0.N) (r : Fin 384) : (⟨(rowC t r).val / 1920, by omega⟩ : Fin 2) = bt (rowP t r) := by
  have : t.val < 21 := t.isLt
  exact Fin.ext (by dsimp only; omega)
theorem rowC_mod (t : Fin cfg0.N) (r : Fin 384) : (⟨(rowC t r).val % 1920, by omega⟩ : Fin 1920) = ps (rowP t r) := by
  have : t.val < 21 := t.isLt
  exact Fin.ext (by dsimp only; omega)

theorem trig (c : Dev nD) (t : Fin cfg0.N) : Trig m c t (cA m c t) (sA m c t) := by
  refine ⟨fun r l => ?_, fun r l => ?_⟩
  · show V m c main_v1 ((win0_5.blk t).view.emb (ix2 r l)) = _
    rw [show (win0_5.blk t).view.emb (ix2 r l) = ix2 (rowC t r) l from by blk_ext [idx t]]
    refine (cos_arr m c (rowC t r) l).trans ?_
    rw [rowC_div t r, rowC_mod t r]
  · show V m c main_v4 ((win0_6.blk t).view.emb (ix2 r l)) = _
    rw [show (win0_6.blk t).view.emb (ix2 r l) = ix2 (rowC t r) l from by blk_ext [idx t]]
    refine (sin_arr m c (rowC t r) l).trans ?_
    rw [rowC_div t r, rowC_mod t r]

/-- A point's heads are the whole input's at the rows of the tile before. -/
theorem hT_eq (c : Dev nD) (t : Fin cfg0.N) (ht : ¬t.val = 0) (n : Fin 24) (r : Fin 384) (l : Fin 128) :
    hT m c t (cc m c (pr t)) (cA m c t) (sA m c t) n r l = hv (ag m c) (rowP t r) n l := by
  have hN : t.val < 21 := t.isLt
  have e : rowT (pr t) r = rowP t r := Fin.ext (by dsimp only; omega)
  have hl : lT m c t (cc m c (pr t)) n r = Cert.QkvSpec.lin (ag m c) (rowP t r) n := by
    funext l
    unfold lT Cert.QkvSpec.lin
    rw [scale0 m c t, scale1 m c t]
    refine congrArg (· * _) (Finset.sum_congr rfl fun k _ => ?_)
    rw [wt m c t, cc_eq m c (pr t) r k, e]
  unfold hT hv
  rw [hl, funext fun y => qgain m c t y, funext fun y => kgain m c t y]

end Cert.QkvIdeal.Val

end
-- ==== Proof.QkvValue.lean ====
/- The arrays the attention heads' projections end with, over the reals. -/
module

public import proofs.«01_k».proof.Proof.QkvOuts
public import proofs.«01_k».proof.Proof.QkvEntry

@[expose] public section

set_option maxRecDepth 16384

noncomputable section

open Idealize.ShloMosaic Idealize.ShloMosaic.TcCoe Idealize.SL.Sem
open Idealize.ShloMosaic.Pipeline (Dat)

namespace Cert.QkvIdeal.Val

open Cert.QkvIdeal Cert.QkvIdeal.Gen Cert.QkvSpec

variable (m : (ℓ : Loc nD τ sig) → Buf (Elt Ideal) ℓ)

/-- The points but the first and the last two kinds. -/
theorem kindC (t : Fin cfg0.N) (h : ¬t.val = 0) (h1 : ¬t.val % 2 = 1) (h2 : ¬t.val = 20) : ¬t.val = 0 ∧ t.val % 2 = 0 ∧ ¬t.val = 20 := ⟨h, by omega, h2⟩

/-- After any point the scratch buffer the next one reads holds the point's codes. -/
theorem holds (c : Dev nD) (t : Fin cfg0.N) : Holds (outsAt0 m c t.val t.isLt) (cc m c t) := by
  by_cases h0 : t.val = 0
  · rw [outsAt0_A m c t h0]; exact holdsA m c t _
  by_cases h1 : t.val % 2 = 1
  · rw [outsAt0_B m c t h1]; exact holdsB m c t _ _
  by_cases h2 : t.val = 20
  · rw [outsAt0_D m c t h2]; exact holdsD m c t _ _
  · rw [outsAt0_C m c t (kindC t h0 h1 h2)]; exact holdsC m c t _ _
theorem holdsP (c : Dev nD) (t : Fin cfg0.N) : Holds (prev m c t) (cc m c (pr t)) := holds m c (pr t)

/-- After any point the codes of its tile. -/
theorem codesAt (c : Dev nD) (t : Fin cfg0.N) (r : Fin 384) (x : Fin 4096) : ((outsAt0 m c t.val t.isLt).1 (ix2 r x) : EReal) = xc (ag m c) (rowT t r) x := by
  rw [← cc_eq m c t r x]
  by_cases h0 : t.val = 0
  · rw [outsAt0_A m c t h0]; exact codesA m c t _ r x
  by_cases h1 : t.val % 2 = 1
  · rw [outsAt0_B m c t h1]; exact codesB m c t _ _ r x
  by_cases h2 : t.val = 20
  · rw [outsAt0_D m c t h2]; exact codesD m c t _ _ r x
  · rw [outsAt0_C m c t (kindC t h0 h1 h2)]; exact codesC m c t _ _ r x

/-- After any point but the first the query heads' codes of the tile before. -/
theorem qAt (c : Dev nD) (t : Fin cfg0.N) (h0 : ¬t.val = 0) (n : Fin 16) (r : Fin 384) (l : Fin 128) :
    ((outsAt0 m c t.val t.isLt).2.1 (ix2 r (ql n l)) : EReal) = qc (ag m c) (rowP t r) n l := by
  have key : ((outsAt0 m c t.val t.isLt).2.1 (ix2 r (ql n l)) : EReal) = cT (hsB m c t ⟨n.val, by omega⟩) (hT m c t (cc m c (pr t)) (cA m c t) (sA m c t) ⟨n.val, by omega⟩ r l) := by
    by_cases h1 : t.val % 2 = 1
    · rw [outsAt0_B m c t h1]; exact qB m c t _ _ _ _ _ (holdsP m c t) (trig m c t) n r l
    by_cases h2 : t.val = 20
    · rw [outsAt0_D m c t h2]; exact qD m c t _ _ _ _ _ (holdsP m c t) (trig m c t) n r l
    · rw [outsAt0_C m c t (kindC t h0 h1 h2)]; exact qC m c t _ _ _ _ _ (holdsP m c t) (trig m c t) n r l
  rw [key, hsq m c t n, hT_eq m c t h0]
  rfl

/-- After any point but the first the key heads' codes of the tile before. -/
theorem kAt (c : Dev nD) (t : Fin cfg0.N) (h0 : ¬t.val = 0) (n : Fin 4) (r : Fin 384) (l : Fin 128) :
    ((outsAt0 m c t.val t.isLt).2.2.1 (ix2 r (kl n l)) : EReal) = kc (ag m c) (rowP t r) n l := by
  have key : ((outsAt0 m c t.val t.isLt).2.2.1 (ix2 r (kl n l)) : EReal) = cT (hsB m c t ⟨16 + n.val, by omega⟩) (hT m c t (cc m c (pr t)) (cA m c t) (sA m c t) ⟨16 + n.val, by omega⟩ r l) := by
    by_cases h1 : t.val % 2 = 1
    · rw [outsAt0_B m c t h1]; exact kB m c t _ _ _ _ _ (holdsP m c t) (trig m c t) n r l
    by_cases h2 : t.val = 20
    · rw [outsAt0_D m c t h2]; exact kD m c t _ _ _ _ _ (holdsP m c t) (trig m c t) n r l
    · rw [outsAt0_C m c t (kindC t h0 h1 h2)]; exact kC m c t _ _ _ _ _ (holdsP m c t) (trig m c t) n r l
  rw [key, hsk m c t n, hT_eq m c t h0]
  rfl

/-- After any point but the first the value heads' codes of the tile before. -/
theorem vAt (c : Dev nD) (t : Fin cfg0.N) (h0 : ¬t.val = 0) (n : Fin 4) (r : Fin 384) (l : Fin 128) :
    ((outsAt0 m c t.val t.isLt).2.2.2.1 (ix2 r (kl n l)) : EReal) = vc (ag m c) (rowP t r) n l := by
  have key : ((outsAt0 m c t.val t.isLt).2.2.2.1 (ix2 r (kl n l)) : EReal) = cT (hsB m c t ⟨20 + n.val, by omega⟩) (hT m c t (cc m c (pr t)) (cA m c t) (sA m c t) ⟨20 + n.val, by omega⟩ r l) := by
    by_cases h1 : t.val % 2 = 1
    · rw [outsAt0_B m c t h1]; exact vB m c t _ _ _ _ _ (holdsP m c t) (trig m c t) n r l
    by_cases h2 : t.val = 20
    · rw [outsAt0_D m c t h2]; exact vD m c t _ _ _ _ _ (holdsP m c t) (trig m c t) n r l
    · rw [outsAt0_C m c t (kindC t h0 h1 h2)]; exact vC m c t _ _ _ _ _ (holdsP m c t) (trig m c t) n r l
  rw [key, hsv m c t n, hT_eq m c t h0]
  rfl

/-- After any point but the first the transposed value heads' codes of the tile before. -/
theorem vtAt (c : Dev nD) (t : Fin cfg0.N) (h0 : ¬t.val = 0) (n : Fin 4) (r : Fin 384) (l : Fin 128) :
    ((outsAt0 m c t.val t.isLt).2.2.2.2.1 (ix2 (kl n l) r) : EReal) = vc (ag m c) (rowP t r) n l := by
  have key : ((outsAt0 m c t.val t.isLt).2.2.2.2.1 (ix2 (kl n l) r) : EReal) = cT (hsB m c t ⟨20 + n.val, by omega⟩) (hT m c t (cc m c (pr t)) (cA m c t) (sA m c t) ⟨20 + n.val, by omega⟩ r l) := by
    by_cases h1 : t.val % 2 = 1
    · rw [outsAt0_B m c t h1]; exact vtB m c t _ _ _ _ _ (holdsP m c t) (trig m c t) n r l
    by_cases h2 : t.val = 20
    · rw [outsAt0_D m c t h2]; exact vtD m c t _ _ _ _ _ (holdsP m c t) (trig m c t) n r l
    · rw [outsAt0_C m c t (kindC t h0 h1 h2)]; exact vtC m c t _ _ _ _ _ (holdsP m c t) (trig m c t) n r l
  rw [key, hsv m c t n, hT_eq m c t h0]
  rfl

/-- What bounds the running maximum of the input after point `n`: zero and the magnitudes of the tiles up to it. -/
theorem amaxAt (c : Dev nD) (n : ℕ) (hn : n < cfg0.N) (h : n < 20) (j : S8x128.Idx) (b : EReal) :
    ((outsAt0 m c n hn).2.2.2.2.2.1 j : EReal) ≤ b ↔ 0 ≤ b ∧ ∀ s : Fin cfg0.N, s.val ≤ n → AbsLe (nT m c s) j b := by
  induction n with
  | zero =>
    rw [outsAt0_A m c ⟨0, hn⟩ rfl, amaxA]
    refine and_congr_right' ⟨fun h0 s hs => ?_, fun h => h ⟨0, hn⟩ (le_refl _)⟩
    obtain rfl : s = ⟨0, hn⟩ := Fin.ext (by dsimp only; omega)
    exact h0
  | succ n ih =>
    have key : ((outsAt0 m c (n + 1) hn).2.2.2.2.2.1 j : EReal) ≤ b ↔ ((prev m c ⟨n + 1, hn⟩).2.2.2.2.2.1 j : EReal) ≤ b ∧ 0 ≤ b ∧ AbsLe (nT m c ⟨n + 1, hn⟩) j b := by
      by_cases h1 : (n + 1) % 2 = 1
      · rw [outsAt0_B m c ⟨n + 1, hn⟩ h1]; exact amaxB m c ⟨n + 1, hn⟩ _ _ j b
      · rw [outsAt0_C m c ⟨n + 1, hn⟩ (kindC ⟨n + 1, hn⟩ (Nat.succ_ne_zero n) h1 (by dsimp only; omega))]; exact amaxC m c ⟨n + 1, hn⟩ _ _ j b
    rw [key]
    refine (and_congr_left' (ih (Nat.lt_of_succ_lt hn) (by omega))).trans ?_
    constructor
    · rintro ⟨⟨h0, h1⟩, -, h2⟩
      refine ⟨h0, fun s hle => ?_⟩
      rcases Nat.lt_or_ge s.val (n + 1) with hl | hl
      · exact h1 s (by omega)
      · obtain rfl : s = ⟨n + 1, hn⟩ := Fin.ext (by dsimp only; omega)
        exact h2
    · rintro ⟨h0, h1⟩
      exact ⟨⟨h0, fun s hle => h1 s (by omega)⟩, h0, h1 ⟨n + 1, hn⟩ (le_refl _)⟩

/-- The magnitudes of head `k` of the tile before point `s` are bounded by `b`, at one lane and one residue of the rows. -/
abbrev HA (c : Dev nD) (s : Fin cfg0.N) (k : Fin 24) (x : Fin 8) (y : Fin 128) (b : EReal) : Prop := HAbs m c s (cc m c (pr s)) (cA m c s) (sA m c s) k x y b

/-- What bounds the running maximum of a head after point `n`: zero and the magnitudes of the tiles before it. -/
theorem hmaxAt (c : Dev nD) (n : ℕ) (hn : n < cfg0.N) (h : n < 20) (k : Fin 24) (x : Fin 8) (y : Fin 128) (b : EReal) :
    ((outsAt0 m c n hn).2.2.2.2.2.2.1 (ix3 k x y) : EReal) ≤ b ↔ 0 ≤ b ∧ ∀ s : Fin cfg0.N, ¬s.val = 0 → s.val ≤ n → HA m c s k x y b := by
  induction n with
  | zero =>
    rw [outsAt0_A m c ⟨0, hn⟩ rfl, hmaxA]
    exact ⟨fun h0 => ⟨h0, fun s h1 h2 => absurd (Nat.le_zero.1 h2) h1⟩, fun h => h.1⟩
  | succ n ih =>
    have key : ((outsAt0 m c (n + 1) hn).2.2.2.2.2.2.1 (ix3 k x y) : EReal) ≤ b ↔ ((prev m c ⟨n + 1, hn⟩).2.2.2.2.2.2.1 (ix3 k x y) : EReal) ≤ b ∧ HA m c ⟨n + 1, hn⟩ k x y b := by
      by_cases h1 : (n + 1) % 2 = 1
      · rw [outsAt0_B m c ⟨n + 1, hn⟩ h1]; exact hmaxB m c ⟨n + 1, hn⟩ _ _ _ _ _ (holdsP m c _) (trig m c _) k x y b
      · rw [outsAt0_C m c ⟨n + 1, hn⟩ (kindC ⟨n + 1, hn⟩ (Nat.succ_ne_zero n) h1 (by dsimp only; omega))]
        exact hmaxC m c ⟨n + 1, hn⟩ _ _ _ _ _ (holdsP m c _) (trig m c _) k x y b
    rw [key]
    refine (and_congr_left' (ih (Nat.lt_of_succ_lt hn) (by omega))).trans ?_
    constructor
    · rintro ⟨⟨h0, h1⟩, h2⟩
      refine ⟨h0, fun s hs hle => ?_⟩
      rcases Nat.lt_or_ge s.val (n + 1) with hl | hl
      · exact h1 s hs (by omega)
      · obtain rfl : s = ⟨n + 1, hn⟩ := Fin.ext (by dsimp only; omega)
        exact h2
    · rintro ⟨h0, h1⟩
      exact ⟨⟨h0, fun s hs hle => h1 s hs (by omega)⟩, h1 ⟨n + 1, hn⟩ (Nat.succ_ne_zero _) (le_refl _)⟩

/-- The array of the input's codes after the last point is the specification's. -/
theorem final9 (c : Dev nD) : (dats m 0 c).arrAt 9 (cfgs 0).N = xA (ag m c) := by
  refine (dats m 0 c).arrAt_eq_of_covers 9 _ (by decide +kernel) fun t hf y => ?_
  blk_simp
  rw [after0_9]
  have e0 : ((win0_9.blk t).view.emb y 0).val = 384 * min t.val 19 + (y 0).val := by
    blk_simp [idx t]
    omega
  have e1 : ((win0_9.blk t).view.emb y 1).val = (y 1).val := by
    blk_simp [idx t]
  have := codesAt m c t (y 0) (y 1)
  rw [← eq_ix2 y] at this
  refine this.trans ?_
  unfold xA
  rw [show rowT t (y 0) = (win0_9.blk t).view.emb y 0 from Fin.ext e0.symm,
    show (y 1 : Fin 4096) = (win0_9.blk t).view.emb y 1 from Fin.ext e1.symm]

/-- The array of window 10 after the last point is the specification's. -/
theorem final10 (c : Dev nD) : (dats m 0 c).arrAt 10 (cfgs 0).N = qA (ag m c) := by
  refine (dats m 0 c).arrAt_eq_of_covers 10 _ (by decide +kernel) fun t hf y => ?_
  have ht : ¬t.val = 0 := (by decide +kernel : ∀ t : Fin cfg0.N, (cfg0.win 10).flush t = true → ¬t.val = 0) t hf
  blk_simp
  rw [after0_10]
  have e0 : ((win0_10.blk t).view.emb y 0).val = 384 * (t.val - 1) + (y 0).val := by
    blk_simp [idx t]
    omega
  have e1 : ((win0_10.blk t).view.emb y 1).val = (y 1).val := by
    blk_simp [idx t]
  have hy : (y 1).val < 2048 := (y 1).isLt
  have := qAt m c t ht ⟨(y 1).val / 128, by omega⟩ (y 0) ⟨(y 1).val % 128, by omega⟩
  rw [show ql ⟨(y 1).val / 128, by omega⟩ ⟨(y 1).val % 128, by omega⟩ = y 1 from Fin.ext (by dsimp only; omega), ← eq_ix2 y] at this
  refine this.trans ?_
  unfold qA
  rw [show rowP t (y 0) = (win0_10.blk t).view.emb y 0 from Fin.ext e0.symm,
    show (⟨(y 1).val / 128, by omega⟩ : Fin 16) = hd 16 ((win0_10.blk t).view.emb y 1) from Fin.ext (by show (y 1).val / 128 = ((win0_10.blk t).view.emb y 1).val / 128; rw [e1]),
    show (⟨(y 1).val % 128, by omega⟩ : Fin 128) = ln 16 ((win0_10.blk t).view.emb y 1) from Fin.ext (by show (y 1).val % 128 = ((win0_10.blk t).view.emb y 1).val % 128; rw [e1])]

/-- The array of window 11 after the last point is the specification's. -/
theorem final11 (c : Dev nD) : (dats m 0 c).arrAt 11 (cfgs 0).N = kA (ag m c) := by
  refine (dats m 0 c).arrAt_eq_of_covers 11 _ (by decide +kernel) fun t hf y => ?_
  have ht : ¬t.val = 0 := (by decide +kernel : ∀ t : Fin cfg0.N, (cfg0.win 11).flush t = true → ¬t.val = 0) t hf
  blk_simp
  rw [after0_11]
  have e0 : ((win0_11.blk t).view.emb y 0).val = 384 * (t.val - 1) + (y 0).val := by
    blk_simp [idx t]
    omega
  have e1 : ((win0_11.blk t).view.emb y 1).val = (y 1).val := by
    blk_simp [idx t]
  have hy : (y 1).val < 512 := (y 1).isLt
  have := kAt m c t ht ⟨(y 1).val / 128, by omega⟩ (y 0) ⟨(y 1).val % 128, by omega⟩
  rw [show kl ⟨(y 1).val / 128, by omega⟩ ⟨(y 1).val % 128, by omega⟩ = y 1 from Fin.ext (by dsimp only; omega), ← eq_ix2 y] at this
  refine this.trans ?_
  unfold kA
  rw [show rowP t (y 0) = (win0_11.blk t).view.emb y 0 from Fin.ext e0.symm,
    show (⟨(y 1).val / 128, by omega⟩ : Fin 4) = hd 4 ((win0_11.blk t).view.emb y 1) from Fin.ext (by show (y 1).val / 128 = ((win0_11.blk t).view.emb y 1).val / 128; rw [e1]),
    show (⟨(y 1).val % 128, by omega⟩ : Fin 128) = ln 4 ((win0_11.blk t).view.emb y 1) from Fin.ext (by show (y 1).val % 128 = ((win0_11.blk t).view.emb y 1).val % 128; rw [e1])]

/-- The array of window 12 after the last point is the specification's. -/
theorem final12 (c : Dev nD) : (dats m 0 c).arrAt 12 (cfgs 0).N = vA (ag m c) := by
  refine (dats m 0 c).arrAt_eq_of_covers 12 _ (by decide +kernel) fun t hf y => ?_
  have ht : ¬t.val = 0 := (by decide +kernel : ∀ t : Fin cfg0.N, (cfg0.win 12).flush t = true → ¬t.val = 0) t hf
  blk_simp
  rw [after0_12]
  have e0 : ((win0_12.blk t).view.emb y 0).val = 384 * (t.val - 1) + (y 0).val := by
    blk_simp [idx t]
    omega
  have e1 : ((win0_12.blk t).view.emb y 1).val = (y 1).val := by
    blk_simp [idx t]
  have hy : (y 1).val < 512 := (y 1).isLt
  have := vAt m c t ht ⟨(y 1).val / 128, by omega⟩ (y 0) ⟨(y 1).val % 128, by omega⟩
  rw [show kl ⟨(y 1).val / 128, by omega⟩ ⟨(y 1).val % 128, by omega⟩ = y 1 from Fin.ext (by dsimp only; omega), ← eq_ix2 y] at this
  refine this.trans ?_
  unfold vA
  rw [show rowP t (y 0) = (win0_12.blk t).view.emb y 0 from Fin.ext e0.symm,
    show (⟨(y 1).val / 128, by omega⟩ : Fin 4) = hd 4 ((win0_12.blk t).view.emb y 1) from Fin.ext (by show (y 1).val / 128 = ((win0_12.blk t).view.emb y 1).val / 128; rw [e1]),
    show (⟨(y 1).val % 128, by omega⟩ : Fin 128) = ln 4 ((win0_12.blk t).view.emb y 1) from Fin.ext (by show (y 1).val % 128 = ((win0_12.blk t).view.emb y 1).val % 128; rw [e1])]

/-- The array of the transposed value heads' codes after the last point is the specification's. -/
theorem final13 (c : Dev nD) : (dats m 0 c).arrAt 13 (cfgs 0).N = vtA (ag m c) := by
  refine (dats m 0 c).arrAt_eq_of_covers 13 _ (by decide +kernel) fun t hf y => ?_
  have ht : ¬t.val = 0 := (by decide +kernel : ∀ t : Fin cfg0.N, (cfg0.win 13).flush t = true → ¬t.val = 0) t hf
  blk_simp
  rw [after0_13]
  have e0 : ((win0_13.blk t).view.emb y 1).val = 384 * (t.val - 1) + (y 1).val := by
    blk_simp [idx t]
    omega
  have e1 : ((win0_13.blk t).view.emb y 0).val = (y 0).val := by
    blk_simp [idx t]
  have hy : (y 0).val < 512 := (y 0).isLt
  have := vtAt m c t ht ⟨(y 0).val / 128, by omega⟩ (y 1) ⟨(y 0).val % 128, by omega⟩
  rw [show kl ⟨(y 0).val / 128, by omega⟩ ⟨(y 0).val % 128, by omega⟩ = y 0 from Fin.ext (by dsimp only; omega), ← eq_ix2 y] at this
  refine this.trans ?_
  unfold vtA
  rw [show rowP t (y 1) = (win0_13.blk t).view.emb y 1 from Fin.ext e0.symm,
    show (⟨(y 0).val / 128, by omega⟩ : Fin 4) = hd 4 ((win0_13.blk t).view.emb y 0) from Fin.ext (by show (y 0).val / 128 = ((win0_13.blk t).view.emb y 0).val / 128; rw [e1]),
    show (⟨(y 0).val % 128, by omega⟩ : Fin 128) = ln 4 ((win0_13.blk t).view.emb y 0) from Fin.ext (by show (y 0).val % 128 = ((win0_13.blk t).view.emb y 0).val % 128; rw [e1])]

/-- The array of the input's largest magnitude after the last point is the specification's. -/
theorem final14 (c : Dev nD) : (dats m 0 c).arrAt 14 (cfgs 0).N = mA (ag m c) := by
  refine (dats m 0 c).arrAt_eq_of_covers 14 _ (by decide +kernel) fun t hf y => ?_
  have ht : t.val = 20 := (by decide +kernel : ∀ t : Fin cfg0.N, (cfg0.win 14).flush t = true → t.val = 20) t hf
  have hN : cfg0.N = 21 := rfl
  blk_simp
  rw [after0_14, outsAt0_D m c t ht]
  refine eq_of_forall_ge_iff (α := EReal) fun b => ?_
  unfold mA xm
  rw [iSup_le_iff]
  refine (amaxD m c t _ _ _ b).trans ?_
  have am : ∀ j, ((prev m c t).2.2.2.2.2.1 j : EReal) ≤ b ↔ _ := fun j => amaxAt m c (t.val - 1) (pr t).isLt (by omega) j b
  constructor
  · rintro h ⟨r, q⟩
    have hr := r.isLt
    have hq := q.isLt
    obtain ⟨h1, -, -⟩ := h (ix2 ⟨r.val % 384 % 8, by omega⟩ ⟨q.val % 128, by omega⟩)
    have := ((am _).1 h1).2 ⟨r.val / 384, by omega⟩ (by dsimp only; omega) ⟨r.val % 384, by omega⟩ q rfl rfl
    rw [nT_eq m c] at this
    rwa [show rowT ⟨r.val / 384, by omega⟩ ⟨r.val % 384, by omega⟩ = r from Fin.ext (by dsimp only; omega)] at this
  · intro h j
    have h0 : 0 ≤ b := (MaxAbs.zero_le_absf _).trans (h (⟨0, by omega⟩, ⟨0, by omega⟩))
    have hP : ∀ s : Fin cfg0.N, AbsLe (nT m c s) j b := by
      intro s r q _ _
      rw [nT_eq m c s r q]
      exact h (_, _)
    exact ⟨(am j).2 ⟨h0, fun s _ => hP s⟩, h0, hP t⟩

/-- What bounds a head's largest magnitude after the last point. -/
theorem hmax_last (c : Dev nD) (t : Fin cfg0.N) (ht : t.val = 20) (k : Fin 24) (x0 : Fin 8) (y0 : Fin 128) (b : EReal) :
    ((stD m c t (isD t ht) (prev m c t)).2.2.2.2.2.2.1 (ix3 k x0 y0) : EReal) ≤ b
      ↔ ∀ i : Fin 7680 × Fin 128, (FloatOps.absf (F := Ideal) (φ := .f32) (hv (ag m c) i.1 k i.2) : EReal) ≤ b := by
  have hN : cfg0.N = 21 := rfl
  refine (hmaxD m c t (isD t ht) (prev m c t) _ _ _ (holdsP m c t) (trig m c t) k x0 y0 b).trans ?_
  have am : ∀ x z, ((prev m c t).2.2.2.2.2.2.1 (ix3 k x z) : EReal) ≤ b ↔ _ := fun x z => hmaxAt m c (t.val - 1) (pr t).isLt (by omega) k x z b
  constructor
  · rintro h ⟨r, q⟩
    have hr := r.isLt
    have hP : ∀ s : Fin cfg0.N, ¬s.val = 0 → ∀ (r : Fin 384), (FloatOps.absf (F := Ideal) (φ := .f32) (hv (ag m c) (rowP s r) k q) : EReal) ≤ b := by
      intro s hs0 r
      obtain ⟨h1, h2⟩ := h ⟨r.val % 8, by omega⟩ q
      have hs := s.isLt
      rw [← hT_eq m c s hs0]
      rcases Nat.lt_or_ge s.val 20 with hl | hl
      · exact ((am _ _).1 h1).2 s hs0 (by omega) r rfl
      · obtain rfl : s = t := Fin.ext (by omega)
        exact h2 r rfl
    have := hP ⟨r.val / 384 + 1, by omega⟩ (Nat.succ_ne_zero _) ⟨r.val % 384, by omega⟩
    rwa [show rowP ⟨r.val / 384 + 1, by omega⟩ ⟨r.val % 384, by omega⟩ = r from Fin.ext (by dsimp only; omega)] at this
  · intro h x z
    have h0 : 0 ≤ b := (MaxAbs.zero_le_absf _).trans (h (⟨0, by omega⟩, ⟨0, by omega⟩))
    have hP : ∀ s : Fin cfg0.N, ¬s.val = 0 → HA m c s k x z b := by
      intro s hs0 r _
      rw [hT_eq m c s hs0]
      exact h (_, _)
    exact ⟨(am x z).2 ⟨h0, fun s hs _ => hP s hs⟩, hP t (by omega)⟩

/-- The array of the heads' largest magnitudes after the last point is the specification's. -/
theorem final15 (c : Dev nD) : (dats m 0 c).arrAt 15 (cfgs 0).N = hA (ag m c) := by
  refine (dats m 0 c).arrAt_eq_of_covers 15 _ (by decide +kernel) fun t hf y => ?_
  have ht : t.val = 20 := (by decide +kernel : ∀ t : Fin cfg0.N, (cfg0.win 15).flush t = true → t.val = 20) t hf
  blk_simp
  rw [after0_15, outsAt0_D m c t ht]
  have ek : (win0_15.blk t).view.emb y 0 = y 0 := Fin.ext (by blk_simp [idx t])
  refine eq_of_forall_ge_iff (α := EReal) fun b => ?_
  unfold hA hm
  rw [iSup_le_iff, ek]
  have hD := hmax_last m c t ht (y 0) (y 1) (y 2) b
  rw [← eq_ix3 y] at hD
  exact hD

/-- The run of the whole program, with the arrays it ends with. -/
theorem run_blocks (ρ : Dev nD → PrngReg) : θ_run defs (onTc (τ := τ) (main (F := Ideal))) ⟨m, fun _ => 0, ρ⟩ fun r => ∀ c : Dev nD,
      r.2.mem ((c : Thread nD τ).loc main_v10_0) = (dats m 0 c).arrAt 9 cfg0.N
      ∧ r.2.mem ((c : Thread nD τ).loc main_v10_1) = (dats m 0 c).arrAt 10 cfg0.N
      ∧ r.2.mem ((c : Thread nD τ).loc main_v10_2) = (dats m 0 c).arrAt 11 cfg0.N
      ∧ r.2.mem ((c : Thread nD τ).loc main_v10_3) = (dats m 0 c).arrAt 12 cfg0.N
      ∧ r.2.mem ((c : Thread nD τ).loc main_v10_4) = (dats m 0 c).arrAt 13 cfg0.N
      ∧ r.2.mem ((c : Thread nD τ).loc main_v10_5) = (dats m 0 c).arrAt 14 cfg0.N
      ∧ r.2.mem ((c : Thread nD τ).loc main_v10_6) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h.2 c).1 9, (h.2 c).1 10, (h.2 c).1 11, (h.2 c).1 12, (h.2 c).1 13, (h.2 c).1 14, (h.2 c).1 15, h.1 c⟩) (θ_run_and (unchanged m ρ) (run_main m ρ))

end Cert.QkvIdeal.Val

end
-- ==== Proof.QkvRefPay.lean ====
/- The values the reference of the attention heads' projections stores, entry by entry. -/
module

public import proofs.«01_k».proof.Proof.QkvArrays
public import proofs.«01_k».proof.Proof.Gen.QkvRefIdeal.Value
public import Idealize.ShloMosaic.Lib.Pipeline.ReadBack

@[expose] public section

set_option maxRecDepth 16384

noncomputable section

open Idealize.ShloMosaic Idealize.ShloMosaic.TcCoe Idealize.SL.Sem

namespace Cert.QkvRefIdeal.Val

open Cert.QkvRefIdeal Cert.QkvRefIdeal.Gen Cert.QkvSpec

/-- The reference's normalised rows. -/
theorem pay3_eq (v0 : FVec Ideal S7680x4096 .bf16) (v2 : FVec Ideal S1x4096 .f32) (r : Fin 7680) (q : Fin 4096) :
    (k0_pay3 (F := Ideal) v0 v2 (ix2 r q) : EReal) = nR (fun y => v0 (ix2 r y)) (fun y => v2 (ix2 0 y)) q := by
  unfold nR
  rw [← Cert.RootMean.norm_eq]
  pointwise [k0_pay3]

/-- Their codes. -/
theorem pay4_eq (v0 : FVec Ideal S7680x4096 .bf16) (v2 : FVec Ideal S1x4096 .f32) (s : EReal) (r : Fin 7680) (q : Fin 4096) :
    (k0_pay4 (F := Ideal) v0 v2 s (ix2 r q) : EReal) = cT s (k0_pay3 (F := Ideal) v0 v2 (ix2 r q)) := by
  unfold k0_pay4
  generalize k0_pay3 (F := Ideal) v0 v2 = u
  pointwise []

/-- Their largest magnitude. -/
theorem pay5_le (v0 : FVec Ideal S7680x4096 .bf16) (v2 : FVec Ideal S1x4096 .f32) (j : S8x128.Idx) (b : EReal) :
    (k0_pay5 (F := Ideal) v0 v2 j : EReal) ≤ b ↔ ∀ i : Fin 7680 × Fin 4096, (FloatOps.absf (F := Ideal) (φ := .f32) (k0_pay3 (F := Ideal) v0 v2 (ix2 i.1 i.2)) : EReal) ≤ b := by
  unfold k0_pay5
  generalize k0_pay3 (F := Ideal) v0 v2 = u
  pointwise []
  simp only [Finset.fold_max_le, MaxAbs.ninf, bot_le, true_and, Finset.mem_univ, forall_const]

/-- The products with the weights. -/
theorem mm_eq (a : FVec Ideal S7680x4096 .fp8e4m3) (w : FVec Ideal S4096x3072 .fp8e4m3) (r : Fin 7680) (q : Fin 3072) :
    (matmul (F := Ideal) dot_S7680x4096_S4096x3072_S7680x3072_1_0_0_1_n_n none a w (constant S7680x3072 .f32 0x00000000#32) (ix2 r q) : EReal) = ∑ k : Fin 4096, (a (ix2 r k) : EReal) * (w (ix2 k q) : EReal) := by
  pointwise []

/-- The scaled products, by head. -/
theorem pay8_eq (v : FVec Ideal S7680x3072 .f32) (a b : EReal) (r : Fin 7680) (n : Fin 24) (l : Fin 128) :
    (k0_pay8 (F := Ideal) v (k0_pay7 (F := Ideal) a b) (ix3 r n l) : EReal) = (v (ix2 r ⟨128 * n.val + l.val, by omega⟩) : EReal) * (a * b) := by
  pointwise [k0_pay8, k0_pay7]
  rw [show (⟨n.val * 128 + l.val, by omega⟩ : Fin 3072) = ⟨128 * n.val + l.val, by omega⟩ from Fin.ext (by dsimp only; omega)]

/-- A head's normalised row, as a quotient. -/
theorem hN_eq (v g : Fin 128 → EReal) (l : Fin 128) :
    hN v g l = Ideal.div (v l) (Ideal.sqrt (Ideal.div (∑ q, v q * v q) (Ideal.ofBits .f32 0x43000000#32) + Ideal.ofBits .f32 0x358637BD#32)) * g l := by
  unfold hN
  rw [head_norm_eq]

/-- The query heads. -/
theorem pay9_eq (v33 v37 : FVec Ideal S7680x3072 .f32) (g : FVec Ideal S1x1x128 .f32) (a b : FVec Ideal S7680x64 .f32) (r : Fin 7680) (n : Fin 16) (l : Fin 128) :
    (k0_pay9 (F := Ideal) v33 v37 g a b (ix3 r n l) : EReal) = rot (hN (fun q => k0_pay8 (F := Ideal) v33 v37 (ix3 r ⟨n.val, by omega⟩ q)) (fun q => g (ix3 0 0 q))) (fun q => a (ix2 r q)) (fun q => b (ix2 r q)) l := by
  unfold k0_pay9 rot
  simp only [hN_eq]
  generalize k0_pay8 (F := Ideal) v33 v37 = u
  by_cases h : l.val < 64
  · rw [dif_pos h]
    pointwise []
    simp only [dif_pos h]
  · rw [dif_neg h]
    pointwise []
    simp only [dif_neg h]
    rw [show (⟨64 + (l.val - 64), by omega⟩ : Fin 128) = l from Fin.ext (by dsimp only; omega)]

/-- The key heads. -/
theorem pay13_eq (v33 v37 : FVec Ideal S7680x3072 .f32) (g : FVec Ideal S1x1x128 .f32) (a b : FVec Ideal S7680x64 .f32) (r : Fin 7680) (n : Fin 4) (l : Fin 128) :
    (k0_pay13 (F := Ideal) (k0_pay10 v33 v37) (k0_pay11 g) (k0_pay12 v33 v37) (Scalar.ofBits .f32 0x358637BD#32) a b (ix3 r n l) : EReal)
      = rot (hN (fun q => k0_pay8 (F := Ideal) v33 v37 (ix3 r ⟨16 + n.val, by omega⟩ q)) (fun q => g (ix3 0 0 q))) (fun q => a (ix2 r q)) (fun q => b (ix2 r q)) l := by
  unfold k0_pay13 k0_pay12 k0_pay10 k0_pay11 rot
  simp only [hN_eq]
  generalize k0_pay8 (F := Ideal) v33 v37 = u
  by_cases h : l.val < 64
  · rw [dif_pos h]
    pointwise []
    simp only [dif_pos h]
  · rw [dif_neg h]
    pointwise []
    simp only [dif_neg h]
    rw [show (⟨64 + (l.val - 64), by omega⟩ : Fin 128) = l from Fin.ext (by dsimp only; omega)]

/-- The value heads. -/
theorem pay14_eq (u : FVec Ideal S7680x24x128 .f32) (r : Fin 7680) (n : Fin 4) (l : Fin 128) :
    (k0_pay14 (F := Ideal) u (ix3 r n l) : EReal) = u (ix3 r ⟨20 + n.val, by omega⟩ l) := by
  pointwise [k0_pay14]

/-- The codes of the heads. -/
theorem pay15_eq (v : FVec Ideal S7680x16x128 .f32) (s : FVec Ideal S1x16x1 .f32) (r : Fin 7680) (q : Fin 2048) :
    (k0_pay15 (F := Ideal) v s (ix2 r q) : EReal) = cT (s (ix3 0 (hd 16 q) 0)) (v (ix3 r (hd 16 q) (ln 16 q))) := by
  pointwise [k0_pay15]
theorem pay18_eq (v74 : FVec Ideal S7680x4x128 .f32) (v76 : FVec Ideal S1x1x128 .f32) (v81 : FVec Ideal S7680x4x1 .f32) (e : EReal) (a b : FVec Ideal S7680x64 .f32) (s : FVec Ideal S1x4x1 .f32) (r : Fin 7680) (q : Fin 512) :
    (k0_pay18 (F := Ideal) (k0_pay16 v74 v76 v81 e a b s) (Scalar.ofBits .f32 0x43E00000#32) k0_pay17 (ix2 r q) : EReal)
      = cT (s (ix3 0 (hd 4 q) 0)) (k0_pay13 (F := Ideal) v74 v76 v81 e a b (ix3 r (hd 4 q) (ln 4 q))) := by
  unfold k0_pay16
  generalize k0_pay13 (F := Ideal) v74 v76 v81 e a b = u
  pointwise [k0_pay18, k0_pay17]
theorem pay19_eq (v : FVec Ideal S7680x4x128 .f32) (s : FVec Ideal S1x4x1 .f32) (r : Fin 7680) (q : Fin 512) :
    (k0_pay19 (F := Ideal) v s (ix2 r q) : EReal) = cT (s (ix3 0 (hd 4 q) 0)) (v (ix3 r (hd 4 q) (ln 4 q))) := by
  pointwise [k0_pay19]
theorem pay20_eq (v : FVec Ideal S7680x4x128 .f32) (s : FVec Ideal S1x4x1 .f32) (r : Fin 7680) (q : Fin 512) :
    (k0_pay20 (F := Ideal) v s (ix2 q r) : EReal) = cT (s (ix3 0 (hd 4 q) 0)) (v (ix3 r (hd 4 q) (ln 4 q))) := by
  pointwise [k0_pay20]

/-- The largest magnitudes of the heads. -/
theorem pay21_le (v : FVec Ideal S7680x16x128 .f32) (n : Fin 16) (x : Fin 8) (y : Fin 128) (b : EReal) :
    (k0_pay21 (F := Ideal) v (ix3 n x y) : EReal) ≤ b ↔ ∀ (r : Fin 7680) (l : Fin 128), (FloatOps.absf (F := Ideal) (φ := .f32) (v (ix3 r n l)) : EReal) ≤ b := by
  pointwise [k0_pay21]
  simp only [Finset.fold_max_le, MaxAbs.ninf, bot_le, true_and, Finset.mem_univ, forall_const]
theorem pay1_le (v : FVec Ideal S7680x4x128 .f32) (n : Fin 4) (x : Fin 8) (y : Fin 128) (b : EReal) :
    (k0_pay1 (F := Ideal) v (ix3 n x y) : EReal) ≤ b ↔ ∀ (r : Fin 7680) (l : Fin 128), (FloatOps.absf (F := Ideal) (φ := .f32) (v (ix3 r n l)) : EReal) ≤ b := by
  pointwise [k0_pay1]
  simp only [Finset.fold_max_le, MaxAbs.ninf, bot_le, true_and, Finset.mem_univ, forall_const]
theorem pay2_le (v : FVec Ideal S7680x4x128 .f32) (n : Fin 4) (x : Fin 8) (y : Fin 128) (b : EReal) :
    (k0_pay2 (F := Ideal) v (ix3 n x y) : EReal) ≤ b ↔ ∀ (r : Fin 7680) (l : Fin 128), (FloatOps.absf (F := Ideal) (φ := .f32) (v (ix3 r n l)) : EReal) ≤ b := by
  pointwise [k0_pay2]
  simp only [Finset.fold_max_le, MaxAbs.ninf, bot_le, true_and, Finset.mem_univ, forall_const]

end Cert.QkvRefIdeal.Val

end
-- ==== Proof.QkvRefStores.lean ====
/- The stores of the heads' largest magnitudes in the reference of the attention heads' projections, at an entry. -/
module

public import proofs.«01_k».proof.Proof.Gen.QkvRefIdeal.Value
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.QkvRefIdeal.Val

open Cert.QkvRefIdeal Cert.QkvRefIdeal.Gen

/-- The rows of the query, key and value heads. -/
abbrev r0 : Rect S24x8x128 := Rect.unit ![0, 0, 0] ![16, 8, 128] inb_S24x8x128_S16x8x128_0_0_0
abbrev r16 : Rect S24x8x128 := Rect.unit ![16, 0, 0] ![4, 8, 128] inb_S24x8x128_S4x8x128_16_0_0
abbrev r20 : Rect S24x8x128 := Rect.unit ![20, 0, 0] ![4, 8, 128] inb_S24x8x128_S4x8x128_20_0_0
theorem idx_r0 (n : Fin 16) (x : Fin 8) (y : Fin 128) : r0.idx (ix3 n x y) = (ix3 ⟨n.val, by omega⟩ x y : S24x8x128.Idx) := by
  funext a
  fin_cases a <;> (apply Fin.ext; simp [Rect.idx_unit_val])
theorem idx_r16 (n : Fin 4) (x : Fin 8) (y : Fin 128) : r16.idx (ix3 n x y) = (ix3 ⟨16 + n.val, by omega⟩ x y : S24x8x128.Idx) := by
  funext a
  fin_cases a <;> (apply Fin.ext; simp [Rect.idx_unit_val])
theorem idx_r20 (n : Fin 4) (x : Fin 8) (y : Fin 128) : r20.idx (ix3 n x y) = (ix3 ⟨20 + n.val, by omega⟩ x y : S24x8x128.Idx) := by
  funext a
  fin_cases a <;> (apply Fin.ext; simp [Rect.idx_unit_val])
theorem not_r16 (n : Fin 24) (x : Fin 8) (y : Fin 128) (h : ¬16 ≤ n.val) : (ix3 n x y : S24x8x128.Idx) ∉ r16.set := by
  intro hm
  obtain ⟨z, hz⟩ := r16.exists_idx_of_mem hm
  have := congrArg Fin.val (congrFun hz 0)
  simp [Rect.idx_unit_val] at this
  omega
theorem not_r20 (n : Fin 24) (x : Fin 8) (y : Fin 128) (h : ¬20 ≤ n.val) : (ix3 n x y : S24x8x128.Idx) ∉ r20.set := by
  intro hm
  obtain ⟨z, hz⟩ := r20.exists_idx_of_mem hm
  have := congrArg Fin.val (congrFun hz 0)
  simp [Rect.idx_unit_val] at this
  omega

theorem head0 (n : Fin 24) (h : ¬16 ≤ n.val) : ∃ k : Fin 16, n = ⟨k.val, Nat.lt_trans k.isLt (by decide)⟩ := ⟨⟨n.val, by omega⟩, rfl⟩
theorem head16 (n : Fin 24) (h : 16 ≤ n.val) (h' : ¬20 ≤ n.val) : ∃ k : Fin 4, n = ⟨16 + k.val, Nat.lt_of_lt_of_le (Nat.add_lt_add_left k.isLt 16) (by decide)⟩ := ⟨⟨n.val - 16, by omega⟩, Fin.ext (by dsimp only; omega)⟩
theorem head20 (n : Fin 24) (h : 20 ≤ n.val) : ∃ k : Fin 4, n = ⟨20 + k.val, Nat.add_lt_add_left k.isLt 20⟩ := ⟨⟨n.val - 20, by omega⟩, Fin.ext (by dsimp only; omega)⟩

section Stores

variable (a : r0.shape.Idx → Elt Ideal .f32) (b : r16.shape.Idx → Elt Ideal .f32) (d : r20.shape.Idx → Elt Ideal .f32)

/-- The stores, the last first. -/
abbrev L0 : List (View.Piece (Elt Ideal) S24x8x128 .f32) := [⟨r0, a⟩]
abbrev L1 : List (View.Piece (Elt Ideal) S24x8x128 .f32) := ⟨r16, b⟩ :: L0 a
abbrev L2 : List (View.Piece (Elt Ideal) S24x8x128 .f32) := ⟨r20, d⟩ :: L1 a b

theorem at0 (n : Fin 16) (x : Fin 8) (y : Fin 128) : View.canon (Val := Elt Ideal) (L0 a) (ix3 ⟨n.val, by omega⟩ x y) = a (ix3 n x y) := by
  rw [← idx_r0 n x y]
  exact View.canon_cons_emb r0 a _ (ix3 n x y)
theorem at16 (n : Fin 4) (x : Fin 8) (y : Fin 128) : View.canon (Val := Elt Ideal) (L1 a b) (ix3 ⟨16 + n.val, by omega⟩ x y) = b (ix3 n x y) := by
  rw [← idx_r16 n x y]
  exact View.canon_cons_emb r16 b _ (ix3 n x y)
theorem at20 (n : Fin 4) (x : Fin 8) (y : Fin 128) : View.canon (Val := Elt Ideal) (L2 a b d) (ix3 ⟨20 + n.val, by omega⟩ x y) = d (ix3 n x y) := by
  rw [← idx_r20 n x y]
  exact View.canon_cons_emb r20 d _ (ix3 n x y)
theorem later16 (n : Fin 24) (x : Fin 8) (y : Fin 128) (h : ¬16 ≤ n.val) : View.canon (Val := Elt Ideal) (L1 a b) (ix3 n x y) = View.canon (Val := Elt Ideal) (L0 a) (ix3 n x y) :=
  View.canon_cons_of_not_mem _ _ (not_r16 n x y h)
theorem later20 (n : Fin 24) (x : Fin 8) (y : Fin 128) (h : ¬20 ≤ n.val) : View.canon (Val := Elt Ideal) (L2 a b d) (ix3 n x y) = View.canon (Val := Elt Ideal) (L1 a b) (ix3 n x y) :=
  View.canon_cons_of_not_mem _ _ (not_r20 n x y h)

/-- What bounds the entries of the three stores bounds an entry of the array. -/
theorem stores_eq (P : Fin 24 → EReal → Prop)
    (ha : ∀ (n : Fin 16) x y e, (a (ix3 n x y) : EReal) ≤ e ↔ P ⟨n.val, by omega⟩ e) (hb : ∀ (n : Fin 4) x y e, (b (ix3 n x y) : EReal) ≤ e ↔ P ⟨16 + n.val, by omega⟩ e)
    (hd : ∀ (n : Fin 4) x y e, (d (ix3 n x y) : EReal) ≤ e ↔ P ⟨20 + n.val, by omega⟩ e) (n : Fin 24) (x : Fin 8) (y : Fin 128) (e : EReal) :
    (View.canon (Val := Elt Ideal) (L2 a b d) (ix3 n x y) : EReal) ≤ e ↔ P n e := by
  have hn := n.isLt
  by_cases h1 : 20 ≤ n.val
  · obtain ⟨k, rfl⟩ := head20 n h1
    rw [at20 a b d k x y]
    exact hd k x y e
  rw [later20 a b d n x y h1]
  by_cases h2 : 16 ≤ n.val
  · obtain ⟨k, rfl⟩ := head16 n h2 h1
    rw [at16 a b k x y]
    exact hb k x y e
  rw [later16 a b n x y h2]
  obtain ⟨k, rfl⟩ := head0 n h2
  rw [at0 a k x y]
  exact ha k x y e

end Stores

end Cert.QkvRefIdeal.Val

end
-- ==== Proof.QkvRefValue.lean ====
/- The arrays the reference of the attention heads' projections ends with, over the reals: the kernel's. -/
module

public import proofs.«01_k».proof.Proof.QkvRefPay
public import proofs.«01_k».proof.Proof.QkvRefStores

@[expose] public section

set_option maxRecDepth 16384

noncomputable section

open Idealize.ShloMosaic Idealize.ShloMosaic.TcCoe Idealize.SL.Sem
open Idealize.ShloMosaic.Pipeline (Dat)

namespace Cert.QkvRefIdeal.Val

open Cert.QkvRefIdeal Cert.QkvRefIdeal.Gen Cert.QkvSpec

variable (m : (ℓ : Loc nD τ sig) → Buf (Elt Ideal) ℓ)

/-- Every window of the reference's single point starts at the origin of its array. -/
theorem idx : ∀ t : Fin cfg0.N, win0_0.index t = ![0, 0] ∧ win0_1.index t = ![0, 0] ∧ win0_2.index t = ![0, 0, 0] ∧ win0_3.index t = ![0, 0, 0] ∧ win0_4.index t = ![0]
    ∧ win0_5.index t = ![0, 0, 0] ∧ win0_6.index t = ![0, 0, 0] ∧ win0_7.index t = ![0, 0, 0] ∧ win0_8.index t = ![0, 0] ∧ win0_9.index t = ![0] ∧ win0_10.index t = ![0, 0] ∧ win0_11.index t = ![0, 0]
    ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0, 0] := by decide +kernel

/-- The program's arguments. -/
abbrev ag (c : Dev nD) : Args := args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem x_eq (c : Dev nD) (r : Fin 7680) (q : Fin 4096) : ((iblk m c 0 t0_0 : FVec Ideal S7680x4096 .bf16) (ix2 r q) : EReal) = (ag m c).X r q := by
  show V m c main_arg0 ((win0_0.blk t0_0).view.emb (ix2 r q)) = m ((c : Thread nD τ).loc main_arg0) (ix2 r q)
  rw [show (win0_0.blk t0_0).view.emb (ix2 r q) = (ix2 r q : S7680x4096.Idx) from by blk_ext [idx t0_0]]
  rfl
theorem g_eq (c : Dev nD) (q : Fin 4096) : ((iblk m c 1 t0_0 : FVec Ideal S1x4096 .f32) (ix2 0 q) : EReal) = (ag m c).G q := by
  show V m c main_v0 ((win0_1.blk t0_0).view.emb (ix2 0 q)) = m ((c : Thread nD τ).loc main_arg1) (ix1 q)
  rw [show (win0_1.blk t0_0).view.emb (ix2 0 q) = (ix2 0 q : S1x4096.Idx) from by blk_ext [idx t0_0]]
  entry_read
  pointwise
  try rfl
theorem qg_eq (c : Dev nD) (q : Fin 128) : ((iblk m c 2 t0_0 : FVec Ideal S1x1x128 .f32) (ix3 0 0 q) : EReal) = (ag m c).QG q := by
  show V m c main_v1 ((win0_2.blk t0_0).view.emb (ix3 0 0 q)) = m ((c : Thread nD τ).loc main_arg2) (ix1 q)
  rw [show (win0_2.blk t0_0).view.emb (ix3 0 0 q) = (ix3 0 0 q : S1x1x128.Idx) from by blk_ext [idx t0_0]]
  entry_read
  pointwise
  try rfl
theorem kg_eq (c : Dev nD) (q : Fin 128) : ((iblk m c 3 t0_0 : FVec Ideal S1x1x128 .f32) (ix3 0 0 q) : EReal) = (ag m c).KG q := by
  show V m c main_v2 ((win0_3.blk t0_0).view.emb (ix3 0 0 q)) = m ((c : Thread nD τ).loc main_arg3) (ix1 q)
  rw [show (win0_3.blk t0_0).view.emb (ix3 0 0 q) = (ix3 0 0 q : S1x1x128.Idx) from by blk_ext [idx t0_0]]
  entry_read
  pointwise
  try rfl
theorem sq_eq (c : Dev nD) (n : Fin 16) : ((iblk m c 5 t0_0 : FVec Ideal S1x16x1 .f32) (ix3 0 n 0) : EReal) = (ag m c).sq n := by
  show V m c main_v3 ((win0_5.blk t0_0).view.emb (ix3 0 n 0)) = m ((c : Thread nD τ).loc main_arg5) (ix1 n)
  rw [show (win0_5.blk t0_0).view.emb (ix3 0 n 0) = (ix3 0 n 0 : S1x16x1.Idx) from by blk_ext [idx t0_0]]
  entry_read
  pointwise
  try rfl
theorem sk_eq (c : Dev nD) (n : Fin 4) : ((iblk m c 6 t0_0 : FVec Ideal S1x4x1 .f32) (ix3 0 n 0) : EReal) = (ag m c).sk n := by
  show V m c main_v4 ((win0_6.blk t0_0).view.emb (ix3 0 n 0)) = m ((c : Thread nD τ).loc main_arg6) (ix1 n)
  rw [show (win0_6.blk t0_0).view.emb (ix3 0 n 0) = (ix3 0 n 0 : S1x4x1.Idx) from by blk_ext [idx t0_0]]
  entry_read
  pointwise
  try rfl
theorem sv_eq (c : Dev nD) (n : Fin 4) : ((iblk m c 7 t0_0 : FVec Ideal S1x4x1 .f32) (ix3 0 n 0) : EReal) = (ag m c).sv n := by
  show V m c main_v5 ((win0_7.blk t0_0).view.emb (ix3 0 n 0)) = m ((c : Thread nD τ).loc main_arg7) (ix1 n)
  rw [show (win0_7.blk t0_0).view.emb (ix3 0 n 0) = (ix3 0 n 0 : S1x4x1.Idx) from by blk_ext [idx t0_0]]
  entry_read
  pointwise
  try rfl
theorem w_eq (c : Dev nD) (k : Fin 4096) (j : Fin 3072) : ((iblk m c 8 t0_0 : FVec Ideal S4096x3072 .fp8e4m3) (ix2 k j) : EReal) = (ag m c).W k j := by
  show V m c main_arg8 ((win0_8.blk t0_0).view.emb (ix2 k j)) = m ((c : Thread nD τ).loc main_arg8) (ix2 k j)
  rw [show (win0_8.blk t0_0).view.emb (ix2 k j) = (ix2 k j : S4096x3072.Idx) from by blk_ext [idx t0_0]]
  rfl
theorem cos_eq (c : Dev nD) (r : Fin 7680) (l : Fin 64) : ((iblk m c 10 t0_0 : FVec Ideal S7680x64 .f32) (ix2 r l) : EReal) = (ag m c).cos (bt r) (ps r) l := by
  show V m c main_v8 ((win0_10.blk t0_0).view.emb (ix2 r l)) = m ((c : Thread nD τ).loc main_arg10) (ix3 (bt r) (ps r) l)
  rw [show (win0_10.blk t0_0).view.emb (ix2 r l) = (ix2 r l : S7680x64.Idx) from by blk_ext [idx t0_0]]
  entry_read
  pointwise
  try rfl
theorem sin_eq (c : Dev nD) (r : Fin 7680) (l : Fin 64) : ((iblk m c 11 t0_0 : FVec Ideal S7680x64 .f32) (ix2 r l) : EReal) = (ag m c).sin (bt r) (ps r) l := by
  show V m c main_v11 ((win0_11.blk t0_0).view.emb (ix2 r l)) = m ((c : Thread nD τ).loc main_arg11) (ix3 (bt r) (ps r) l)
  rw [show (win0_11.blk t0_0).view.emb (ix2 r l) = (ix2 r l : S7680x64.Idx) from by blk_ext [idx t0_0]]
  entry_read
  pointwise
  try rfl
theorem sx_eq (c : Dev nD) (i : S1.Idx) : ((iblk m c 4 t0_0 : FVec Ideal S1 .f32) i : EReal) = (ag m c).sx := by
  show V m c main_arg4 ((win0_4.blk t0_0).view.emb i) = m ((c : Thread nD τ).loc main_arg4) (ix1 0)
  exact congrArg (m ((c : Thread nD τ).loc main_arg4)) (funext fun a => by fin_cases a; exact Subsingleton.elim (α := Fin 1) _ _)
theorem sw_eq (c : Dev nD) (i : S1.Idx) : ((iblk m c 9 t0_0 : FVec Ideal S1 .f32) i : EReal) = (ag m c).sw := by
  show V m c main_arg9 ((win0_9.blk t0_0).view.emb i) = m ((c : Thread nD τ).loc main_arg9) (ix1 0)
  exact congrArg (m ((c : Thread nD τ).loc main_arg9)) (funext fun a => by fin_cases a; exact Subsingleton.elim (α := Fin 1) _ _)

/-- The reference's values, of its blocks. -/
abbrev nP (c : Dev nD) : FVec Ideal S7680x4096 .f32 := k0_pay3 (F := Ideal) (iblk m c 0 t0_0) (iblk m c 1 t0_0)
theorem n_eq (c : Dev nD) (r : Fin 7680) (q : Fin 4096) : (nP m c (ix2 r q) : EReal) = n1 (ag m c) r q := by
  refine (pay3_eq _ _ r q).trans ?_
  unfold n1
  rw [funext fun y => x_eq m c r y, funext fun y => g_eq m c y]
abbrev cP (c : Dev nD) (s : EReal) : FVec Ideal S7680x4096 .fp8e4m3 := k0_pay4 (F := Ideal) (iblk m c 0 t0_0) (iblk m c 1 t0_0) s
theorem c_eq (c : Dev nD) (s : EReal) (hs : s = (ag m c).sx) (r : Fin 7680) (q : Fin 4096) : (cP m c s (ix2 r q) : EReal) = xc (ag m c) r q := by
  refine (pay4_eq _ _ _ r q).trans ?_
  unfold xc
  rw [hs]
  exact congrArg (cT _) (n_eq m c r q)
abbrev mP (c : Dev nD) (s : EReal) : FVec Ideal S7680x3072 .f32 := k0_pay6 (F := Ideal) (iblk m c 0 t0_0) (iblk m c 1 t0_0) s (iblk m c 8 t0_0)
theorem lin_eq (c : Dev nD) (s u v : EReal) (hs : s = (ag m c).sx) (hu : u = (ag m c).sx) (hv : v = (ag m c).sw) (r : Fin 7680) (n : Fin 24) (l : Fin 128) :
    (k0_pay8 (F := Ideal) (mP m c s) (k0_pay7 (F := Ideal) u v) (ix3 r n l) : EReal) = lin (ag m c) r n l := by
  refine (pay8_eq _ _ _ r n l).trans ?_
  unfold lin
  rw [hu, hv]
  refine congrArg (· * _) ((mm_eq (cP m c s) (iblk m c 8 t0_0) r _).trans (Finset.sum_congr rfl fun k _ => ?_))
  rw [c_eq m c s hs r k, w_eq m c]
abbrev qP (c : Dev nD) (s u v : EReal) : FVec Ideal S7680x16x128 .f32 := k0_pay9 (F := Ideal) (mP m c s) (k0_pay7 (F := Ideal) u v) (iblk m c 2 t0_0) (iblk m c 10 t0_0) (iblk m c 11 t0_0)
theorem q_eq (c : Dev nD) (s u v : EReal) (hs : s = (ag m c).sx) (hu : u = (ag m c).sx) (hv' : v = (ag m c).sw) (r : Fin 7680) (n : Fin 16) (l : Fin 128) :
    (qP m c s u v (ix3 r n l) : EReal) = hv (ag m c) r ⟨n.val, by omega⟩ l := by
  refine (pay9_eq _ _ _ _ _ r n l).trans ?_
  unfold hv head
  rw [if_pos n.isLt, funext fun q => lin_eq m c s u v hs hu hv' r ⟨n.val, by omega⟩ q, funext fun q => qg_eq m c q, funext fun l => cos_eq m c r l, funext fun l => sin_eq m c r l]
abbrev kP (c : Dev nD) (s u v : EReal) : FVec Ideal S7680x4x128 .f32 := k0_pay13 (F := Ideal) (k0_pay10 (F := Ideal) (mP m c s) (k0_pay7 (F := Ideal) u v)) (k0_pay11 (F := Ideal) (iblk m c 3 t0_0)) (k0_pay12 (F := Ideal) (mP m c s) (k0_pay7 (F := Ideal) u v)) (Scalar.ofBits .f32 0x358637BD#32)
  (iblk m c 10 t0_0) (iblk m c 11 t0_0)
theorem k_eq (c : Dev nD) (s u v : EReal) (hs : s = (ag m c).sx) (hu : u = (ag m c).sx) (hv' : v = (ag m c).sw) (r : Fin 7680) (n : Fin 4) (l : Fin 128) :
    (kP m c s u v (ix3 r n l) : EReal) = hv (ag m c) r ⟨16 + n.val, by omega⟩ l := by
  refine (pay13_eq _ _ _ _ _ r n l).trans ?_
  unfold hv head
  rw [if_neg (by dsimp only; omega), if_pos (by dsimp only; omega), funext fun q => lin_eq m c s u v hs hu hv' r ⟨16 + n.val, by omega⟩ q, funext fun q => kg_eq m c q, funext fun l => cos_eq m c r l, funext fun l => sin_eq m c r l]
abbrev vP (c : Dev nD) (s u v : EReal) : FVec Ideal S7680x4x128 .f32 := k0_pay14 (F := Ideal) (k0_pay8 (F := Ideal) (mP m c s) (k0_pay7 (F := Ideal) u v))
theorem v_eq (c : Dev nD) (s u v : EReal) (hs : s = (ag m c).sx) (hu : u = (ag m c).sx) (hv' : v = (ag m c).sw) (r : Fin 7680) (n : Fin 4) (l : Fin 128) :
    (vP m c s u v (ix3 r n l) : EReal) = hv (ag m c) r ⟨20 + n.val, by omega⟩ l := by
  refine (pay14_eq _ r n l).trans ?_
  unfold hv head
  rw [if_neg (by dsimp only; omega), if_neg (by dsimp only; omega), lin_eq m c s u v hs hu hv' r ⟨20 + n.val, by omega⟩ l]

/-- The scales of the input's codes and of the weights, as the reference reads them. -/
abbrev sS (c : Dev nD) : EReal := (iblk m c 4 t0_0 : FVec Ideal S1 .f32) (Shape.Idx.first (by decide))
abbrev sW (c : Dev nD) : EReal := (iblk m c 9 t0_0 : FVec Ideal S1 .f32) (Shape.Idx.first (by decide))
theorem sS_eq (c : Dev nD) : sS m c = (ag m c).sx := sx_eq m c _
theorem sW_eq (c : Dev nD) : sW m c = (ag m c).sw := sw_eq m c _
abbrev qR (c : Dev nD) : FVec Ideal S7680x16x128 .f32 := qP m c (sS m c) (sS m c) (sW m c)
abbrev kR (c : Dev nD) : FVec Ideal S7680x4x128 .f32 := kP m c (sS m c) (sS m c) (sW m c)
abbrev vR (c : Dev nD) : FVec Ideal S7680x4x128 .f32 := vP m c (sS m c) (sS m c) (sW m c)
theorem qR_eq (c : Dev nD) (r : Fin 7680) (n : Fin 16) (l : Fin 128) : (qR m c (ix3 r n l) : EReal) = hv (ag m c) r ⟨n.val, by omega⟩ l := q_eq m c _ _ _ (sS_eq m c) (sS_eq m c) (sW_eq m c) r n l
theorem kR_eq (c : Dev nD) (r : Fin 7680) (n : Fin 4) (l : Fin 128) : (kR m c (ix3 r n l) : EReal) = hv (ag m c) r ⟨16 + n.val, by omega⟩ l := k_eq m c _ _ _ (sS_eq m c) (sS_eq m c) (sW_eq m c) r n l
theorem vR_eq (c : Dev nD) (r : Fin 7680) (n : Fin 4) (l : Fin 128) : (vR m c (ix3 r n l) : EReal) = hv (ag m c) r ⟨20 + n.val, by omega⟩ l := v_eq m c _ _ _ (sS_eq m c) (sS_eq m c) (sW_eq m c) r n l

theorem qO_eq (c : Dev nD) (r : Fin 7680) (q : Fin 2048) : (k0_pay15 (F := Ideal) (qR m c) (iblk m c 5 t0_0) (ix2 r q) : EReal) = qc (ag m c) r (hd 16 q) (ln 16 q) :=
  (pay15_eq _ _ r q).trans (congrArg₂ cT (sq_eq m c _) (qR_eq m c r _ _))
theorem kO_eq (c : Dev nD) (r : Fin 7680) (q : Fin 512) :
    (k0_pay18 (F := Ideal) (k0_pay16 (F := Ideal) (k0_pay10 (F := Ideal) (mP m c (sS m c)) (k0_pay7 (F := Ideal) (sS m c) (sW m c))) (k0_pay11 (F := Ideal) (iblk m c 3 t0_0)) (k0_pay12 (F := Ideal) (mP m c (sS m c)) (k0_pay7 (F := Ideal) (sS m c) (sW m c)))
      (Scalar.ofBits .f32 0x358637BD#32) (iblk m c 10 t0_0) (iblk m c 11 t0_0) (iblk m c 6 t0_0)) (Scalar.ofBits .f32 0x43E00000#32) (k0_pay17 (F := Ideal)) (ix2 r q) : EReal) = kc (ag m c) r (hd 4 q) (ln 4 q) :=
  (pay18_eq _ _ _ _ _ _ _ r q).trans (congrArg₂ cT (sk_eq m c _) (kR_eq m c r _ _))
theorem vO_eq (c : Dev nD) (r : Fin 7680) (q : Fin 512) : (k0_pay19 (F := Ideal) (vR m c) (iblk m c 7 t0_0) (ix2 r q) : EReal) = vc (ag m c) r (hd 4 q) (ln 4 q) :=
  (pay19_eq _ _ r q).trans (congrArg₂ cT (sv_eq m c _) (vR_eq m c r _ _))
theorem vtO_eq (c : Dev nD) (r : Fin 7680) (q : Fin 512) : (k0_pay20 (F := Ideal) (vR m c) (iblk m c 7 t0_0) (ix2 q r) : EReal) = vc (ag m c) r (hd 4 q) (ln 4 q) :=
  (pay20_eq _ _ r q).trans (congrArg₂ cT (sv_eq m c _) (vR_eq m c r _ _))

/-- The arrays the reference ends with. -/
theorem final12 (c : Dev nD) : (dats m 0 c).arrAt 12 (cfgs 0).N = xA (ag m c) := by
  refine (dats m 0 c).arrAt_eq_of_after_last 12 t0_0 (by decide +kernel) _ fun j => ?_
  blk_simp
  rw [after0_12]
  unfold outsAt0
  frame_out
  simp only [read_unread_whole]
  refine (congrArg _ (eq_ix2 j)).trans ?_
  exact c_eq m c _ (sS_eq m c) (j 0) (j 1)
theorem final13 (c : Dev nD) : (dats m 0 c).arrAt 13 (cfgs 0).N = qA (ag m c) := by
  refine (dats m 0 c).arrAt_eq_of_after_last 13 t0_0 (by decide +kernel) _ fun j => ?_
  blk_simp
  rw [after0_13]
  unfold outsAt0
  frame_out
  simp only [read_unread_whole]
  refine (congrArg _ (eq_ix2 j)).trans ?_
  exact qO_eq m c (j 0) (j 1)
theorem final14 (c : Dev nD) : (dats m 0 c).arrAt 14 (cfgs 0).N = kA (ag m c) := by
  refine (dats m 0 c).arrAt_eq_of_after_last 14 t0_0 (by decide +kernel) _ fun j => ?_
  blk_simp
  rw [after0_14]
  unfold outsAt0
  frame_out
  simp only [read_unread_whole]
  refine (congrArg _ (eq_ix2 j)).trans ?_
  exact kO_eq m c (j 0) (j 1)
theorem final15 (c : Dev nD) : (dats m 0 c).arrAt 15 (cfgs 0).N = vA (ag m c) := by
  refine (dats m 0 c).arrAt_eq_of_after_last 15 t0_0 (by decide +kernel) _ fun j => ?_
  blk_simp
  rw [after0_15]
  unfold outsAt0
  frame_out
  simp only [read_unread_whole]
  refine (congrArg _ (eq_ix2 j)).trans ?_
  exact vO_eq m c (j 0) (j 1)
theorem final16 (c : Dev nD) : (dats m 0 c).arrAt 16 (cfgs 0).N = vtA (ag m c) := by
  refine (dats m 0 c).arrAt_eq_of_after_last 16 t0_0 (by decide +kernel) _ fun j => ?_
  blk_simp
  rw [after0_16]
  unfold outsAt0
  frame_out
  simp only [read_unread_whole]
  refine (congrArg _ (eq_ix2 j)).trans ?_
  exact vtO_eq m c (j 1) (j 0)
theorem final17 (c : Dev nD) : (dats m 0 c).arrAt 17 (cfgs 0).N = mA (ag m c) := by
  refine (dats m 0 c).arrAt_eq_of_after_last 17 t0_0 (by decide +kernel) _ fun j => ?_
  blk_simp
  rw [after0_17]
  unfold outsAt0
  frame_out
  simp only [read_unread_whole]
  unfold mA xm
  refine eq_of_forall_ge_iff (α := EReal) fun b => ?_
  rw [iSup_le_iff]
  refine (pay5_le _ _ j b).trans (forall_congr' fun i => ?_)
  rw [← n_eq m c i.1 i.2]
theorem final18 (c : Dev nD) : (dats m 0 c).arrAt 18 (cfgs 0).N = hA (ag m c) := by
  refine (dats m 0 c).arrAt_eq_of_after_last 18 t0_0 (by decide +kernel) _ fun j => ?_
  blk_simp
  rw [after0_18]
  unfold outsAt0
  frame_out
  simp only [read_unread_whole]
  refine eq_of_forall_ge_iff (α := EReal) fun b => ?_
  refine Iff.trans ?_ (iSup_le_iff (f := fun i : Fin 7680 × Fin 128 => (FloatOps.absf (F := Ideal) (φ := .f32) (hv (ag m c) i.1 (j 0) i.2) : EReal)) (a := b)).symm
  have h := stores_eq (k0_pay21 (F := Ideal) (qR m c)) (k0_pay1 (F := Ideal) (kR m c)) (k0_pay2 (F := Ideal) (vR m c))
    (fun n e => ∀ i : Fin 7680 × Fin 128, (FloatOps.absf (F := Ideal) (φ := .f32) (hv (ag m c) i.1 n i.2) : EReal) ≤ e)
    (fun n x y e => (pay21_le (qR m c) n x y e).trans ⟨fun h i => qR_eq m c i.1 n i.2 ▸ h i.1 i.2, fun h r l => (qR_eq m c r n l).symm ▸ h (r, l)⟩)
    (fun n x y e => (pay1_le (kR m c) n x y e).trans ⟨fun h i => kR_eq m c i.1 n i.2 ▸ h i.1 i.2, fun h r l => (kR_eq m c r n l).symm ▸ h (r, l)⟩)
    (fun n x y e => (pay2_le (vR m c) n x y e).trans ⟨fun h i => vR_eq m c i.1 n i.2 ▸ h i.1 i.2, fun h r l => (vR_eq m c r n l).symm ▸ h (r, l)⟩)
    (j 0) (j 1) (j 2) b
  rw [← eq_ix3 j] at h
  exact h

end Cert.QkvRefIdeal.Val

end
-- ==== Proof.QkvClaim.lean ====
module

public import proofs.«01_k».proof.Defs
public import proofs.«01_k».proof.Proof.QkvValue
public import proofs.«01_k».proof.Proof.QkvRefValue

@[expose] public section

set_option maxRecDepth 16384

noncomputable section

open Idealize.ShloMosaic Idealize.ShloMosaic.TcCoe Idealize.SL.Sem

namespace Cert.Proof

/-- The attention heads' projections and their reference, run from memories that agree on the arguments, end with the same codes and
    the same largest magnitudes. -/
theorem qkv_algebraic : algebraic_QkvIdeal_QkvRefIdeal (hQkvIdeal := QkvIdeal.Gen.facts) (hQkvRefIdeal := QkvRefIdeal.Gen.facts) :=
  letI := QkvIdeal.Gen.facts
  letI := QkvRefIdeal.Gen.facts
  fun m g m' g' _ hm =>
    have e : ∀ c, QkvRefIdeal.Val.ag m' c = QkvIdeal.Val.ag m c := fun c => by
      obtain ⟨h0, h1, h2, h3, h4, h5, h6, h7, h8, h9, h10, h11⟩ := hm c
      unfold QkvRefIdeal.Val.ag
      rw [h0, h1, h2, h3, h4, h5, h6, h7, h8, h9, h10, h11]
    ⟨fun c => QkvSpec.xA (QkvIdeal.Val.ag m c),
      fun c => QkvSpec.qA (QkvIdeal.Val.ag m c),
      fun c => QkvSpec.kA (QkvIdeal.Val.ag m c),
      fun c => QkvSpec.vA (QkvIdeal.Val.ag m c),
      fun c => QkvSpec.vtA (QkvIdeal.Val.ag m c),
      fun c => QkvSpec.mA (QkvIdeal.Val.ag m c),
      fun c => QkvSpec.hA (QkvIdeal.Val.ag m c),
      (θ_run _ _ _).mono (fun r h c => by
          obtain ⟨k0, k1, k2, k3, k4, k5, k6, k⟩ := h c
          exact ⟨k0.trans (QkvIdeal.Val.final9 m c), k1.trans (QkvIdeal.Val.final10 m c), k2.trans (QkvIdeal.Val.final11 m c), k3.trans (QkvIdeal.Val.final12 m c), k4.trans (QkvIdeal.Val.final13 m c), k5.trans (QkvIdeal.Val.final14 m c), k6.trans (QkvIdeal.Val.final15 m c), k⟩)
        (QkvIdeal.Val.run_blocks m g),
      (θ_run _ _ _).mono (fun r h c => by
          obtain ⟨k0, k1, k2, k3, k4, k5, k6, k⟩ := h c
          exact ⟨k0.trans ((QkvRefIdeal.Val.final12 m' c).trans (congrArg QkvSpec.xA (e c))), k1.trans ((QkvRefIdeal.Val.final13 m' c).trans (congrArg QkvSpec.qA (e c))), k2.trans ((QkvRefIdeal.Val.final14 m' c).trans (congrArg QkvSpec.kA (e c))), k3.trans ((QkvRefIdeal.Val.final15 m' c).trans (congrArg QkvSpec.vA (e c))), k4.trans ((QkvRefIdeal.Val.final16 m' c).trans (congrArg QkvSpec.vtA (e c))), k5.trans ((QkvRefIdeal.Val.final17 m' c).trans (congrArg QkvSpec.mA (e c))), k6.trans ((QkvRefIdeal.Val.final18 m' c).trans (congrArg QkvSpec.hA (e c))), k⟩)
        (QkvRefIdeal.Value.run_blocks m' g')⟩

end Cert.Proof

end
-- ==== Proof.OProjRuns.lean ====
/- What the runs of the output projection's body share: which points take which branch, where a window is left alone, and the buffers the body is called on. -/
module

public import proofs.«01_k».proof.Proof.Gen.OProjIdeal.Launch
public import proofs.«01_k».proof.Proof.Gen.OProjIdeal.Skeleton
public import proofs.«01_k».proof.Proof.Gen.OProjIdeal.Points
public import proofs.«01_k».proof.Proof.Gen.OProjIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.OProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch 0. -/
abbrev cond0_0 (i : grid0.Coords) : Prop := k0_cond1 i = 1#1
/-- The condition of the body's branch 1. -/
abbrev cond0_1 (i : grid0.Coords) : Prop := k0_cond2 i = 1#1
/-- The condition of the body's branch 2. -/
abbrev cond0_2 (i : grid0.Coords) : Prop := k0_cond3 i = 1#1
/-- The condition of the body's branch 3. -/
abbrev cond0_3 (i : grid0.Coords) : Prop := k0_cond4 i = 1#1

/-- The first point: the branches it takes. -/
abbrev conds0_A (i : grid0.Coords) : Prop := cond0_0 i ∧ ¬cond0_1 i ∧ ¬cond0_2 i ∧ ¬cond0_3 i
/-- The first point is one of these. -/
theorem isA : ∀ t : Fin cfg0.N, t.val = 0 → conds0_A (grid0.coords t) :=
  (by decide +kernel : ∀ t : Fin grid0.N, t.val = 0 → conds0_A (grid0.coords t))

/-- An odd point: the branches it takes. -/
abbrev conds0_B (i : grid0.Coords) : Prop := ¬cond0_0 i ∧ cond0_1 i ∧ ¬cond0_2 i ∧ ¬cond0_3 i
/-- An odd point is one of these. -/
theorem isB : ∀ t : Fin cfg0.N, t.val % 2 = 1 → conds0_B (grid0.coords t) :=
  (by decide +kernel : ∀ t : Fin grid0.N, t.val % 2 = 1 → conds0_B (grid0.coords t))

/-- An even point between the first and the last: the branches it takes. -/
abbrev conds0_C (i : grid0.Coords) : Prop := ¬cond0_0 i ∧ ¬cond0_1 i ∧ cond0_2 i ∧ ¬cond0_3 i
/-- An even point between the first and the last is one of these. -/
theorem isC : ∀ t : Fin cfg0.N, ¬t.val = 0 ∧ t.val % 2 = 0 ∧ ¬t.val = 30 → conds0_C (grid0.coords t) :=
  (by decide +kernel : ∀ t : Fin grid0.N, ¬t.val = 0 ∧ t.val % 2 = 0 ∧ ¬t.val = 30 → conds0_C (grid0.coords t))

/-- The last point: the branches it takes. -/
abbrev conds0_D (i : grid0.Coords) : Prop := ¬cond0_0 i ∧ ¬cond0_1 i ∧ ¬cond0_2 i ∧ cond0_3 i
/-- The last point is one of these. -/
theorem isD : ∀ t : Fin cfg0.N, t.val = 30 → conds0_D (grid0.coords t) :=
  (by decide +kernel : ∀ t : Fin grid0.N, t.val = 30 → conds0_D (grid0.coords t))

/-- No input window is left alone at any point. -/
theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
/-- The residual's window is written at every point but the last. -/
theorem live0_5 : ∀ t : Fin cfg0.N, ¬t.val = 30 → cfg0.idle 5 (grid0.coords t) = false :=
  (by decide +kernel : ∀ t : Fin grid0.N, ¬t.val = 30 → cfg0.idle 5 (grid0.coords t) = false)
/-- At the last point the residual's window is left alone … -/
theorem idle0_5 : ∀ t : Fin cfg0.N, t.val = 30 → cfg0.idle 5 (grid0.coords t) = true :=
  (by decide +kernel : ∀ t : Fin grid0.N, t.val = 30 → cfg0.idle 5 (grid0.coords t) = true)
/-- … and written back. -/
theorem flush0_5 : ∀ t : Fin cfg0.N, t.val = 30 → (cfg0.win 5).flush t = true :=
  (by decide +kernel : ∀ t : Fin grid0.N, t.val = 30 → (cfg0.win 5).flush t = true)
/-- The codes' window is left alone at the first point … -/
theorem idle0_6 : ∀ t : Fin cfg0.N, t.val = 0 → cfg0.idle 6 (grid0.coords t) = true :=
  (by decide +kernel : ∀ t : Fin grid0.N, t.val = 0 → cfg0.idle 6 (grid0.coords t) = true)
/-- … and not written back there. -/
theorem noflush0_6 : ∀ t : Fin cfg0.N, t.val = 0 → (cfg0.win 6).flush t = false :=
  (by decide +kernel : ∀ t : Fin grid0.N, t.val = 0 → (cfg0.win 6).flush t = false)
/-- The codes' window is written at every later point. -/
theorem live0_6 : ∀ t : Fin cfg0.N, ¬t.val = 0 → cfg0.idle 6 (grid0.coords t) = false :=
  (by decide +kernel : ∀ t : Fin grid0.N, ¬t.val = 0 → cfg0.idle 6 (grid0.coords t) = false)
/-- The running maximum's window is written at every point. -/
theorem live0_7 : ∀ t : Fin cfg0.N, cfg0.idle 7 (grid0.coords t) = false :=
  (by decide +kernel : ∀ t : Fin grid0.N, cfg0.idle 7 (grid0.coords t) = false)

/-- Whether the residual's buffer holds nothing stored since its last write-back, by position. -/
def freshTab0_5 : ℕ → Bool
  | 0 => true
  | n + 1 => (0x5fffffff : ℕ).testBit n
theorem freshTab0_5_step : ∀ t : Fin cfg0.N,
    freshTab0_5 (t.val + 1) = ((cfg0.win 5).flush t || (cfg0.idle 5 (cfg0.grid.coords t) && freshTab0_5 t.val)) := by decide +kernel
/-- At the last point the residual's buffer holds what the point before stored. -/
theorem notFresh0_5 (t : Fin cfg0.N) (h : t.val = 30) : cfg0.fresh 5 t.val = false := by
  rw [Pipeline.Cfg.fresh_tab cfg0 5 freshTab0_5 rfl freshTab0_5_step t.val (Nat.le_of_lt t.isLt), h]; decide
/-- Whether the running maximum's buffer holds nothing stored since its last write-back, by position. -/
def freshTab0_7 : ℕ → Bool
  | 0 => true
  | n + 1 => (0x40000000 : ℕ).testBit n
theorem freshTab0_7_step : ∀ t : Fin cfg0.N,
    freshTab0_7 (t.val + 1) = ((cfg0.win 7).flush t || (cfg0.idle 7 (cfg0.grid.coords t) && freshTab0_7 t.val)) := by decide +kernel
/-- After the first point the running maximum's buffer holds what the point before stored. -/
theorem notFresh0_7 (t : Fin cfg0.N) (h : ¬t.val = 0) : cfg0.fresh 7 t.val = false := by
  rw [Pipeline.Cfg.fresh_tab cfg0 7 freshTab0_7 rfl freshTab0_7_step t.val (Nat.le_of_lt t.isLt)]
  revert h; revert t
  exact (by decide +kernel : ∀ t : Fin grid0.N, ¬t.val = 0 → freshTab0_7 t.val = false)

/-- One staging buffer of output 5, through which its contents are read. -/
abbrev VO0_5 : View sig .tc .vmem S256x4096 .f32 := (Memref.whole cc0_stg5_0 : Memref sig .tc .vmem S256x4096 .f32).view
/-- One staging buffer of output 6, through which its contents are read. -/
abbrev VO0_6 : View sig .tc .vmem S256x4096 .fp8e4m3 := (Memref.whole cc0_stg6_0 : Memref sig .tc .vmem S256x4096 .fp8e4m3).view
/-- One staging buffer of output 7, through which its contents are read. -/
abbrev VO0_7 : View sig .tc .vmem S8x128 .f32 := (Memref.whole cc0_stg7_0 : Memref sig .tc .vmem S8x128 .f32).view
/-- Each window's current staging buffer, and that it is whole. -/
abbrev ms0_0 (t : Fin cfg0.N) : Memref sig .tc .smem S3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)
/-- The scratch buffers. -/
abbrev scM0_0 : Memref sig .tc .vmem S256x4096 .f32 := Memref.whole cc0_scratch0
abbrev scM0_1 : Memref sig .tc .vmem S256x4096 .f32 := Memref.whole cc0_scratch1
abbrev scM0_2 : Memref sig .tc .vmem S256x128 .f32 := Memref.whole cc0_scratch2
abbrev scM0_3 : Memref sig .tc .vmem S256x128 .f32 := Memref.whole cc0_scratch3
/-- The scratch `arg9`, as a view. -/
abbrev VS0_0 : View sig .tc .vmem S256x4096 .f32 := scM0_0.view
/-- The scratch `arg10`, as a view. -/
abbrev VS0_1 : View sig .tc .vmem S256x4096 .f32 := scM0_1.view
/-- The scratch `arg11`, as a view. -/
abbrev VS0_2 : View sig .tc .vmem S256x128 .f32 := scM0_2.view
/-- The scratch `arg12`, as a view. -/
abbrev VS0_3 : View sig .tc .vmem S256x128 .f32 := scM0_3.view

/-- Between points nothing but the scratch buffers and the generator register is held. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.OProjIdeal.Gen

end
-- ==== Proof.OProjRunA.lean ====
/- The run of the output projection's body at the first point (the product of tile 0 into buffer a; nothing normalised yet). -/
module

public import proofs.«01_k».proof.Proof.OProjRuns

@[expose] public section

set_option maxRecDepth 16384

noncomputable section

namespace Cert.OProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the first point (the product of tile 0 into buffer a; nothing normalised yet): the pieces its stores leave in each output and scratch buffer, with the proof that it runs from the blocks found to exactly those pieces. -/
noncomputable def kernelRun0_A (c : Dev nD) (i : grid0.Coords) (arg1 : Memref sig .tc .smem S3 .f32) (harg1 : arg1.IsWhole) (arg2 : Memref sig .tc .vmem S256x2048 .fp8e4m3) (harg2 : arg2.IsWhole) (arg3 : Memref sig .tc .vmem S2048x4096 .fp8e4m3) (harg3 : arg3.IsWhole) (arg4 : Memref sig .tc .vmem S256x4096 .bf16) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .fp8e4m3) (harg7 : arg7.IsWhole) (arg8 : Memref sig .tc .vmem S8x128 .f32) (harg8 : arg8.IsWhole) (arg9 : Memref sig .tc .vmem S256x4096 .f32) (harg9 : arg9.IsWhole) (arg10 : Memref sig .tc .vmem S256x4096 .f32) (harg10 : arg10.IsWhole) (arg11 : Memref sig .tc .vmem S256x128 .f32) (harg11 : arg11.IsWhole) (arg12 : Memref sig .tc .vmem S256x128 .f32) (harg12 : arg12.IsWhole) (hc0 : cond0_0 i) (hc1 : ¬cond0_1 i) (hc2 : ¬cond0_2 i) (hc3 : ¬cond0_3 i)
    (x0 : Vec F S3 .f32) (x1 : Vec F S256x2048 .fp8e4m3) (x2 : Vec F S2048x4096 .fp8e4m3) (x3 : Vec F S256x4096 .bf16) (x4 : Vec F S1x4096 .f32) :
    Σ' (L5 : List (View.Piece (Elt F) S256x4096 .f32)), Σ' (L6 : List (View.Piece (Elt F) S256x4096 .fp8e4m3)), Σ' (L7 : List (View.Piece (Elt F) S8x128 .f32)), Σ' (LS0 : List (View.Piece (Elt F) S256x4096 .f32)), Σ' (LS1 : List (View.Piece (Elt F) S256x4096 .f32)), Σ' (LS2 : List (View.Piece (Elt F) S256x128 .f32)), { LS3 : List (View.Piece (Elt F) S256x128 .f32) //
      ∀ (xi6 : Vec F S256x4096 .fp8e4m3) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ d, owns (c : Thread nD τ) arg10 fullShare d) ∗ (∃ f, arg11.view.loc (c : Thread nD τ) ↦[arg11.view.set]{fullShare} arg11.view.writes (Elt F) f LS2) ∗ (∃ d, owns (c : Thread nD τ) arg12 fullShare d)) -∗ K ⟨⟩))
          ⊢ wp frame (wpE (defs₀ (F := F)) Variants.none c none) E (cc0_o_proj i arg1 harg1 arg2 harg2 arg3 harg3 arg4 harg4 arg5 harg5 arg6 harg6 arg7 harg7 arg8 harg8 arg9 harg9 arg10 harg10 arg11 harg11 arg12 harg12) K } := by
  refine ⟨?_, [], ?_, ?_, [], ?_, [], fun xi6 E K => ?run⟩
  case run =>
    simp only [cc0_o_proj_eq_skeleton]; unfold cc0_o_proj_skel
    simp only [k0_part270_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%ds0, %fs0, -, HS0⟩, ⟨%ds1, %fs1, %hfs1, HS1⟩, ⟨%ds2, %fs2, -, HS2⟩, ⟨%ds3, %fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]; · iexists _; iexact H7
    isplitl [HS0]; · iexists _; iexact HS0
    isplitl [HS1]
    · iexists ds1; iexists fs1; isplitr; · ipureintro; exact hfs1
      iexact HS1
    isplitl [HS2]; · iexists _; iexact HS2
    iexists ds3; iexists fs3; isplitr; · ipureintro; exact hfs3
    iexact HS3

end Cert.OProjIdeal.Gen

end
-- ==== Proof.OProjRunB.lean ====
/- The run of the output projection's body at an odd point (the product of this tile into buffer b, the tile before it normalised out of buffer a). -/
module

public import proofs.«01_k».proof.Proof.OProjRunA

@[expose] public section

set_option maxRecDepth 16384

noncomputable section

namespace Cert.OProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4272000 in
/-- The body's run at an odd point (the product of this tile into buffer b, the tile before it normalised out of buffer a): the pieces its stores leave in each output and scratch buffer, with the proof that it runs from the blocks found to exactly those pieces. -/
noncomputable def kernelRun0_B (c : Dev nD) (i : grid0.Coords) (arg1 : Memref sig .tc .smem S3 .f32) (harg1 : arg1.IsWhole) (arg2 : Memref sig .tc .vmem S256x2048 .fp8e4m3) (harg2 : arg2.IsWhole) (arg3 : Memref sig .tc .vmem S2048x4096 .fp8e4m3) (harg3 : arg3.IsWhole) (arg4 : Memref sig .tc .vmem S256x4096 .bf16) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .fp8e4m3) (harg7 : arg7.IsWhole) (arg8 : Memref sig .tc .vmem S8x128 .f32) (harg8 : arg8.IsWhole) (arg9 : Memref sig .tc .vmem S256x4096 .f32) (harg9 : arg9.IsWhole) (arg10 : Memref sig .tc .vmem S256x4096 .f32) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : cond0_1 i) (hc2 : ¬cond0_2 i) (hc3 : ¬cond0_3 i)
    (x0 : Vec F S3 .f32) (x1 : Vec F S256x2048 .fp8e4m3) (x2 : Vec F S2048x4096 .fp8e4m3) (x3 : Vec F S256x4096 .bf16) (x4 : Vec F S1x4096 .f32) (xo7 : Vec F S8x128 .f32) (xs0 : Vec F S256x4096 .f32) (xs2 : Vec F S256x128 .f32) :
    Σ' (L5 : List (View.Piece (Elt F) S256x4096 .f32)), Σ' (L6 : List (View.Piece (Elt F) S256x4096 .fp8e4m3)), Σ' (L7 : List (View.Piece (Elt F) S8x128 .f32)), Σ' (LS0 : List (View.Piece (Elt F) S256x4096 .f32)), Σ' (LS1 : List (View.Piece (Elt F) S256x4096 .f32)), Σ' (LS2 : List (View.Piece (Elt F) S256x128 .f32)), { LS3 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xo7 ∗ owns (c : Thread nD τ) arg9 fullShare xs0 ∗ (∃ d, owns (c : Thread nD τ) arg10 fullShare d) ∗ owns (c : Thread nD τ) arg11 fullShare xs2 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0 ∗ (∃ f, arg10.view.loc (c : Thread nD τ) ↦[arg10.view.set]{fullShare} arg10.view.writes (Elt F) f LS1) ∗ owns (c : Thread nD τ) arg11 fullShare xs2 ∗ (∃ f, arg12.view.loc (c : Thread nD τ) ↦[arg12.view.set]{fullShare} arg12.view.writes (Elt F) f LS3)) -∗ K ⟨⟩))
          ⊢ wp frame (wpE (defs₀ (F := F)) Variants.none c none) E (cc0_o_proj i arg1 harg1 arg2 harg2 arg3 harg3 arg4 harg4 arg5 harg5 arg6 harg6 arg7 harg7 arg8 harg8 arg9 harg9 arg10 harg10 arg11 harg11 arg12 harg12) K } := by
  refine ⟨?_, ?_, ?_, [], ?_, [], ?_, fun E K => ?run⟩
  case run =>
    simp only [cc0_o_proj_eq_skeleton]; unfold cc0_o_proj_skel
    simp only [k0_part270_eq_skeleton, k0_part94_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part95_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, ⟨%ds1, %fs1, -, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hfs0; obtain rfl := harg11.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _; isplitr; · ipureintro; exact harg9.read_unread _
      iexact HS0
    isplitl [HS1]; · iexists _; iexact HS1
    isplitl [HS2]
    · iexists _; isplitr; · ipureintro; exact harg11.read_unread _
      iexact HS2
    iexists _; iexact HS3

end Cert.OProjIdeal.Gen

end
-- ==== Proof.OProjRunC.lean ====
/- The run of the output projection's body at an even point between the first and the last (the product of this tile into buffer a, the tile before it normalised out of buffer b). -/
module

public import proofs.«01_k».proof.Proof.OProjRunB

@[expose] public section

set_option maxRecDepth 16384

noncomputable section

namespace Cert.OProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4272000 in
/-- The body's run at an even point between the first and the last (the product of this tile into buffer a, the tile before it normalised out of buffer b): the pieces its stores leave in each output and scratch buffer, with the proof that it runs from the blocks found to exactly those pieces. -/
noncomputable def kernelRun0_C (c : Dev nD) (i : grid0.Coords) (arg1 : Memref sig .tc .smem S3 .f32) (harg1 : arg1.IsWhole) (arg2 : Memref sig .tc .vmem S256x2048 .fp8e4m3) (harg2 : arg2.IsWhole) (arg3 : Memref sig .tc .vmem S2048x4096 .fp8e4m3) (harg3 : arg3.IsWhole) (arg4 : Memref sig .tc .vmem S256x4096 .bf16) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .fp8e4m3) (harg7 : arg7.IsWhole) (arg8 : Memref sig .tc .vmem S8x128 .f32) (harg8 : arg8.IsWhole) (arg9 : Memref sig .tc .vmem S256x4096 .f32) (harg9 : arg9.IsWhole) (arg10 : Memref sig .tc .vmem S256x4096 .f32) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : cond0_2 i) (hc3 : ¬cond0_3 i)
    (x0 : Vec F S3 .f32) (x1 : Vec F S256x2048 .fp8e4m3) (x2 : Vec F S2048x4096 .fp8e4m3) (x3 : Vec F S256x4096 .bf16) (x4 : Vec F S1x4096 .f32) (xo7 : Vec F S8x128 .f32) (xs1 : Vec F S256x4096 .f32) (xs3 : Vec F S256x128 .f32) :
    Σ' (L5 : List (View.Piece (Elt F) S256x4096 .f32)), Σ' (L6 : List (View.Piece (Elt F) S256x4096 .fp8e4m3)), Σ' (L7 : List (View.Piece (Elt F) S8x128 .f32)), Σ' (LS0 : List (View.Piece (Elt F) S256x4096 .f32)), Σ' (LS1 : List (View.Piece (Elt F) S256x4096 .f32)), Σ' (LS2 : List (View.Piece (Elt F) S256x128 .f32)), { LS3 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xo7 ∗ (∃ d, owns (c : Thread nD τ) arg9 fullShare d) ∗ owns (c : Thread nD τ) arg10 fullShare xs1 ∗ (∃ d, owns (c : Thread nD τ) arg11 fullShare d) ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ owns (c : Thread nD τ) arg10 fullShare xs1 ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc0_o_proj i arg1 harg1 arg2 harg2 arg3 harg3 arg4 harg4 arg5 harg5 arg6 harg6 arg7 harg7 arg8 harg8 arg9 harg9 arg10 harg10 arg11 harg11 arg12 harg12) K } := by
  refine ⟨?_, ?_, ?_, ?_, [], ?_, [], fun E K => ?run⟩
  case run =>
    simp only [cc0_o_proj_eq_skeleton]; unfold cc0_o_proj_skel
    simp only [k0_part270_eq_skeleton, k0_part184_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part185_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, ⟨%fs1, %hfs1, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg10.eq_unread hfs1; obtain rfl := harg12.eq_unread hfs3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    isplitl [HS1]
    · iexists _; isplitr; · ipureintro; exact harg10.read_unread _
      iexact HS1
    isplitl [HS2]; · iexists _; iexact HS2
    iexists _; isplitr; · ipureintro; exact harg12.read_unread _
    iexact HS3

end Cert.OProjIdeal.Gen

end
-- ==== Proof.OProjRunD.lean ====
/- The run of the output projection's body at the last point (no product; the last tile normalised out of buffer b, the running maximum reduced). -/
module

public import proofs.«01_k».proof.Proof.OProjRunC

@[expose] public section

set_option maxRecDepth 16384

noncomputable section

namespace Cert.OProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3788000 in
/-- The body's run at the last point (no product; the last tile normalised out of buffer b, the running maximum reduced): the pieces its stores leave in each output and scratch buffer, with the proof that it runs from the blocks found to exactly those pieces. -/
noncomputable def kernelRun0_D (c : Dev nD) (i : grid0.Coords) (arg1 : Memref sig .tc .smem S3 .f32) (harg1 : arg1.IsWhole) (arg2 : Memref sig .tc .vmem S256x2048 .fp8e4m3) (harg2 : arg2.IsWhole) (arg3 : Memref sig .tc .vmem S2048x4096 .fp8e4m3) (harg3 : arg3.IsWhole) (arg4 : Memref sig .tc .vmem S256x4096 .bf16) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .fp8e4m3) (harg7 : arg7.IsWhole) (arg8 : Memref sig .tc .vmem S8x128 .f32) (harg8 : arg8.IsWhole) (arg9 : Memref sig .tc .vmem S256x4096 .f32) (harg9 : arg9.IsWhole) (arg10 : Memref sig .tc .vmem S256x4096 .f32) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : ¬cond0_2 i) (hc3 : cond0_3 i)
    (x0 : Vec F S3 .f32) (x1 : Vec F S256x2048 .fp8e4m3) (x2 : Vec F S2048x4096 .fp8e4m3) (x3 : Vec F S256x4096 .bf16) (x4 : Vec F S1x4096 .f32) (xo5 : Vec F S256x4096 .f32) (xo7 : Vec F S8x128 .f32) (xs1 : Vec F S256x4096 .f32) (xs3 : Vec F S256x128 .f32) :
    Σ' (L5 : List (View.Piece (Elt F) S256x4096 .f32)), Σ' (L6 : List (View.Piece (Elt F) S256x4096 .fp8e4m3)), Σ' (L7 : List (View.Piece (Elt F) S8x128 .f32)), Σ' (LS0 : List (View.Piece (Elt F) S256x4096 .f32)), Σ' (LS1 : List (View.Piece (Elt F) S256x4096 .f32)), Σ' (LS2 : List (View.Piece (Elt F) S256x128 .f32)), { LS3 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5 ∗ (∃ d, owns (c : Thread nD τ) arg7 fullShare d) ∗ owns (c : Thread nD τ) arg8 fullShare xo7 ∗ (∃ d, owns (c : Thread nD τ) arg9 fullShare d) ∗ owns (c : Thread nD τ) arg10 fullShare xs1 ∗ (∃ d, owns (c : Thread nD τ) arg11 fullShare d) ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ owns (c : Thread nD τ) arg10 fullShare xs1 ∗ (∃ d, owns (c : Thread nD τ) arg11 fullShare d) ∗ owns (c : Thread nD τ) arg12 fullShare xs3) -∗ K ⟨⟩))
          ⊢ wp frame (wpE (defs₀ (F := F)) Variants.none c none) E (cc0_o_proj i arg1 harg1 arg2 harg2 arg3 harg3 arg4 harg4 arg5 harg5 arg6 harg6 arg7 harg7 arg8 harg8 arg9 harg9 arg10 harg10 arg11 harg11 arg12 harg12) K } := by
  refine ⟨[], ?_, ?_, [], [], [], [], fun E K => ?run⟩
  case run =>
    simp only [cc0_o_proj_eq_skeleton]; unfold cc0_o_proj_skel
    simp only [k0_part270_eq_skeleton, k0_part269_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, %hfs0, HS0⟩, ⟨%fs1, %hfs1, HS1⟩, ⟨%ds2, %fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg10.eq_unread hfs1; obtain rfl := harg12.eq_unread hfs3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]
    · iexists ds0; iexists fs0; isplitr; · ipureintro; exact hfs0
      iexact HS0
    isplitl [HS1]
    · iexists _; isplitr; · ipureintro; exact harg10.read_unread _
      iexact HS1
    isplitl [HS2]
    · iexists ds2; iexists fs2; isplitr; · ipureintro; exact hfs2
      iexact HS2
    iexists _; isplitr; · ipureintro; exact harg12.read_unread _
    iexact HS3

end Cert.OProjIdeal.Gen

end
-- ==== Proof.OProjFrame.lean ====
/- The frame of the output projection: what every buffer holds at every point, point by point from the runs, and from it that the kernel runs to the end and leaves its arguments alone. -/
module

public import proofs.«01_k».proof.Proof.OProjRunD
public import Idealize.ShloMosaic.Lib.Claim

@[expose] public section

set_option maxRecDepth 16384

noncomputable section

namespace Cert.OProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the block of the residual, the block of codes, the running maximum, and the tile and its partial sums of squares in the scratch buffers it wrote. -/
abbrev St (F : FTy → Type) : Type := Vec F S256x4096 .f32 × Vec F S256x4096 .fp8e4m3 × Vec F S8x128 .f32 × Vec F S256x4096 .f32 × Vec F S256x128 .f32

/-- The run at the first point, on the buffers it is called on. -/
def runA (c : Dev nD) (t : Fin cfg0.N) (h : conds0_A (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) h.1 h.2.1 h.2.2.1 h.2.2.2 (iblk m c 0 t) (iblk m c 1 t) (iblk m c 2 t) (iblk m c 3 t) (iblk m c 4 t)

/-- At the first point the stores cover the residual's buffer. -/
theorem coverA_5 (c : Dev nD) (t : Fin cfg0.N) (h : conds0_A (grid0.coords t)) (y : S256x4096.Idx) :
    ∃ pc ∈ (runA m c t h).1, y ∈ pc.1.set :=
  View.cover_of_tiledL (runA m c t h).1 S256x512.size (by sl_kernel_rfl) y
/-- What the first point leaves in the residual's buffer. -/
def outA_5 (c : Dev nD) (t : Fin cfg0.N) (h : conds0_A (grid0.coords t)) : Vec F S256x4096 .f32 :=
  VO0_5.read (Elt F) (VO0_5.writes (Elt F) VO0_5.junk (runA m c t h).1)

/-- At the first point the stores cover the running maximum's buffer. -/
theorem coverA_7 (c : Dev nD) (t : Fin cfg0.N) (h : conds0_A (grid0.coords t)) (y : S8x128.Idx) :
    ∃ pc ∈ (runA m c t h).2.2.1, y ∈ pc.1.set :=
  View.cover_of_tiledL (runA m c t h).2.2.1 S8x128.size (by sl_kernel_rfl) y
/-- What the first point leaves in the running maximum's buffer. -/
def outA_7 (c : Dev nD) (t : Fin cfg0.N) (h : conds0_A (grid0.coords t)) : Vec F S8x128 .f32 :=
  VO0_7.read (Elt F) (VO0_7.writes (Elt F) VO0_7.junk (runA m c t h).2.2.1)

/-- At the first point the stores cover the scratch tile. -/
theorem coverA_h (c : Dev nD) (t : Fin cfg0.N) (h : conds0_A (grid0.coords t)) (y : S256x4096.Idx) :
    ∃ pc ∈ (runA m c t h).2.2.2.1, y ∈ pc.1.set :=
  View.cover_of_tiledL (runA m c t h).2.2.2.1 S256x512.size (by sl_kernel_rfl) y
/-- What the first point leaves in the scratch tile. -/
def outA_h (c : Dev nD) (t : Fin cfg0.N) (h : conds0_A (grid0.coords t)) : Vec F S256x4096 .f32 :=
  VS0_0.read (Elt F) (VS0_0.writes (Elt F) VS0_0.junk (runA m c t h).2.2.2.1)

/-- At the first point the stores cover the scratch sums of squares. -/
theorem coverA_q (c : Dev nD) (t : Fin cfg0.N) (h : conds0_A (grid0.coords t)) (y : S256x128.Idx) :
    ∃ pc ∈ (runA m c t h).2.2.2.2.2.1, y ∈ pc.1.set :=
  View.cover_of_tiledL (runA m c t h).2.2.2.2.2.1 S256x128.size (by sl_kernel_rfl) y
/-- What the first point leaves in the scratch sums of squares. -/
def outA_q (c : Dev nD) (t : Fin cfg0.N) (h : conds0_A (grid0.coords t)) : Vec F S256x128 .f32 :=
  VS0_2.read (Elt F) (VS0_2.writes (Elt F) VS0_2.junk (runA m c t h).2.2.2.2.2.1)

/-- What the first point leaves. -/
def stA (c : Dev nD) (t : Fin cfg0.N) (h : conds0_A (grid0.coords t)) : St F :=
  (outA_5 m c t h, VO0_6.read (Elt F) VO0_6.junk, outA_7 m c t h, outA_h m c t h, outA_q m c t h)

/-- The run at an odd point, on the buffers it is called on, over what the point before left. -/
def runB (c : Dev nD) (t : Fin cfg0.N) (h : conds0_B (grid0.coords t)) (p : St F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) h.1 h.2.1 h.2.2.1 h.2.2.2 (iblk m c 0 t) (iblk m c 1 t) (iblk m c 2 t) (iblk m c 3 t) (iblk m c 4 t) p.2.2.1 p.2.2.2.1 p.2.2.2.2

/-- At an odd point the stores cover the residual's buffer. -/
theorem coverB_5 (c : Dev nD) (t : Fin cfg0.N) (h : conds0_B (grid0.coords t)) (p : St F) (y : S256x4096.Idx) :
    ∃ pc ∈ (runB m c t h p).1, y ∈ pc.1.set :=
  View.cover_of_tiledL (runB m c t h p).1 S256x512.size (by sl_kernel_rfl) y
/-- What an odd point leaves in the residual's buffer. -/
def outB_5 (c : Dev nD) (t : Fin cfg0.N) (h : conds0_B (grid0.coords t)) (p : St F) : Vec F S256x4096 .f32 :=
  VO0_5.read (Elt F) (VO0_5.writes (Elt F) VO0_5.junk (runB m c t h p).1)

/-- At an odd point the stores cover the codes' buffer. -/
theorem coverB_6 (c : Dev nD) (t : Fin cfg0.N) (h : conds0_B (grid0.coords t)) (p : St F) (y : S256x4096.Idx) :
    ∃ pc ∈ (runB m c t h p).2.1, y ∈ pc.1.set :=
  View.cover_of_tiledL (runB m c t h p).2.1 S16x512.size (by sl_kernel_rfl) y
/-- What an odd point leaves in the codes' buffer. -/
def outB_6 (c : Dev nD) (t : Fin cfg0.N) (h : conds0_B (grid0.coords t)) (p : St F) : Vec F S256x4096 .fp8e4m3 :=
  VO0_6.read (Elt F) (VO0_6.writes (Elt F) VO0_6.junk (runB m c t h p).2.1)

/-- At an odd point the stores cover the running maximum's buffer. -/
theorem coverB_7 (c : Dev nD) (t : Fin cfg0.N) (h : conds0_B (grid0.coords t)) (p : St F) (y : S8x128.Idx) :
    ∃ pc ∈ (runB m c t h p).2.2.1, y ∈ pc.1.set :=
  View.cover_of_tiledL (runB m c t h p).2.2.1 S8x128.size (by sl_kernel_rfl) y
/-- What an odd point leaves in the running maximum's buffer. -/
def outB_7 (c : Dev nD) (t : Fin cfg0.N) (h : conds0_B (grid0.coords t)) (p : St F) : Vec F S8x128 .f32 :=
  VO0_7.read (Elt F) (VO0_7.writes (Elt F) VO0_7.junk (runB m c t h p).2.2.1)

/-- At an odd point the stores cover the scratch tile. -/
theorem coverB_h (c : Dev nD) (t : Fin cfg0.N) (h : conds0_B (grid0.coords t)) (p : St F) (y : S256x4096.Idx) :
    ∃ pc ∈ (runB m c t h p).2.2.2.2.1, y ∈ pc.1.set :=
  View.cover_of_tiledL (runB m c t h p).2.2.2.2.1 S256x512.size (by sl_kernel_rfl) y
/-- What an odd point leaves in the scratch tile. -/
def outB_h (c : Dev nD) (t : Fin cfg0.N) (h : conds0_B (grid0.coords t)) (p : St F) : Vec F S256x4096 .f32 :=
  VS0_1.read (Elt F) (VS0_1.writes (Elt F) VS0_1.junk (runB m c t h p).2.2.2.2.1)

/-- At an odd point the stores cover the scratch sums of squares. -/
theorem coverB_q (c : Dev nD) (t : Fin cfg0.N) (h : conds0_B (grid0.coords t)) (p : St F) (y : S256x128.Idx) :
    ∃ pc ∈ (runB m c t h p).2.2.2.2.2.2.1, y ∈ pc.1.set :=
  View.cover_of_tiledL (runB m c t h p).2.2.2.2.2.2.1 S256x128.size (by sl_kernel_rfl) y
/-- What an odd point leaves in the scratch sums of squares. -/
def outB_q (c : Dev nD) (t : Fin cfg0.N) (h : conds0_B (grid0.coords t)) (p : St F) : Vec F S256x128 .f32 :=
  VS0_3.read (Elt F) (VS0_3.writes (Elt F) VS0_3.junk (runB m c t h p).2.2.2.2.2.2.1)

/-- What an odd point leaves. -/
def stB (c : Dev nD) (t : Fin cfg0.N) (h : conds0_B (grid0.coords t)) (p : St F) : St F :=
  (outB_5 m c t h p, outB_6 m c t h p, outB_7 m c t h p, outB_h m c t h p, outB_q m c t h p)

/-- The run at an even point inside, on the buffers it is called on, over what the point before left. -/
def runC (c : Dev nD) (t : Fin cfg0.N) (h : conds0_C (grid0.coords t)) (p : St F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) h.1 h.2.1 h.2.2.1 h.2.2.2 (iblk m c 0 t) (iblk m c 1 t) (iblk m c 2 t) (iblk m c 3 t) (iblk m c 4 t) p.2.2.1 p.2.2.2.1 p.2.2.2.2

/-- At an even point inside the stores cover the residual's buffer. -/
theorem coverC_5 (c : Dev nD) (t : Fin cfg0.N) (h : conds0_C (grid0.coords t)) (p : St F) (y : S256x4096.Idx) :
    ∃ pc ∈ (runC m c t h p).1, y ∈ pc.1.set :=
  View.cover_of_tiledL (runC m c t h p).1 S256x512.size (by sl_kernel_rfl) y
/-- What an even point inside leaves in the residual's buffer. -/
def outC_5 (c : Dev nD) (t : Fin cfg0.N) (h : conds0_C (grid0.coords t)) (p : St F) : Vec F S256x4096 .f32 :=
  VO0_5.read (Elt F) (VO0_5.writes (Elt F) VO0_5.junk (runC m c t h p).1)

/-- At an even point inside the stores cover the codes' buffer. -/
theorem coverC_6 (c : Dev nD) (t : Fin cfg0.N) (h : conds0_C (grid0.coords t)) (p : St F) (y : S256x4096.Idx) :
    ∃ pc ∈ (runC m c t h p).2.1, y ∈ pc.1.set :=
  View.cover_of_tiledL (runC m c t h p).2.1 S16x512.size (by sl_kernel_rfl) y
/-- What an even point inside leaves in the codes' buffer. -/
def outC_6 (c : Dev nD) (t : Fin cfg0.N) (h : conds0_C (grid0.coords t)) (p : St F) : Vec F S256x4096 .fp8e4m3 :=
  VO0_6.read (Elt F) (VO0_6.writes (Elt F) VO0_6.junk (runC m c t h p).2.1)

/-- At an even point inside the stores cover the running maximum's buffer. -/
theorem coverC_7 (c : Dev nD) (t : Fin cfg0.N) (h : conds0_C (grid0.coords t)) (p : St F) (y : S8x128.Idx) :
    ∃ pc ∈ (runC m c t h p).2.2.1, y ∈ pc.1.set :=
  View.cover_of_tiledL (runC m c t h p).2.2.1 S8x128.size (by sl_kernel_rfl) y
/-- What an even point inside leaves in the running maximum's buffer. -/
def outC_7 (c : Dev nD) (t : Fin cfg0.N) (h : conds0_C (grid0.coords t)) (p : St F) : Vec F S8x128 .f32 :=
  VO0_7.read (Elt F) (VO0_7.writes (Elt F) VO0_7.junk (runC m c t h p).2.2.1)

/-- At an even point inside the stores cover the scratch tile. -/
theorem coverC_h (c : Dev nD) (t : Fin cfg0.N) (h : conds0_C (grid0.coords t)) (p : St F) (y : S256x4096.Idx) :
    ∃ pc ∈ (runC m c t h p).2.2.2.1, y ∈ pc.1.set :=
  View.cover_of_tiledL (runC m c t h p).2.2.2.1 S256x512.size (by sl_kernel_rfl) y
/-- What an even point inside leaves in the scratch tile. -/
def outC_h (c : Dev nD) (t : Fin cfg0.N) (h : conds0_C (grid0.coords t)) (p : St F) : Vec F S256x4096 .f32 :=
  VS0_0.read (Elt F) (VS0_0.writes (Elt F) VS0_0.junk (runC m c t h p).2.2.2.1)

/-- At an even point inside the stores cover the scratch sums of squares. -/
theorem coverC_q (c : Dev nD) (t : Fin cfg0.N) (h : conds0_C (grid0.coords t)) (p : St F) (y : S256x128.Idx) :
    ∃ pc ∈ (runC m c t h p).2.2.2.2.2.1, y ∈ pc.1.set :=
  View.cover_of_tiledL (runC m c t h p).2.2.2.2.2.1 S256x128.size (by sl_kernel_rfl) y
/-- What an even point inside leaves in the scratch sums of squares. -/
def outC_q (c : Dev nD) (t : Fin cfg0.N) (h : conds0_C (grid0.coords t)) (p : St F) : Vec F S256x128 .f32 :=
  VS0_2.read (Elt F) (VS0_2.writes (Elt F) VS0_2.junk (runC m c t h p).2.2.2.2.2.1)

/-- What an even point inside leaves. -/
def stC (c : Dev nD) (t : Fin cfg0.N) (h : conds0_C (grid0.coords t)) (p : St F) : St F :=
  (outC_5 m c t h p, outC_6 m c t h p, outC_7 m c t h p, outC_h m c t h p, outC_q m c t h p)

/-- The run at the last point, on the buffers it is called on, over what the point before left. -/
def runD (c : Dev nD) (t : Fin cfg0.N) (h : conds0_D (grid0.coords t)) (p : St F) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) h.1 h.2.1 h.2.2.1 h.2.2.2 (iblk m c 0 t) (iblk m c 1 t) (iblk m c 2 t) (iblk m c 3 t) (iblk m c 4 t) p.1 p.2.2.1 p.2.2.2.1 p.2.2.2.2

/-- At the last point the stores cover the codes' buffer. -/
theorem coverD_6 (c : Dev nD) (t : Fin cfg0.N) (h : conds0_D (grid0.coords t)) (p : St F) (y : S256x4096.Idx) :
    ∃ pc ∈ (runD m c t h p).2.1, y ∈ pc.1.set :=
  View.cover_of_tiledL (runD m c t h p).2.1 S16x512.size (by sl_kernel_rfl) y
/-- What the last point leaves in the codes' buffer. -/
def outD_6 (c : Dev nD) (t : Fin cfg0.N) (h : conds0_D (grid0.coords t)) (p : St F) : Vec F S256x4096 .fp8e4m3 :=
  VO0_6.read (Elt F) (VO0_6.writes (Elt F) VO0_6.junk (runD m c t h p).2.1)

/-- At the last point the stores cover the running maximum's buffer. -/
theorem coverD_7 (c : Dev nD) (t : Fin cfg0.N) (h : conds0_D (grid0.coords t)) (p : St F) (y : S8x128.Idx) :
    ∃ pc ∈ (runD m c t h p).2.2.1, y ∈ pc.1.set :=
  View.cover_of_tiledL (runD m c t h p).2.2.1 S8x128.size (by sl_kernel_rfl) y
/-- What the last point leaves in the running maximum's buffer. -/
def outD_7 (c : Dev nD) (t : Fin cfg0.N) (h : conds0_D (grid0.coords t)) (p : St F) : Vec F S8x128 .f32 :=
  VO0_7.read (Elt F) (VO0_7.writes (Elt F) VO0_7.junk (runD m c t h p).2.2.1)

/-- What the last point leaves. -/
def stD (c : Dev nD) (t : Fin cfg0.N) (h : conds0_D (grid0.coords t)) (p : St F) : St F :=
  (p.1, outD_6 m c t h p, outD_7 m c t h p, p.2.2.2.1, p.2.2.2.2)

/-- What every point leaves, from the first on. -/
def outsAt0 (c : Dev nD) : (n : ℕ) → n < cfg0.N → St F
  | 0, hn => stA m c ⟨0, hn⟩ (isA ⟨0, hn⟩ rfl)
  | n + 1, hn =>
    if hB : (n + 1) % 2 = 1 then stB m c ⟨n + 1, hn⟩ (isB ⟨n + 1, hn⟩ hB) (outsAt0 c n (Nat.lt_of_succ_lt hn))
    else if hD : n + 1 = 30 then stD m c ⟨n + 1, hn⟩ (isD ⟨n + 1, hn⟩ hD) (outsAt0 c n (Nat.lt_of_succ_lt hn))
    else stC m c ⟨n + 1, hn⟩ (isC ⟨n + 1, hn⟩ ⟨Nat.succ_ne_zero n, by show (n + 1) % 2 = 0; omega, hD⟩) (outsAt0 c n (Nat.lt_of_succ_lt hn))

/-- What the point before left. -/
abbrev prev (c : Dev nD) (t : Fin cfg0.N) : St F := outsAt0 m c (t.val - 1) (Nat.lt_of_le_of_lt (Nat.sub_le _ _) t.isLt)

/-- What the first point leaves. -/
theorem outsAt0_A (c : Dev nD) (t : Fin cfg0.N) (h : t.val = 0) : outsAt0 m c t.val t.isLt = stA m c t (isA t h) := by
  obtain ⟨n, hn⟩ := t
  cases n with
  | zero => rfl
  | succ n => exact absurd h (Nat.succ_ne_zero n)
/-- What an odd point leaves. -/
theorem outsAt0_B (c : Dev nD) (t : Fin cfg0.N) (h : t.val % 2 = 1) : outsAt0 m c t.val t.isLt = stB m c t (isB t h) (prev m c t) := by
  obtain ⟨n, hn⟩ := t
  cases n with
  | zero => exact absurd h (by show ¬(0 % 2 = 1); decide)
  | succ n => exact dif_pos h
/-- What an even point inside leaves. -/
theorem outsAt0_C (c : Dev nD) (t : Fin cfg0.N) (h : ¬t.val = 0 ∧ t.val % 2 = 0 ∧ ¬t.val = 30) :
    outsAt0 m c t.val t.isLt = stC m c t (isC t h) (prev m c t) := by
  obtain ⟨n, hn⟩ := t
  cases n with
  | zero => exact absurd rfl h.1
  | succ n => exact (dif_neg (by have := h.2.1; dsimp only at this; omega)).trans (dif_neg h.2.2)
/-- What the last point leaves. -/
theorem outsAt0_D (c : Dev nD) (t : Fin cfg0.N) (h : t.val = 30) : outsAt0 m c t.val t.isLt = stD m c t (isD t h) (prev m c t) := by
  obtain ⟨n, hn⟩ := t
  cases n with
  | zero => exact absurd h (by show ¬(0 = 30); decide)
  | succ n => exact (dif_neg (by dsimp only at h; omega)).trans (dif_pos h)

/-- Between points, after an even point: buffer a holds its tile, buffer b anything. -/
abbrev holdA (c : Dev nD) (p : St F) : sProp 𝕄 :=
  iprop(iprop(owns (c : Thread nD τ) scM0_0 fullShare p.2.2.2.1 ∗ (∃ d, owns (c : Thread nD τ) scM0_1 fullShare d) ∗ owns (c : Thread nD τ) scM0_2 fullShare p.2.2.2.2 ∗ (∃ d, owns (c : Thread nD τ) scM0_3 fullShare d)) ∗ (∃ r, prngReg c r))
/-- After an odd point: buffer b holds its tile, buffer a anything. -/
abbrev holdB (c : Dev nD) (p : St F) : sProp 𝕄 :=
  iprop(iprop((∃ d, owns (c : Thread nD τ) scM0_0 fullShare d) ∗ owns (c : Thread nD τ) scM0_1 fullShare p.2.2.2.1 ∗ (∃ d, owns (c : Thread nD τ) scM0_2 fullShare d) ∗ owns (c : Thread nD τ) scM0_3 fullShare p.2.2.2.2) ∗ (∃ r, prngReg c r))

/-- What is held between points: at the ends anything; else the buffer the next point reads at what the point before left in it. -/
def PhiS (c : Dev nD) : (n : ℕ) → n ≤ cfg0.N → sProp 𝕄
  | 0, _ => Pipeline.ΦA spec0 c
  | n + 1, hn => if n = 30 then Pipeline.ΦA spec0 c else if n % 2 = 0 then holdA c (outsAt0 m c n hn) else holdB c (outsAt0 m c n hn)

/-- Before an odd point buffer a holds what the point before left. -/
theorem PhiS_odd (c : Dev nD) (n : ℕ) (h : n < cfg0.N) (hb : n % 2 = 1) :
    PhiS m c n (Nat.le_of_lt h) = holdA c (outsAt0 m c (n - 1) (Nat.lt_of_le_of_lt (Nat.sub_le _ _) h)) := by
  cases n with
  | zero => exact absurd hb (by decide)
  | succ n => exact (if_neg (by have h : n + 1 < 31 := h; omega)).trans (if_pos (by omega))
/-- Before an even point but the first buffer b holds what the point before left. -/
theorem PhiS_even (c : Dev nD) (n : ℕ) (h : n < cfg0.N) (h0 : ¬n = 0) (hb : n % 2 = 0) :
    PhiS m c n (Nat.le_of_lt h) = holdB c (outsAt0 m c (n - 1) (Nat.lt_of_le_of_lt (Nat.sub_le _ _) h)) := by
  cases n with
  | zero => exact absurd rfl h0
  | succ n => exact (if_neg (by have h : n + 1 < 31 := h; omega)).trans (if_neg (by omega))

/-- After the last point anything is held. -/
theorem PhiS_last (c : Dev nD) (n : ℕ) (hn : n + 1 ≤ cfg0.N) (h : n = 30) : PhiS m c (n + 1) hn = Pipeline.ΦA spec0 c := if_pos h

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At the last point, which leaves the residual's window alone, its buffer is what the point before left. -/
theorem carry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  by_cases h : t.val = 30
  · rw [after0_5, after0_5, outsAt0_D m c t h]; rfl
  · rw [live0_5 t h] at hi; exact absurd hi Bool.false_ne_true
/-- No point leaves the running maximum's window alone. -/
theorem carry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  rw [live0_7 t] at hi; exact absurd hi Bool.false_ne_true
/-- The last point finds the residual's buffer as the point before left it. -/
theorem before0_5 (c : Dev nD) (t : Fin cfg0.N) (h : t.val = 30) (d) : (dats m 0 c).before 5 t d = (prev m c t).1 := by
  rw [Dat.before_out_traj _ 5 rfl (fun _ _ => rfl) (carry0_5 m c) t.val t rfl d,
    if_neg (by rw [notFresh0_5 t h]; exact Bool.false_ne_true)]
  dsimp only [dats]
/-- A later point finds the running maximum as the point before left it. -/
theorem before0_7 (c : Dev nD) (t : Fin cfg0.N) (h : ¬t.val = 0) (d) : (dats m 0 c).before 7 t d = (prev m c t).2.2.1 := by
  rw [Dat.before_out_traj _ 7 rfl (fun _ _ => rfl) (carry0_7 m c) t.val t rfl d,
    if_neg (by rw [notFresh0_7 t h]; exact Bool.false_ne_true)]
  dsimp only [dats]

/-- A window a point does not leave alone ends at what the proof data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]
/-- A window left alone at a point that writes it back ends at what the proof data says, too. -/
theorem leaves_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-- What the body is called with at a point … -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
/-- … and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_castSucc m c t, show PhiS m c t.val (Nat.le_of_lt t.isLt) = Pipeline.ΦA spec0 c from by
      obtain ⟨n, hn⟩ := t; dsimp only at h; subst h; rfl, PhiA0_eq]
  rw [show PhiS m c (t.val + 1) t.isLt = if t.val = 30 then Pipeline.ΦA spec0 c else if t.val % 2 = 0 then holdA c (outsAt0 m c t.val t.isLt) else holdB c (outsAt0 m c t.val t.isLt) from rfl, if_neg (by omega), if_pos (by omega)]
  rw [leaves_live m c 0 t (live0_0 t), leaves_live m c 1 t (live0_1 t), leaves_live m c 2 t (live0_2 t), leaves_live m c 3 t (live0_3 t), leaves_live m c 4 t (live0_4 t),
    leaves_live m c 5 t (live0_5 t (by omega)), Dat.leavesExact_idle (dats m 0 c) 6 t (idle0_6 t h) (noflush0_6 t h), leaves_live m c 7 t (live0_7 t),
    after0_0, after0_1, after0_2, after0_3, after0_4, after0_5, after0_7, outsAt0_A m c t h]
  unfold stA outA_5 outA_7 outA_h outA_q
  dsimp only [holdA, holdB]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA m c t (isA t h)).2.2.2.2.2.2.2 _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, ⟨%e5, H5⟩, H6, ⟨%e7, H7⟩, ⟨%es0, HS0⟩, HS1, ⟨%es2, HS2⟩, HS3⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (coverA_h m c t (isA t h))
      isplitl [HS1]
      · iexact HS1
      isplitl [HS2]
      · unfold owns; iexists _; isplitr
        swap; · iexact HS2
        ipureintro; exact View.read_writes_of_cover _ _ _ _ _ (coverA_q m c t (isA t h))
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverA_5 m c t (isA t h))
  isplitl [H6]
  · iexists _; iexact H6
  unfold owns; iexists _; isplitr
  swap; · iexact H7
  ipureintro; exact View.read_writes_of_cover _ _ _ _ _ (coverA_7 m c t (isA t h))

set_option maxHeartbeats 4000000 in
/-- The body at an odd point. -/
theorem sound_B (c : Dev nD) (t : Fin cfg0.N) (h : t.val % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_castSucc m c t, PhiS_odd m c t.val t.isLt h]
  rw [show PhiS m c (t.val + 1) t.isLt = if t.val = 30 then Pipeline.ΦA spec0 c else if t.val % 2 = 0 then holdA c (outsAt0 m c t.val t.isLt) else holdB c (outsAt0 m c t.val t.isLt) from rfl, if_neg (by omega), if_neg (by omega)]
  rw [leaves_live m c 0 t (live0_0 t), leaves_live m c 1 t (live0_1 t), leaves_live m c 2 t (live0_2 t), leaves_live m c 3 t (live0_3 t), leaves_live m c 4 t (live0_4 t),
    leaves_live m c 5 t (live0_5 t (by omega)), leaves_live m c 6 t (live0_6 t (by omega)), leaves_live m c 7 t (live0_7 t),
    after0_0, after0_1, after0_2, after0_3, after0_4, after0_5, after0_6, after0_7, outsAt0_B m c t h]
  simp only [before0_7 m c t (by omega)]
  unfold stB outB_5 outB_6 outB_7 outB_h outB_q
  dsimp only [holdA, holdB]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB m c t (isB t h) (prev m c t)).2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [HS0]; · iexact HS0
  isplitl [HS1]; · iexact HS1
  isplitl [HS2]; · iexact HS2
  isplitl [HS3]; · iexact HS3
  iintro ⟨H0, H1, H2, H3, H4, ⟨%e5, H5⟩, ⟨%e6, H6⟩, ⟨%e7, H7⟩, HS0, ⟨%es1, HS1⟩, HS2, ⟨%es3, HS3⟩⟩
  isplitl [HS0 HS1 HS2 HS3 Hg]
  · isplitl [HS0 HS1 HS2 HS3]
    · isplitl [HS0]
      · iexists _; iexact HS0
      isplitl [HS1]
      · unfold owns; iexists _; isplitr
        swap; · iexact HS1
        ipureintro; exact View.read_writes_of_cover _ _ _ _ _ (coverB_h m c t (isB t h) (prev m c t))
      isplitl [HS2]
      · iexists _; iexact HS2
      unfold owns; iexists _; isplitr
      swap; · iexact HS3
      ipureintro; exact View.read_writes_of_cover _ _ _ _ _ (coverB_q m c t (isB t h) (prev m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverB_5 m c t (isB t h) (prev m c t))
  isplitl [H6]
  · unfold owns; iexists _; isplitr
    swap; · iexact H6
    ipureintro; exact View.read_writes_of_cover _ _ _ _ _ (coverB_6 m c t (isB t h) (prev m c t))
  unfold owns; iexists _; isplitr
  swap; · iexact H7
  ipureintro; exact View.read_writes_of_cover _ _ _ _ _ (coverB_7 m c t (isB t h) (prev m c t))

set_option maxHeartbeats 4000000 in
/-- The body at an even point inside. -/
theorem sound_C (c : Dev nD) (t : Fin cfg0.N) (h : ¬t.val = 0 ∧ t.val % 2 = 0 ∧ ¬t.val = 30) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_castSucc m c t, PhiS_even m c t.val t.isLt h.1 h.2.1]
  rw [show PhiS m c (t.val + 1) t.isLt = if t.val = 30 then Pipeline.ΦA spec0 c else if t.val % 2 = 0 then holdA c (outsAt0 m c t.val t.isLt) else holdB c (outsAt0 m c t.val t.isLt) from rfl, if_neg h.2.2, if_pos h.2.1]
  rw [leaves_live m c 0 t (live0_0 t), leaves_live m c 1 t (live0_1 t), leaves_live m c 2 t (live0_2 t), leaves_live m c 3 t (live0_3 t), leaves_live m c 4 t (live0_4 t),
    leaves_live m c 5 t (live0_5 t h.2.2), leaves_live m c 6 t (live0_6 t h.1), leaves_live m c 7 t (live0_7 t),
    after0_0, after0_1, after0_2, after0_3, after0_4, after0_5, after0_6, after0_7, outsAt0_C m c t h]
  simp only [before0_7 m c t h.1]
  unfold stC outC_5 outC_6 outC_7 outC_h outC_q
  dsimp only [holdA, holdB]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC m c t (isC t h) (prev m c t)).2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [HS0]; · iexact HS0
  isplitl [HS1]; · iexact HS1
  isplitl [HS2]; · iexact HS2
  isplitl [HS3]; · iexact HS3
  iintro ⟨H0, H1, H2, H3, H4, ⟨%e5, H5⟩, ⟨%e6, H6⟩, ⟨%e7, H7⟩, ⟨%es0, HS0⟩, HS1, ⟨%es2, HS2⟩, HS3⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (coverC_h m c t (isC t h) (prev m c t))
      isplitl [HS1]
      · iexists _; iexact HS1
      isplitl [HS2]
      · unfold owns; iexists _; isplitr
        swap; · iexact HS2
        ipureintro; exact View.read_writes_of_cover _ _ _ _ _ (coverC_q m c t (isC t h) (prev m c t))
      iexists _; iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverC_5 m c t (isC t h) (prev m c t))
  isplitl [H6]
  · unfold owns; iexists _; isplitr
    swap; · iexact H6
    ipureintro; exact View.read_writes_of_cover _ _ _ _ _ (coverC_6 m c t (isC t h) (prev m c t))
  unfold owns; iexists _; isplitr
  swap; · iexact H7
  ipureintro; exact View.read_writes_of_cover _ _ _ _ _ (coverC_7 m c t (isC t h) (prev m c t))

set_option maxHeartbeats 4000000 in
/-- The body at the last point. -/
theorem sound_D (c : Dev nD) (t : Fin cfg0.N) (h : t.val = 30) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_castSucc m c t, PhiS_even m c t.val t.isLt (by omega) (by omega)]
  rw [show PhiS m c (t.val + 1) t.isLt = if t.val = 30 then Pipeline.ΦA spec0 c else if t.val % 2 = 0 then holdA c (outsAt0 m c t.val t.isLt) else holdB c (outsAt0 m c t.val t.isLt) from rfl, if_pos h, PhiA0_eq]
  rw [leaves_live m c 0 t (live0_0 t), leaves_live m c 1 t (live0_1 t), leaves_live m c 2 t (live0_2 t), leaves_live m c 3 t (live0_3 t), leaves_live m c 4 t (live0_4 t),
    leaves_flush m c 5 t (idle0_5 t h) (flush0_5 t h), leaves_live m c 6 t (live0_6 t (by omega)), leaves_live m c 7 t (live0_7 t),
    after0_0, after0_1, after0_2, after0_3, after0_4, after0_5, after0_6, after0_7, outsAt0_D m c t h]
  simp only [before0_5 m c t h, before0_7 m c t (by omega)]
  unfold stD outD_6 outD_7
  dsimp only [holdA, holdB]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runD m c t (isD t h) (prev m c t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, ⟨%e6, H6⟩, ⟨%e7, H7⟩, HS0, HS1, HS2, HS3⟩
  isplitl [HS0 HS1 HS2 HS3 Hg]
  · isplitl [HS0 HS1 HS2 HS3]
    · isplitl [HS0]
      · iexact HS0
      isplitl [HS1]
      · iexists _; iexact HS1
      isplitl [HS2]
      · iexact HS2
      iexists _; iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexact H5
  isplitl [H6]
  · unfold owns; iexists _; isplitr
    swap; · iexact H6
    ipureintro; exact View.read_writes_of_cover _ _ _ _ _ (coverD_6 m c t (isD t h) (prev m c t))
  unfold owns; iexists _; isplitr
  swap; · iexact H7
  ipureintro; exact View.read_writes_of_cover _ _ _ _ _ (coverD_7 m c t (isD t h) (prev m c t))

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  by_cases h1 : t.val % 2 = 1
  · exact sound_B m c t h1
  by_cases h2 : t.val = 30
  · exact sound_D m c t h2
  · exact sound_C m c t ⟨h0, by omega, h2⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what is held before the first point. -/
theorem hin (c : Dev nD) : Pipeline.ΦA spec0 c ⊢ (dats m 0 c).Φ 0 := by
  rw [show (dats m 0 c).Φ 0 = Pipeline.ΦA spec0 c from rfl]

/-- What is held after the last point is what the region hands back. -/
theorem hout (c : Dev nD) : (dats m 0 c).Φ (Fin.last cfg0.N) ⊢ Pipeline.ΦA spec0 c := by
  rw [show (dats m 0 c).Φ (Fin.last cfg0.N) = Pipeline.ΦA spec0 c from
    PhiS_last m c 30 (Nat.le_refl _) rfl]

/-! ## The run and the frame -/

-- `θ_run_frame_track`'s implicit arguments are found by unifying its conclusion with this one, which takes unfolding plain
-- definitions in a metavariable's type
set_option backward.isDefEq.respectTransparency.types false in
/-- The launch: the run ends with every array at what the proof data computes and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run of the whole program. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.OProjIdeal.Gen

end
-- ==== Proof.OProjBits.lean ====
/- The output projection at machine numbers: its program is, text for text, the one read over the reals, so the frame proved for every number type is its frame too. -/
module

public import proofs.«01_k».proof.Defs
public import proofs.«01_k».proof.Proof.Gen.OProj
public import proofs.«01_k».proof.Proof.OProjFrame

@[expose] public section

namespace Cert.OProj.Gen

open Idealize.ShloMosaic Idealize.ShloMosaic.TcCoe

/-- The kernel's program at machine numbers runs to the end, leaves its arguments as they were and ends quiescent. -/
theorem quiescent : Cert.quiescent_OProj (hOProj := facts) := by
  have h : Cert.quiescent_OProj (hOProj := facts) = (∀ (m : (ℓ : Loc Cert.OProjIdeal.nD Cert.OProjIdeal.τ Cert.OProjIdeal.sig) → Buf (Elt Bits) ℓ) (g : Dev Cert.OProjIdeal.nD → PrngReg), Cert.Pre_OProj m →
    θ_run (@Cert.OProjIdeal.defs Bits _ Cert.OProjIdeal.Gen.facts) (onTc (τ := Cert.OProjIdeal.τ) (Cert.OProjIdeal.main (F := Bits))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
      ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6))
      ∧ r.2.sem = fun _ => 0)) := by sl_kernel_rfl
  rw [h]
  exact fun m ρ _ => Cert.OProjIdeal.Gen.frame (F := Bits) m ρ

end Cert.OProj.Gen

end
-- ==== Proof.OProjPieces.lean ====
/- The pieces each point of the output projection stores, as one formula in the chunk and the row group: every payload of the printed body is one of five formulas at its literal offsets. -/
module

public import proofs.«01_k».proof.Proof.OProjFrame
public import Idealize.ShloMosaic.Lib.VecWindow

@[expose] public section

set_option maxRecDepth 16384

noncomputable section

namespace Cert.OProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A load through a whole buffer that holds `x`. -/
abbrev rd {κ : Kind} {sp : Space} {S : Shape} {e : EltTy} (M : Memref sig κ sp S e) (h : M.IsWhole) (x : Vec F S e) (r : Rect S) : r.shape.Idx → Elt F e :=
  View.readAt (Elt F) M.view r.toLoadRect (h.unread x)

/-- A chunk of the residual: the input plus the scaled product. -/
def resid (s0 s1 : F .f32) (a : Vec F S256x2048 .fp8e4m3) (w : Vec F S2048x512 .fp8e4m3) (x : Vec F S256x512 .bf16) : FVec F S256x512 .f32 :=
  addf (extf .f32 x bitsLt_bf16_f32) (mulf (matmul dot_S256x2048_S2048x512_S256x512_1_0_0_1_n_n none a w (constant S256x512 .f32 0x00000000#32)) (broadcast S256x512 (Scalar.mulf s0 s1)))
/-- The sum of a chunk's squares over its four lane blocks. -/
def sqp (h : FVec F S256x512 .f32) : FVec F S256x128 .f32 :=
  addf (addf (addf (extractStridedSlice S256x128 ![0, 0] (mulf h h) slices_S256x512_o0_0_S256x128) (extractStridedSlice S256x128 ![0, 128] (mulf h h) slices_S256x512_o0_128_S256x128))
    (extractStridedSlice S256x128 ![0, 256] (mulf h h) slices_S256x512_o0_256_S256x128)) (extractStridedSlice S256x128 ![0, 384] (mulf h h) slices_S256x512_o0_384_S256x128)
/-- A group's normalised entries. -/
def nrm (q : Vec F S16x128 .f32) (h : Vec F S16x512 .f32) (g : Vec F S1x512 .f32) : FVec F S16x512 .f32 := k0_pay40 (k0_pay36 q) h g
/-- A group's codes. -/
def cod (s2 : F .f32) (n : FVec F S16x512 .f32) : FVec F S16x512 .fp8e4m3 := k0_pay51 (broadcast S1x512 s2) n
/-- A group's magnitudes, reduced to a tile. -/
def amx (n : FVec F S16x512 .f32) : FVec F S8x128 .f32 :=
  let r : FVec F S8x512 .f32 := multiReduction .maximumf [0] S8x512 (shapeCast S2x8x512 (absf n) shapeCasts_S16x512_S2x8x512) 0xFF800000#32 reduces_S2x8x512_S8x512 (.inl rfl) rfl
  maximumf (maximumf (maximumf (extractStridedSlice S8x128 ![0, 0] r slices_S8x512_o0_0_S8x128) (extractStridedSlice S8x128 ![0, 128] r slices_S8x512_o0_128_S8x128))
    (extractStridedSlice S8x128 ![0, 256] r slices_S8x512_o0_256_S8x128)) (extractStridedSlice S8x128 ![0, 384] r slices_S8x512_o0_384_S8x128)

/-- The rectangle of chunk `j` of a tile's columns. -/
abbrev rh (j : Fin 8) : Rect S256x4096 := Rect.unit ![0, 512 * j.val] ![256, 512] (Fin.forall_fin_two.mpr ⟨by show 0 + 256 ≤ 256; omega, by show 512 * j.val + 512 ≤ 4096; omega⟩)
abbrev rw' (j : Fin 8) : Rect S2048x4096 := Rect.unit ![0, 512 * j.val] ![2048, 512] (Fin.forall_fin_two.mpr ⟨by show 0 + 2048 ≤ 2048; omega, by show 512 * j.val + 512 ≤ 4096; omega⟩)
abbrev rg (j : Fin 8) : Rect S1x4096 := Rect.unit ![0, 512 * j.val] ![1, 512] (Fin.forall_fin_two.mpr ⟨by show 0 + 1 ≤ 1; omega, by show 512 * j.val + 512 ≤ 4096; omega⟩)
/-- The rectangle of row group `i`, chunk `j`. -/
abbrev rn (i : Fin 16) (j : Fin 8) : Rect S256x4096 := Rect.unit ![16 * i.val, 512 * j.val] ![16, 512] (Fin.forall_fin_two.mpr ⟨by show 16 * i.val + 16 ≤ 256; omega, by show 512 * j.val + 512 ≤ 4096; omega⟩)
abbrev rq (i : Fin 16) : Rect S256x128 := Rect.unit ![16 * i.val, 0] ![16, 128] (Fin.forall_fin_two.mpr ⟨by show 16 * i.val + 16 ≤ 256; omega, by show 0 + 128 ≤ 128; omega⟩)
abbrev rs (k : Fin 3) : Rect S3 := Rect.unit ![k.val] ![1] (by intro a; fin_cases a; show k.val + 1 ≤ 3; omega)
abbrev ra : Rect S8x128 := Rect.unit ![0, 0] ![8, 128] inb_S8x128_S8x128_0_0
abbrev rf : Rect S256x128 := Rect.unit ![0, 0] ![256, 128] inb_S256x128_S256x128_0_0

/-- A scalar argument, read at a point. -/
def scal (c : Dev nD) (t : Fin cfg0.N) (k : Fin 3) : F .f32 := rd (ms0_0 t) (hs0_0 t) (iblk m c 0 t) (rs k) (Shape.Idx.first (by show 0 < (Shape.mk 1 ![1]).numel; decide))

/-- Chunk `j` of the residual a point computes. -/
def hch (c : Dev nD) (t : Fin cfg0.N) (j : Fin 8) : FVec F S256x512 .f32 :=
  resid (scal m c t 0) (scal m c t 1) (rd (ms0_1 t) (hs0_1 t) (iblk m c 1 t) (Rect.unit ![0, 0] ![256, 2048] inb_S256x2048_S256x2048_0_0))
    (rd (ms0_2 t) (hs0_2 t) (iblk m c 2 t) (rw' j)) (rd (ms0_3 t) (hs0_3 t) (iblk m c 3 t) (rh j))

/-- The normalised entries of group `i`, chunk `j`, out of a buffer that holds the tile `h` and the sums `q`. -/
def nch (c : Dev nD) (t : Fin cfg0.N) (Mh : Memref sig .tc .vmem S256x4096 .f32) (hMh : Mh.IsWhole) (Mq : Memref sig .tc .vmem S256x128 .f32) (hMq : Mq.IsWhole)
    (h : Vec F S256x4096 .f32) (q : Vec F S256x128 .f32) (i : Fin 16) (j : Fin 8) : FVec F S16x512 .f32 :=
  nrm (rd Mq hMq q (rq i)) (rd Mh hMh h (rn i j)) (rd (ms0_4 t) (hs0_4 t) (iblk m c 4 t) (rg j))

/-- Row group `n`. -/
abbrev gi (n : ℕ) : Fin 16 := ⟨n % 16, Nat.mod_lt _ (by decide)⟩
/-- Chunk `n`. -/
abbrev ci (n : ℕ) : Fin 8 := ⟨n % 8, Nat.mod_lt _ (by decide)⟩

/-- The largest magnitudes of row group `i`. -/
def ach (f : Fin 16 → Fin 8 → FVec F S16x512 .f32) (i : Fin 16) : FVec F S8x128 .f32 :=
  maximumf (maximumf (maximumf (maximumf (maximumf (maximumf (maximumf (maximumf k0_pay5 (amx (f i 0))) (amx (f i 1))) (amx (f i 2))) (amx (f i 3))) (amx (f i 4))) (amx (f i 5))) (amx (f i 6))) (amx (f i 7))

/-- The stores into the running maximum's buffer up to row group `n`: each takes what the buffer holds, read back, and the group's largest magnitudes. -/
def amL (M : Memref sig .tc .vmem S8x128 .f32) (v : Vec F S8x128 .f32) (f : Fin 16 → Fin 8 → FVec F S16x512 .f32) : ℕ → List (View.Piece (Elt F) S8x128 .f32)
  | 0 => [⟨ra, k0_pay3 (ach f 0) v⟩]
  | n + 1 => ⟨ra, k0_pay3 (ach f (gi (n + 1))) (M.view.readCov (amL M v f n) ra.toLoadRect)⟩ :: amL M v f n
/-- The running maximum after row group `n`. -/
def amv (v : Vec F S8x128 .f32) (f : Fin 16 → Fin 8 → FVec F S16x512 .f32) : ℕ → Vec F S8x128 .f32
  | 0 => k0_pay3 (ach f 0) v
  | n + 1 => k0_pay3 (ach f (gi (n + 1))) (amv v f n)
/-- The newest store is read back. -/
theorem amL_read (M : Memref sig .tc .vmem S8x128 .f32) (v : Vec F S8x128 .f32) (f : Fin 16 → Fin 8 → FVec F S16x512 .f32) (n : ℕ) :
    M.view.readCov (amL M v f n) ra.toLoadRect = amv v f n := by
  induction n with
  | zero => exact View.readCov_full _ _ _ _ _
  | succ n ih => unfold amL amv; rw [ih]; exact View.readCov_full _ _ _ _ _

/-- The stores into the buffer of the sums of squares up to chunk `n`. -/
def sqL (M : Memref sig .tc .vmem S256x128 .f32) (h : Fin 8 → FVec F S256x512 .f32) : ℕ → List (View.Piece (Elt F) S256x128 .f32)
  | 0 => [⟨rf, shapeCast S256x128 (sqp (h 0)) shapeCasts_S256x128_S256x128⟩]
  | n + 1 => ⟨rf, k0_pay2 (h (ci (n + 1))) (M.view.readCov (sqL M h n) rf.toLoadRect)⟩ :: sqL M h n
/-- The sums of squares after chunk `n`. -/
def sqv (h : Fin 8 → FVec F S256x512 .f32) : ℕ → Vec F S256x128 .f32
  | 0 => shapeCast S256x128 (sqp (h 0)) shapeCasts_S256x128_S256x128
  | n + 1 => k0_pay2 (h (ci (n + 1))) (sqv h n)
/-- The newest store is read back. -/
theorem sqL_read (M : Memref sig .tc .vmem S256x128 .f32) (h : Fin 8 → FVec F S256x512 .f32) (n : ℕ) :
    M.view.readCov (sqL M h n) rf.toLoadRect = sqv h n := by
  induction n with
  | zero => exact View.readCov_full _ _ _ _ _
  | succ n ih => unfold sqL sqv; rw [ih]; exact View.readCov_full _ _ _ _ _

/-- The stores of the first point into the scratch tile. -/
theorem runA_h (c : Dev nD) (t : Fin cfg0.N) (h : conds0_A (grid0.coords t)) : (runA m c t h).2.2.2.1
    = List.ofFn fun j : Fin 8 => (⟨rh j.rev, k0_pay1 (hch m c t j.rev)⟩ : View.Piece (Elt F) S256x4096 .f32) := by sl_kernel_rfl
/-- The stores of the first point into the scratch sums of squares. -/
theorem runA_q (c : Dev nD) (t : Fin cfg0.N) (h : conds0_A (grid0.coords t)) : (runA m c t h).2.2.2.2.2.1 = sqL scM0_2 (hch m c t) 7 := by sl_kernel_rfl
/-- The store of the first point into the running maximum. -/
theorem runA_7 (c : Dev nD) (t : Fin cfg0.N) (h : conds0_A (grid0.coords t)) : (runA m c t h).2.2.1 = [⟨ra, k0_pay5⟩] := by sl_kernel_rfl
/-- The stores of an odd point into the scratch tile. -/
theorem runB_h (c : Dev nD) (t : Fin cfg0.N) (h : conds0_B (grid0.coords t)) (p : St F) : (runB m c t h p).2.2.2.2.1
    = List.ofFn fun j : Fin 8 => (⟨rh j.rev, k0_pay1 (hch m c t j.rev)⟩ : View.Piece (Elt F) S256x4096 .f32) := by sl_kernel_rfl
/-- The stores of an odd point into the scratch sums of squares. -/
theorem runB_q (c : Dev nD) (t : Fin cfg0.N) (h : conds0_B (grid0.coords t)) (p : St F) : (runB m c t h p).2.2.2.2.2.2.1 = sqL scM0_3 (hch m c t) 7 := by sl_kernel_rfl
/-- The normalised entries an odd point computes. -/
abbrev nchB (c : Dev nD) (t : Fin cfg0.N) (p : St F) : Fin 16 → Fin 8 → FVec F S16x512 .f32 :=
  nch m c t scM0_0 (Memref.isWhole_whole _) scM0_2 (Memref.isWhole_whole _) p.2.2.2.1 p.2.2.2.2
/-- The stores of an odd point into the codes. -/
theorem runB_6 (c : Dev nD) (t : Fin cfg0.N) (h : conds0_B (grid0.coords t)) (p : St F) : (runB m c t h p).2.1
    = List.ofFn fun x : Fin 128 => (⟨rn (gi (x.rev.val / 8)) (ci x.rev.val), cod (scal m c t 2) (nchB m c t p (gi (x.rev.val / 8)) (ci x.rev.val))⟩ : View.Piece (Elt F) S256x4096 .fp8e4m3) := by sl_kernel_rfl
/-- The stores of an odd point into the running maximum. -/
theorem runB_7 (c : Dev nD) (t : Fin cfg0.N) (h : conds0_B (grid0.coords t)) (p : St F) : (runB m c t h p).2.2.1 = amL (ms0_7 t) (rd (ms0_7 t) (hs0_7 t) p.2.2.1 ra) (nchB m c t p) 15 := by sl_kernel_rfl
/-- The stores of an even point inside into the scratch tile. -/
theorem runC_h (c : Dev nD) (t : Fin cfg0.N) (h : conds0_C (grid0.coords t)) (p : St F) : (runC m c t h p).2.2.2.1
    = List.ofFn fun j : Fin 8 => (⟨rh j.rev, k0_pay1 (hch m c t j.rev)⟩ : View.Piece (Elt F) S256x4096 .f32) := by sl_kernel_rfl
/-- The stores of an even point inside into the scratch sums of squares. -/
theorem runC_q (c : Dev nD) (t : Fin cfg0.N) (h : conds0_C (grid0.coords t)) (p : St F) : (runC m c t h p).2.2.2.2.2.1 = sqL scM0_2 (hch m c t) 7 := by sl_kernel_rfl
/-- The normalised entries an even point inside computes. -/
abbrev nchC (c : Dev nD) (t : Fin cfg0.N) (p : St F) : Fin 16 → Fin 8 → FVec F S16x512 .f32 :=
  nch m c t scM0_1 (Memref.isWhole_whole _) scM0_3 (Memref.isWhole_whole _) p.2.2.2.1 p.2.2.2.2
/-- The stores of an even point inside into the codes. -/
theorem runC_6 (c : Dev nD) (t : Fin cfg0.N) (h : conds0_C (grid0.coords t)) (p : St F) : (runC m c t h p).2.1
    = List.ofFn fun x : Fin 128 => (⟨rn (gi (x.rev.val / 8)) (ci x.rev.val), cod (scal m c t 2) (nchC m c t p (gi (x.rev.val / 8)) (ci x.rev.val))⟩ : View.Piece (Elt F) S256x4096 .fp8e4m3) := by sl_kernel_rfl
/-- The stores of an even point inside into the running maximum. -/
theorem runC_7 (c : Dev nD) (t : Fin cfg0.N) (h : conds0_C (grid0.coords t)) (p : St F) : (runC m c t h p).2.2.1 = amL (ms0_7 t) (rd (ms0_7 t) (hs0_7 t) p.2.2.1 ra) (nchC m c t p) 15 := by sl_kernel_rfl
/-- The normalised entries the last point computes. -/
abbrev nchD (c : Dev nD) (t : Fin cfg0.N) (p : St F) : Fin 16 → Fin 8 → FVec F S16x512 .f32 :=
  nch m c t scM0_1 (Memref.isWhole_whole _) scM0_3 (Memref.isWhole_whole _) p.2.2.2.1 p.2.2.2.2
/-- The stores of the last point into the codes. -/
theorem runD_6 (c : Dev nD) (t : Fin cfg0.N) (h : conds0_D (grid0.coords t)) (p : St F) : (runD m c t h p).2.1
    = List.ofFn fun x : Fin 128 => (⟨rn (gi (x.rev.val / 8)) (ci x.rev.val), cod (scal m c t 2) (nchD m c t p (gi (x.rev.val / 8)) (ci x.rev.val))⟩ : View.Piece (Elt F) S256x4096 .fp8e4m3) := by sl_kernel_rfl
/-- The stores of the last point into the running maximum. -/
theorem runD_7 (c : Dev nD) (t : Fin cfg0.N) (h : conds0_D (grid0.coords t)) (p : St F) : (runD m c t h p).2.2.1 = ⟨ra, k0_pay4 ((ms0_7 t).view.readCov (amL (ms0_7 t) (rd (ms0_7 t) (hs0_7 t) p.2.2.1 ra) (nchD m c t p) 15) ra.toLoadRect)⟩ :: amL (ms0_7 t) (rd (ms0_7 t) (hs0_7 t) p.2.2.1 ra) (nchD m c t p) 15 := by sl_kernel_rfl

end Cert.OProjIdeal.Gen

end
-- ==== Proof.OProjPoint.lean ====
/- The output projection at one point, over the reals: the pieces' formulas at an entry. -/
module

public import proofs.«01_k».proof.Proof.OProjPieces
public import proofs.«01_k».proof.Proof.MaxAbs
public import Idealize.ShloMosaic.Lib.Pipeline.ValueKit
public import Idealize.ShloMosaic.Lib.Pipeline.ReadBack
public import Idealize.ShloMosaic.Lib.Pointwise
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.OProjIdeal.Val

open Cert.OProjIdeal Cert.OProjIdeal.Gen

variable (m : (ℓ : Loc nD τ sig) → Buf (Elt Ideal) ℓ)

/-- The residual of one point at an entry of its tile, from the point's input blocks: the input plus the scaled product. -/
def hB (x0 : FVec Ideal S3 .f32) (x1 : FVec Ideal S256x2048 .fp8e4m3) (x2 : FVec Ideal S2048x4096 .fp8e4m3) (x3 : FVec Ideal S256x4096 .bf16)
    (r : Fin 256) (q : Fin 4096) : EReal :=
  (x3 (ix2 r q) : EReal) + (∑ k : Fin 2048, (x1 (ix2 r k) : EReal) * (x2 (ix2 k q) : EReal)) * ((x0 (ix1 0) : EReal) * (x0 (ix1 1) : EReal))

/-- A row normalised by the root of its mean square and scaled by the gain. -/
def nR (h g : Fin 4096 → EReal) (q : Fin 4096) : EReal :=
  h q * Ideal.rsqrt ((∑ q' : Fin 4096, h q' * h q') * Ideal.ofBits .f32 0x39800000#32 + Ideal.ofBits .f32 0x358637BD#32) * g q

/-- Column `q` of chunk `j`. -/
abbrev cq (j : Fin 8) (q : Fin 512) : Fin 4096 := ⟨512 * j.val + q.val, by omega⟩
/-- Row `r` of group `i`. -/
abbrev ir (i : Fin 16) (r : Fin 16) : Fin 256 := ⟨16 * i.val + r.val, by omega⟩

theorem scal_eq (c : Dev nD) (t : Fin cfg0.N) (k : Fin 3) : (scal m c t k : EReal) = (iblk m c 0 t : FVec Ideal S3 .f32) (ix1 k) := by
  unfold scal
  refine ((hs0_0 t).readAt_unread _ _ _).trans ?_
  congr 1
  funext a
  fin_cases a
  apply Fin.ext
  rfl

theorem rh_idx (j : Fin 8) (r : Fin 256) (q : Fin 512) : (rh j).idx (ix2 r q) = ix2 r (cq j q) := by
  funext a
  fin_cases a <;> (apply Fin.ext; simp [Rect.idx_unit_val])
theorem rw_idx (j : Fin 8) (r : Fin 2048) (q : Fin 512) : (rw' j).idx (ix2 r q) = ix2 r (cq j q) := by
  funext a
  fin_cases a <;> (apply Fin.ext; simp [Rect.idx_unit_val])
theorem rg_idx (j : Fin 8) (r : Fin 1) (q : Fin 512) : (rg j).idx (ix2 r q) = ix2 r (cq j q) := by
  funext a
  fin_cases a <;> (apply Fin.ext; simp [Rect.idx_unit_val])
theorem rn_idx (i : Fin 16) (j : Fin 8) (r : Fin 16) (q : Fin 512) : (rn i j).idx (ix2 r q) = ix2 (ir i r) (cq j q) := by
  funext a
  fin_cases a <;> (apply Fin.ext; simp [Rect.idx_unit_val])
theorem rq_idx (i : Fin 16) (r : Fin 16) (l : Fin 128) : (rq i).idx (ix2 r l) = ix2 (ir i r) l := by
  funext a
  fin_cases a <;> (apply Fin.ext; simp [Rect.idx_unit_val])
theorem ra2_idx (r : Fin 256) (q : Fin 2048) : (Rect.unit (s := S256x2048) ![0, 0] ![256, 2048] inb_S256x2048_S256x2048_0_0).idx (ix2 r q) = ix2 r q := by
  funext a
  fin_cases a <;> (apply Fin.ext; simp [Rect.idx_unit_val])

/-- A chunk of a point's residual at an entry. -/
theorem hch_eq (c : Dev nD) (t : Fin cfg0.N) (j : Fin 8) (r : Fin 256) (q : Fin 512) :
    (hch m c t j (ix2 r q) : EReal) = hB (iblk m c 0 t) (iblk m c 1 t) (iblk m c 2 t) (iblk m c 3 t) r (cq j q) := by
  unfold hch resid hB rd
  simp only [← scal_eq]
  pointwise
  simp only [Memref.IsWhole.readAt_unread]
  simp only [rh_idx, rw_idx, ra2_idx]

/-- The squares of a chunk's four lane blocks, added. -/
def s4 (h : Fin 4096 → EReal) (j : Fin 8) (l : Fin 128) : EReal :=
  h (cq j ⟨l.val, by omega⟩) * h (cq j ⟨l.val, by omega⟩) + h (cq j ⟨128 + l.val, by omega⟩) * h (cq j ⟨128 + l.val, by omega⟩)
    + h (cq j ⟨256 + l.val, by omega⟩) * h (cq j ⟨256 + l.val, by omega⟩) + h (cq j ⟨384 + l.val, by omega⟩) * h (cq j ⟨384 + l.val, by omega⟩)

theorem sq_first (v : FVec Ideal S256x512 .f32) (h : Fin 4096 → EReal) (j : Fin 8) (r : Fin 256) (l : Fin 128) (hv : ∀ q, (v (ix2 r q) : EReal) = h (cq j q)) :
    (shapeCast S256x128 (sqp v) shapeCasts_S256x128_S256x128 (ix2 r l) : EReal) = s4 h j l := by
  unfold s4
  simp only [← hv]
  pointwise [sqp]
theorem sq_next (v : FVec Ideal S256x512 .f32) (a : FVec Ideal S256x128 .f32) (h : Fin 4096 → EReal) (j : Fin 8) (r : Fin 256) (l : Fin 128) (hv : ∀ q, (v (ix2 r q) : EReal) = h (cq j q)) :
    (k0_pay2 v a (ix2 r l) : EReal) = (a (ix2 r l) : EReal) + s4 h j l := by
  unfold s4
  simp only [← hv]
  pointwise [k0_pay2]

/-- The partial sums of squares of a row, over all eight chunks. -/
theorem sqv_eq (v : Fin 8 → FVec Ideal S256x512 .f32) (h : Fin 4096 → EReal) (r : Fin 256) (l : Fin 128) (hv : ∀ j q, (v j (ix2 r q) : EReal) = h (cq j q)) :
    (sqv v 7 (ix2 r l) : EReal) = ∑ j : Fin 8, s4 h j l := by
  simp only [sqv, sq_next _ _ h _ r l (hv _), sq_first _ h _ r l (hv _), Fin.sum_univ_eight]
  rfl

/-- Added over the lanes they are the row's sum of squares. -/
theorem sum_s4 (h : Fin 4096 → EReal) : ∑ l : Fin 128, ∑ j : Fin 8, s4 h j l = ∑ q : Fin 4096, h q * h q := by
  rw [Finset.sum_comm, ← Fin.sum_mul_add_fin 8 512 (fun q : Fin 4096 => h q * h q)]
  refine Finset.sum_congr rfl fun j _ => ?_
  rw [← Fin.sum_mul_add_fin 4 128 (fun q : Fin 512 => h ⟨j.val * 512 + q.val, by omega⟩ * h ⟨j.val * 512 + q.val, by omega⟩), Finset.sum_comm]
  refine Finset.sum_congr rfl fun l _ => ?_
  have e : ∀ (x : ℕ) (hx hx'), h (⟨512 * j.val + x, hx⟩ : Fin 4096) = h ⟨j.val * 512 + x, hx'⟩ := fun x hx hx' => congrArg h (Fin.ext (by dsimp only; omega))
  unfold s4 cq
  rw [Fin.sum_univ_four]
  have z : ((0 : Fin 4).val * 128 + l.val) = l.val := by show 0 * 128 + l.val = l.val; omega
  simp only [z]
  rw [e _ _ (by omega), e _ _ (by omega), e _ _ (by omega), e _ _ (by omega)]
  rfl

/-- A group's normalised entries, out of buffers that hold a tile's rows and their sums of squares. -/
theorem nch_eq (c : Dev nD) (t : Fin cfg0.N) (Mh : Memref sig .tc .vmem S256x4096 .f32) (hMh : Mh.IsWhole) (Mq : Memref sig .tc .vmem S256x128 .f32) (hMq : Mq.IsWhole)
    (h : FVec Ideal S256x4096 .f32) (q : FVec Ideal S256x128 .f32) (H : Fin 256 → Fin 4096 → EReal)
    (hh : ∀ r x, (h (ix2 r x) : EReal) = H r x) (hq : ∀ r l, (q (ix2 r l) : EReal) = ∑ j : Fin 8, s4 (H r) j l)
    (i : Fin 16) (j : Fin 8) (r : Fin 16) (x : Fin 512) :
    (nch m c t Mh hMh Mq hMq h q i j (ix2 r x) : EReal) = nR (H (ir i r)) (fun y => (iblk m c 4 t : FVec Ideal S1x4096 .f32) (ix2 0 y)) (cq j x) := by
  unfold nch nrm nR rd
  rw [← sum_s4]
  pointwise [k0_pay40, k0_pay36]
  simp only [Memref.IsWhole.readAt_unread, rn_idx, rq_idx, rg_idx, hh, hq]

/-- A group's codes at an entry. -/
theorem cod_eq (s : Ideal .f32) (n : FVec Ideal S16x512 .f32) (r : Fin 16) (x : Fin 512) :
    (cod s n (ix2 r x) : EReal) = min (Ideal.ofBits .f32 0x43E00000#32) (max (Ideal.ofBits .f32 0xC3E00000#32) (Ideal.div (n (ix2 r x) : EReal) (s : EReal))) := by
  pointwise [cod, k0_pay51]

end Cert.OProjIdeal.Val

end
-- ==== Proof.OProjAmax.lean ====
/- The running maximum of the output projection: what bounds it after a point. -/
module

public import proofs.«01_k».proof.Proof.OProjPoint

@[expose] public section

set_option maxRecDepth 16384

noncomputable section

open Idealize.ShloMosaic Idealize.ShloMosaic.TcCoe Idealize.SL.Sem
open Idealize.ShloMosaic.Pipeline (Dat)

namespace Cert.OProjIdeal.Val

open Cert.OProjIdeal Cert.OProjIdeal.Gen

variable (m : (ℓ : Loc nD τ sig) → Buf (Elt Ideal) ℓ)

/-- `b` bounds the magnitudes of `v` at the entries whose row is `j 0` modulo 8 and whose column is `j 1` modulo 128. -/
def AbsLe {R C : ℕ} (v : Fin R → Fin C → EReal) (j : S8x128.Idx) (b : EReal) : Prop :=
  ∀ (r : Fin R) (q : Fin C), r.val % 8 = (j 0).val → q.val % 128 = (j 1).val → (FloatOps.absf (F := Ideal) (φ := .f32) (v r q) : EReal) ≤ b

/-- A group's reduced magnitudes are bounded exactly when its magnitudes are. -/
theorem amx_le (n : FVec Ideal S16x512 .f32) (j : S8x128.Idx) (b : EReal) :
    (amx n j : EReal) ≤ b ↔ AbsLe (fun r q => (n (ix2 r q) : EReal)) j b := by
  have hj0 : (j 0).val < 8 := (j 0).isLt
  have hj1 : (j 1).val < 128 := (j 1).isLt
  pointwise [amx]
  simp only [max_le_iff, Finset.fold_max_le, MaxAbs.ninf, bot_le, true_and, Finset.mem_univ, forall_const, AbsLe]
  constructor
  · rintro ⟨⟨⟨h0, h1⟩, h2⟩, h3⟩ r q hr hq
    have hrl := r.isLt
    have hql := q.isLt
    have er : ∀ (x : Fin 2) (hx), x.val = r.val / 8 → (⟨x.val * 8 + (j 0).val, hx⟩ : Fin 16) = r := fun x hx e => Fin.ext (by dsimp only; omega)
    rcases (by omega : q.val = (j 1).val ∨ q.val = 128 + (j 1).val ∨ q.val = 256 + (j 1).val ∨ q.val = 384 + (j 1).val) with h | h | h | h
    · have := h0 ⟨r.val / 8, by omega⟩
      rwa [er _ _ rfl, show (⟨(j 1).val, by omega⟩ : Fin 512) = q from Fin.ext h.symm] at this
    · have := h1 ⟨r.val / 8, by omega⟩
      rwa [er _ _ rfl, show (⟨128 + (j 1).val, by omega⟩ : Fin 512) = q from Fin.ext h.symm] at this
    · have := h2 ⟨r.val / 8, by omega⟩
      rwa [er _ _ rfl, show (⟨256 + (j 1).val, by omega⟩ : Fin 512) = q from Fin.ext h.symm] at this
    · have := h3 ⟨r.val / 8, by omega⟩
      rwa [er _ _ rfl, show (⟨384 + (j 1).val, by omega⟩ : Fin 512) = q from Fin.ext h.symm] at this
  · intro h
    exact ⟨⟨⟨fun x => h _ _ (by dsimp only; omega) (by dsimp only; omega), fun x => h _ _ (by dsimp only; omega) (by dsimp only; omega)⟩,
      fun x => h _ _ (by dsimp only; omega) (by dsimp only; omega)⟩, fun x => h _ _ (by dsimp only; omega) (by dsimp only; omega)⟩

theorem pay3_le (a v : FVec Ideal S8x128 .f32) (j : S8x128.Idx) (b : EReal) : (k0_pay3 a v j : EReal) ≤ b ↔ (v j : EReal) ≤ b ∧ (a j : EReal) ≤ b := by
  rw [← max_le_iff]
  pointwise [k0_pay3]
theorem pay5_zero (j : S8x128.Idx) : (k0_pay5 (F := Ideal) j : EReal) = 0 := by
  pointwise [k0_pay5]
/-- The last point spreads the largest entry of the running maximum. -/
theorem pay4_le (v : FVec Ideal S8x128 .f32) (j : S8x128.Idx) (b : EReal) : (k0_pay4 (F := Ideal) v j : EReal) ≤ b ↔ ∀ i, (v i : EReal) ≤ b := by
  pointwise [k0_pay4]
  simp only [Finset.fold_max_le, MaxAbs.ninf, bot_le, true_and, Finset.mem_univ, forall_const]
  exact ⟨fun h i => by have := h (i 0, i 1); rwa [← eq_ix2 i] at this, fun h x => h _⟩

theorem max_le (a v : FVec Ideal S8x128 .f32) (j : S8x128.Idx) (b : EReal) : (maximumf a v j : EReal) ≤ b ↔ (a j : EReal) ≤ b ∧ (v j : EReal) ≤ b := by
  rw [← max_le_iff]
  pointwise

/-- A row group's magnitudes bounded: nonnegative, and every chunk's bounded. -/
theorem ach_le (f : Fin 16 → Fin 8 → FVec Ideal S16x512 .f32) (i : Fin 16) (j : S8x128.Idx) (b : EReal) :
    (ach f i j : EReal) ≤ b ↔ 0 ≤ b ∧ ∀ x : Fin 8, AbsLe (fun r q => (f i x (ix2 r q) : EReal)) j b := by
  unfold ach
  simp only [max_le, amx_le, pay5_zero, and_assoc]
  refine and_congr_right fun _ => ⟨fun ⟨h0, h1, h2, h3, h4, h5, h6, h7⟩ x => ?_, fun h => ⟨h 0, h 1, h 2, h 3, h 4, h 5, h 6, h 7⟩⟩
  fin_cases x
  exacts [h0, h1, h2, h3, h4, h5, h6, h7]

/-- The running maximum after row group `n`. -/
theorem amv_le (v : FVec Ideal S8x128 .f32) (f : Fin 16 → Fin 8 → FVec Ideal S16x512 .f32) (n : ℕ) (j : S8x128.Idx) (b : EReal) :
    (amv v f n j : EReal) ≤ b ↔ (v j : EReal) ≤ b ∧ ∀ k ≤ n, (ach f (gi k) j : EReal) ≤ b := by
  induction n with
  | zero =>
    unfold amv
    rw [pay3_le]
    exact and_congr_right fun _ => ⟨fun h k hk => by obtain rfl := Nat.le_zero.1 hk; exact h, fun h => h 0 (le_refl _)⟩
  | succ n ih =>
    unfold amv
    rw [pay3_le, ih, and_assoc]
    refine and_congr_right fun _ => ⟨fun ⟨h1, h2⟩ k hk => ?_, fun h => ⟨fun k hk => h k (by omega), h _ (le_refl _)⟩⟩
    rcases Nat.lt_or_ge k (n + 1) with hl | hl
    · exact h1 k (by omega)
    · obtain rfl : k = n + 1 := by omega
      exact h2

/-- A point bounds the running maximum and the magnitudes of its tile. -/
theorem amv_tile (v : FVec Ideal S8x128 .f32) (f : Fin 16 → Fin 8 → FVec Ideal S16x512 .f32) (N : Fin 256 → Fin 4096 → EReal)
    (hf : ∀ i j r x, (f i j (ix2 r x) : EReal) = N (ir i r) (cq j x)) (j : S8x128.Idx) (b : EReal) :
    (amv v f 15 j : EReal) ≤ b ↔ (v j : EReal) ≤ b ∧ 0 ≤ b ∧ AbsLe N j b := by
  rw [amv_le]
  simp only [ach_le, AbsLe, hf]
  refine and_congr_right fun _ => ⟨fun h => ⟨(h 0 (by omega)).1, fun r q hr hq => ?_⟩, fun ⟨h0, h⟩ k hk => ⟨h0, fun x r q hr hq => h _ _ (by dsimp only; omega) (by dsimp only; omega)⟩⟩
  have hrl := r.isLt
  have hql := q.isLt
  have := (h (r.val / 16) (by omega)).2 ⟨q.val / 512, by omega⟩ ⟨r.val % 16, by omega⟩ ⟨q.val % 512, by omega⟩ (by dsimp only; omega) (by dsimp only; omega)
  rwa [show ir (gi (r.val / 16)) ⟨r.val % 16, by omega⟩ = r from Fin.ext (by dsimp only; omega),
    show cq ⟨q.val / 512, by omega⟩ ⟨q.val % 512, by omega⟩ = q from Fin.ext (by dsimp only; omega)] at this

end Cert.OProjIdeal.Val

end
-- ==== Proof.OProjOuts.lean ====
/- What each point of the output projection leaves in its buffers, over the reals. -/
module

public import proofs.«01_k».proof.Proof.OProjAmax

@[expose] public section

set_option maxRecDepth 16384

noncomputable section

open Idealize.ShloMosaic Idealize.ShloMosaic.TcCoe Idealize.SL.Sem
open Idealize.ShloMosaic.Pipeline (Dat)

namespace Cert.OProjIdeal.Val

open Cert.OProjIdeal Cert.OProjIdeal.Gen

variable (m : (ℓ : Loc nD τ sig) → Buf (Elt Ideal) ℓ)

/-- A family of stores read at an entry one of them writes, when every other that writes it writes the same. -/
theorem read_family {κ : Kind} {sp : Space} {S : Shape} {e : EltTy} (V : View sig κ sp S e) (f : V.ty.Contents (Elt Ideal)) {N : ℕ} (R : Fin N → Rect S)
    (P : (k : Fin N) → (R k).shape.Idx → Elt Ideal e) (k : Fin N) (x : (R k).shape.Idx) (y : S.Idx) (hy : (R k).emb x = y)
    (h : ∀ k' x', (R k').emb x' = y → P k' x' = P k x) :
    V.read (Elt Ideal) (V.writes (Elt Ideal) f (List.ofFn fun k => (⟨R k, P k⟩ : View.Piece (Elt Ideal) S e))) y = P k x := by
  have hm : y ∈ (R k).set := hy ▸ (R k).idx_mem x
  rw [View.read_writes_apply_eq_canon _ _ _ _ ⟨⟨R k, P k⟩, List.mem_ofFn.mpr ⟨k, rfl⟩, hm⟩]
  exact View.canon_ofFn_eq_of_forall R P y _ ⟨k, hm⟩ fun k' x' hx' => h k' x' hx'

theorem cq_inj {j j' : Fin 8} {q q' : Fin 512} (h : cq j q = cq j' q') : j = j' ∧ q = q' := by
  have h := congrArg Fin.val h
  have hq := q.isLt
  have hq' := q'.isLt
  exact ⟨Fin.ext (by dsimp only at h; omega), Fin.ext (by dsimp only at h; omega)⟩
theorem ir_inj {j j' : Fin 16} {q q' : Fin 16} (h : ir j q = ir j' q') : j = j' ∧ q = q' := by
  have h := congrArg Fin.val h
  have hq := q.isLt
  have hq' := q'.isLt
  exact ⟨Fin.ext (by dsimp only at h; omega), Fin.ext (by dsimp only at h; omega)⟩
theorem ix2_inj {a b : ℕ} {r r' : Fin a} {q q' : Fin b} (h : ix2 r q = ix2 r' q') : r = r' ∧ q = q' :=
  ⟨congrFun h 0, congrFun h 1⟩

/-- The codes of a normalised entry. -/
abbrev cT (s n : EReal) : EReal := min (Ideal.ofBits .f32 0x43E00000#32) (max (Ideal.ofBits .f32 0xC3E00000#32) (Ideal.div n s))

theorem pay1_id (v : FVec Ideal S256x512 .f32) (r : Fin 256) (q : Fin 512) : (k0_pay1 v (ix2 r q) : EReal) = v (ix2 r q) := by pointwise [k0_pay1]

/-- Eight stores, one per chunk of the columns, read at an entry. -/
theorem read_chunks {κ : Kind} {sp : Space} {e : EltTy} (V : View sig κ sp S256x4096 e) (f : V.ty.Contents (Elt Ideal)) (P : Fin 8 → S256x512.Idx → Elt Ideal e) (j : Fin 8) (r : Fin 256) (q : Fin 512) :
    V.read (Elt Ideal) (V.writes (Elt Ideal) f (List.ofFn fun j : Fin 8 => (⟨rh j.rev, P j.rev⟩ : View.Piece (Elt Ideal) S256x4096 e))) (ix2 r (cq j q)) = P j (ix2 r q) := by
  refine (read_family V f (fun j : Fin 8 => rh j.rev) (fun j => P j.rev) j.rev (ix2 r q) _ ?_ fun k x hx => ?_).trans ?_
  · rw [Fin.rev_rev]
    exact rh_idx j r q
  · rw [eq_ix2 x] at hx ⊢
    obtain ⟨h0, h1⟩ := ix2_inj ((rh_idx k.rev (x 0) (x 1)).symm.trans hx)
    obtain ⟨h2, h3⟩ := cq_inj h1
    rw [Fin.rev_rev, h0, h2, h3]
  · rw [Fin.rev_rev]

/-- The stores of row groups and chunks, read at an entry. -/
theorem read_groups {κ : Kind} {sp : Space} {e : EltTy} (V : View sig κ sp S256x4096 e) (f : V.ty.Contents (Elt Ideal)) (P : Fin 16 → Fin 8 → S16x512.Idx → Elt Ideal e) (i : Fin 16) (j : Fin 8) (r : Fin 16) (q : Fin 512) :
    V.read (Elt Ideal) (V.writes (Elt Ideal) f (List.ofFn fun x : Fin 128 => (⟨rn (gi (x.rev.val / 8)) (ci x.rev.val), P (gi (x.rev.val / 8)) (ci x.rev.val)⟩ : View.Piece (Elt Ideal) S256x4096 e))) (ix2 (ir i r) (cq j q))
      = P i j (ix2 r q) := by
  have hi := i.isLt
  have hj := j.isLt
  have hr : (⟨8 * i.val + j.val, by omega⟩ : Fin 128).rev.rev = ⟨8 * i.val + j.val, by omega⟩ := Fin.rev_rev _
  have ei : gi ((⟨8 * i.val + j.val, by omega⟩ : Fin 128).rev.rev.val / 8) = i := by rw [hr]; exact Fin.ext (by dsimp only; omega)
  have ej : ci (⟨8 * i.val + j.val, by omega⟩ : Fin 128).rev.rev.val = j := by rw [hr]; exact Fin.ext (by dsimp only; omega)
  refine (read_family V f (fun x : Fin 128 => rn (gi (x.rev.val / 8)) (ci x.rev.val)) (fun x => P (gi (x.rev.val / 8)) (ci x.rev.val)) (⟨8 * i.val + j.val, by omega⟩ : Fin 128).rev (ix2 r q) _ ?_ fun k x hx => ?_).trans ?_
  · rw [ei, ej]
    exact rn_idx i j r q
  · rw [eq_ix2 x] at hx ⊢
    obtain ⟨h0, h1⟩ := ix2_inj ((rn_idx (gi (k.rev.val / 8)) (ci k.rev.val) (x 0) (x 1)).symm.trans hx)
    obtain ⟨h2, h3⟩ := cq_inj h1
    obtain ⟨h4, h5⟩ := ir_inj h0
    rw [ei, ej, h2, h3, h4, h5]
  · rw [ei, ej]

theorem col (q : Fin 4096) : cq ⟨q.val / 512, by omega⟩ ⟨q.val % 512, by omega⟩ = q := Fin.ext (by dsimp only; omega)
theorem row (r : Fin 256) : ir ⟨r.val / 16, by omega⟩ ⟨r.val % 16, by omega⟩ = r := Fin.ext (by dsimp only; omega)

/-- A tile's scratch buffer after a point's eight stores. -/
theorem tile_eq (c : Dev nD) (t : Fin cfg0.N) (V : View sig .tc .vmem S256x4096 .f32) (f : V.ty.Contents (Elt Ideal)) (v : Fin 8 → FVec Ideal S256x512 .f32) (H : Fin 256 → Fin 4096 → EReal)
    (hv : ∀ j r q, (v j (ix2 r q) : EReal) = H r (cq j q)) (L : List (View.Piece (Elt Ideal) S256x4096 .f32))
    (hL : L = List.ofFn fun j : Fin 8 => (⟨rh j.rev, k0_pay1 (v j.rev)⟩ : View.Piece (Elt Ideal) S256x4096 .f32)) (r : Fin 256) (x : Fin 4096) :
    (V.read (Elt Ideal) (V.writes (Elt Ideal) f L) (ix2 r x) : EReal) = H r x := by
  have h := read_chunks (e := .f32) V f (fun j => k0_pay1 (v j)) ⟨x.val / 512, by omega⟩ r ⟨x.val % 512, by omega⟩
  rw [col] at h
  rw [hL, h, pay1_id, hv, col]
/-- A tile's codes after a point's stores. -/
theorem ctile_eq (c : Dev nD) (t : Fin cfg0.N) (V : View sig .tc .vmem S256x4096 .fp8e4m3) (f : V.ty.Contents (Elt Ideal)) (s2 : Ideal .f32) (v : Fin 16 → Fin 8 → FVec Ideal S16x512 .f32) (N : Fin 256 → Fin 4096 → EReal)
    (hv : ∀ i j r q, (v i j (ix2 r q) : EReal) = N (ir i r) (cq j q)) (L : List (View.Piece (Elt Ideal) S256x4096 .fp8e4m3))
    (hL : L = List.ofFn fun x : Fin 128 => (⟨rn (gi (x.rev.val / 8)) (ci x.rev.val), cod s2 (v (gi (x.rev.val / 8)) (ci x.rev.val))⟩ : View.Piece (Elt Ideal) S256x4096 .fp8e4m3)) (r : Fin 256) (x : Fin 4096) :
    (V.read (Elt Ideal) (V.writes (Elt Ideal) f L) (ix2 r x) : EReal) = cT s2 (N r x) := by
  have h := read_groups (e := .fp8e4m3) V f (fun i j => cod s2 (v i j)) ⟨r.val / 16, by omega⟩ ⟨x.val / 512, by omega⟩ ⟨r.val % 16, by omega⟩ ⟨x.val % 512, by omega⟩
  rw [col, row] at h
  rw [hL, h, cod_eq, hv, col, row]

/-- A store of the whole buffer of sums read back. -/
theorem read_sq (M : Memref sig .tc .vmem S256x128 .f32) (V : View sig .tc .vmem S256x128 .f32) (f : V.ty.Contents (Elt Ideal)) (h : Fin 8 → FVec Ideal S256x512 .f32) :
    V.read (Elt Ideal) (V.writes (Elt Ideal) f (sqL M h 7)) = sqv h 7 := by
  unfold sqL sqv
  rw [sqL_read]
  exact View.read_writes_full V f _ _ _
theorem read_am (M : Memref sig .tc .vmem S8x128 .f32) (V : View sig .tc .vmem S8x128 .f32) (f : V.ty.Contents (Elt Ideal)) (v : FVec Ideal S8x128 .f32) (g : Fin 16 → Fin 8 → FVec Ideal S16x512 .f32) :
    V.read (Elt Ideal) (V.writes (Elt Ideal) f (amL M v g 15)) = amv v g 15 := by
  unfold amL amv
  rw [amL_read]
  exact View.read_writes_full V f _ _ _
/-- The running maximum a point finds, read whole. -/
theorem rd_ra (t : Fin cfg0.N) (v : FVec Ideal S8x128 .f32) : rd (F := Ideal) (S := S8x128) (e := .f32) (ms0_7 t) (hs0_7 t) v ra = v := by
  funext j
  refine ((hs0_7 t).readAt_unread (Val := Elt Ideal) v ra.toLoadRect j).trans ?_
  show v (ra.idx j) = v j
  congr 1
  funext a
  fin_cases a <;> (apply Fin.ext; simp [Rect.idx_unit_val])

/-- The residual of point `t`'s tile. -/
abbrev hT (c : Dev nD) (t : Fin cfg0.N) : Fin 256 → Fin 4096 → EReal := hB (iblk m c 0 t) (iblk m c 1 t) (iblk m c 2 t) (iblk m c 3 t)
/-- The normalised rows of a tile, by the gain at point `t`. -/
abbrev nT (c : Dev nD) (t : Fin cfg0.N) (H : Fin 256 → Fin 4096 → EReal) : Fin 256 → Fin 4096 → EReal := fun r => nR (H r) (fun y => (iblk m c 4 t : FVec Ideal S1x4096 .f32) (ix2 0 y))
/-- The scratch buffers of `p` hold the tile `H` and its sums of squares. -/
def Holds (p : St Ideal) (H : Fin 256 → Fin 4096 → EReal) : Prop :=
  (∀ r x, (p.2.2.2.1 (ix2 r x) : EReal) = H r x) ∧ ∀ r l, (p.2.2.2.2 (ix2 r l) : EReal) = ∑ j : Fin 8, s4 (H r) j l

/-- The first point leaves its residual and the sums of its squares in the scratch buffers. -/
theorem holdsA (c : Dev nD) (t : Fin cfg0.N) (h : conds0_A (grid0.coords t)) : Holds (stA m c t h) (hT m c t) := by
  unfold Holds stA
  dsimp only
  constructor
  · intro r x
    unfold outA_h
    rw [runA_h]
    exact tile_eq c t _ _ (hch m c t) (hT m c t) (hch_eq m c t) _ rfl r x
  · intro r l
    unfold outA_q
    rw [runA_q, read_sq]
    exact sqv_eq (hch m c t) (hT m c t r) r l fun j q => hch_eq m c t j r q
/-- An odd point leaves its residual and the sums of its squares in the scratch buffers. -/
theorem holdsB (c : Dev nD) (t : Fin cfg0.N) (h : conds0_B (grid0.coords t)) (p : St Ideal) : Holds (stB m c t h p) (hT m c t) := by
  unfold Holds stB
  dsimp only
  constructor
  · intro r x
    unfold outB_h
    rw [runB_h]
    exact tile_eq c t _ _ (hch m c t) (hT m c t) (hch_eq m c t) _ rfl r x
  · intro r l
    unfold outB_q
    rw [runB_q, read_sq]
    exact sqv_eq (hch m c t) (hT m c t r) r l fun j q => hch_eq m c t j r q
/-- An even point inside leaves its residual and the sums of its squares in the scratch buffers. -/
theorem holdsC (c : Dev nD) (t : Fin cfg0.N) (h : conds0_C (grid0.coords t)) (p : St Ideal) : Holds (stC m c t h p) (hT m c t) := by
  unfold Holds stC
  dsimp only
  constructor
  · intro r x
    unfold outC_h
    rw [runC_h]
    exact tile_eq c t _ _ (hch m c t) (hT m c t) (hch_eq m c t) _ rfl r x
  · intro r l
    unfold outC_q
    rw [runC_q, read_sq]
    exact sqv_eq (hch m c t) (hT m c t r) r l fun j q => hch_eq m c t j r q
/-- The running maximum after the first point is zero. -/
theorem amaxA (c : Dev nD) (t : Fin cfg0.N) (h : conds0_A (grid0.coords t)) (j : S8x128.Idx) : ((stA m c t h).2.2.1 j : EReal) = 0 := by
  unfold stA
  dsimp only
  unfold outA_7
  rw [runA_7, View.read_writes_full]
  exact pay5_zero j
theorem nchB_eq (c : Dev nD) (t : Fin cfg0.N) (p : St Ideal) (H : Fin 256 → Fin 4096 → EReal) (hp : Holds p H) (i : Fin 16) (j : Fin 8) (r : Fin 16) (x : Fin 512) :
    (nchB m c t p i j (ix2 r x) : EReal) = nT m c t H (ir i r) (cq j x) :=
  nch_eq m c t scM0_0 (Memref.isWhole_whole _) scM0_2 (Memref.isWhole_whole _) _ _ H hp.1 hp.2 i j r x
/-- An odd point leaves the codes of the tile the point before left. -/
theorem codesB (c : Dev nD) (t : Fin cfg0.N) (h : conds0_B (grid0.coords t)) (p : St Ideal) (H : Fin 256 → Fin 4096 → EReal) (hp : Holds p H) (r : Fin 256) (x : Fin 4096) :
    ((stB m c t h p).2.1 (ix2 r x) : EReal) = cT ((iblk m c 0 t : FVec Ideal S3 .f32) (ix1 2)) (nT m c t H r x) := by
  rw [← scal_eq]
  unfold stB
  dsimp only
  unfold outB_6
  rw [runB_6]
  exact ctile_eq c t _ _ (scal m c t 2) (nchB m c t p) (nT m c t H) (nchB_eq m c t p H hp) _ rfl r x
/-- An odd point takes the magnitudes of that tile into the running maximum. -/
theorem amaxB (c : Dev nD) (t : Fin cfg0.N) (h : conds0_B (grid0.coords t)) (p : St Ideal) (H : Fin 256 → Fin 4096 → EReal) (hp : Holds p H) (j : S8x128.Idx) (b : EReal) :
    ((stB m c t h p).2.2.1 j : EReal) ≤ b ↔ (p.2.2.1 j : EReal) ≤ b ∧ 0 ≤ b ∧ AbsLe (nT m c t H) j b := by
  unfold stB
  dsimp only
  unfold outB_7
  rw [runB_7, read_am, rd_ra]
  exact amv_tile _ _ _ (nchB_eq m c t p H hp) j b
theorem nchC_eq (c : Dev nD) (t : Fin cfg0.N) (p : St Ideal) (H : Fin 256 → Fin 4096 → EReal) (hp : Holds p H) (i : Fin 16) (j : Fin 8) (r : Fin 16) (x : Fin 512) :
    (nchC m c t p i j (ix2 r x) : EReal) = nT m c t H (ir i r) (cq j x) :=
  nch_eq m c t scM0_1 (Memref.isWhole_whole _) scM0_3 (Memref.isWhole_whole _) _ _ H hp.1 hp.2 i j r x
/-- An even point inside leaves the codes of the tile the point before left. -/
theorem codesC (c : Dev nD) (t : Fin cfg0.N) (h : conds0_C (grid0.coords t)) (p : St Ideal) (H : Fin 256 → Fin 4096 → EReal) (hp : Holds p H) (r : Fin 256) (x : Fin 4096) :
    ((stC m c t h p).2.1 (ix2 r x) : EReal) = cT ((iblk m c 0 t : FVec Ideal S3 .f32) (ix1 2)) (nT m c t H r x) := by
  rw [← scal_eq]
  unfold stC
  dsimp only
  unfold outC_6
  rw [runC_6]
  exact ctile_eq c t _ _ (scal m c t 2) (nchC m c t p) (nT m c t H) (nchC_eq m c t p H hp) _ rfl r x
/-- An even point inside takes the magnitudes of that tile into the running maximum. -/
theorem amaxC (c : Dev nD) (t : Fin cfg0.N) (h : conds0_C (grid0.coords t)) (p : St Ideal) (H : Fin 256 → Fin 4096 → EReal) (hp : Holds p H) (j : S8x128.Idx) (b : EReal) :
    ((stC m c t h p).2.2.1 j : EReal) ≤ b ↔ (p.2.2.1 j : EReal) ≤ b ∧ 0 ≤ b ∧ AbsLe (nT m c t H) j b := by
  unfold stC
  dsimp only
  unfold outC_7
  rw [runC_7, read_am, rd_ra]
  exact amv_tile _ _ _ (nchC_eq m c t p H hp) j b
theorem nchD_eq (c : Dev nD) (t : Fin cfg0.N) (p : St Ideal) (H : Fin 256 → Fin 4096 → EReal) (hp : Holds p H) (i : Fin 16) (j : Fin 8) (r : Fin 16) (x : Fin 512) :
    (nchD m c t p i j (ix2 r x) : EReal) = nT m c t H (ir i r) (cq j x) :=
  nch_eq m c t scM0_1 (Memref.isWhole_whole _) scM0_3 (Memref.isWhole_whole _) _ _ H hp.1 hp.2 i j r x
/-- The last point leaves the codes of the tile the point before left. -/
theorem codesD (c : Dev nD) (t : Fin cfg0.N) (h : conds0_D (grid0.coords t)) (p : St Ideal) (H : Fin 256 → Fin 4096 → EReal) (hp : Holds p H) (r : Fin 256) (x : Fin 4096) :
    ((stD m c t h p).2.1 (ix2 r x) : EReal) = cT ((iblk m c 0 t : FVec Ideal S3 .f32) (ix1 2)) (nT m c t H r x) := by
  rw [← scal_eq]
  unfold stD
  dsimp only
  unfold outD_6
  rw [runD_6]
  exact ctile_eq c t _ _ (scal m c t 2) (nchD m c t p) (nT m c t H) (nchD_eq m c t p H hp) _ rfl r x
/-- The last point takes the magnitudes of that tile into the running maximum and spreads the largest. -/
theorem amaxD (c : Dev nD) (t : Fin cfg0.N) (h : conds0_D (grid0.coords t)) (p : St Ideal) (H : Fin 256 → Fin 4096 → EReal) (hp : Holds p H) (j : S8x128.Idx) (b : EReal) :
    ((stD m c t h p).2.2.1 j : EReal) ≤ b ↔ ∀ j, (p.2.2.1 j : EReal) ≤ b ∧ 0 ≤ b ∧ AbsLe (nT m c t H) j b := by
  unfold stD
  dsimp only
  unfold outD_7
  rw [runD_7, View.read_writes_full, amL_read, rd_ra, pay4_le]
  exact forall_congr' fun j => amv_tile _ _ _ (nchD_eq m c t p H hp) j b

end Cert.OProjIdeal.Val

end
-- ==== Proof.OProjValue.lean ====
/- The arrays the output projection ends with, over the reals. -/
module

public import proofs.«01_k».proof.Proof.OProjOuts
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.OProjIdeal.Val

open Cert.OProjIdeal Cert.OProjIdeal.Gen

variable (m : (ℓ : Loc nD τ sig) → Buf (Elt Ideal) ℓ)

/-- The blocks of the windows at a point. -/
theorem idx : ∀ t : Fin cfg0.N, win0_0.index t = ![0] ∧ win0_1.index t = ![min t.val 29, 0] ∧ win0_2.index t = ![0, 0]
    ∧ win0_3.index t = ![min t.val 29, 0] ∧ win0_4.index t = ![0, 0] ∧ win0_6.index t = ![t.val - 1, 0] ∧ win0_7.index t = ![0, 0] :=
  (by decide +kernel : ∀ t : Fin grid0.N, _)

/-- The point before. -/
abbrev pr (t : Fin cfg0.N) : Fin cfg0.N := ⟨t.val - 1, Nat.lt_of_le_of_lt (Nat.sub_le _ _) t.isLt⟩

/-- After any point but the last the scratch buffers hold the point's tile. -/
theorem holds (c : Dev nD) (t : Fin cfg0.N) (h : t.val < 30) : Holds (outsAt0 m c t.val t.isLt) (hT m c t) := by
  by_cases h0 : t.val = 0
  · rw [outsAt0_A m c t h0]; exact holdsA m c t _
  by_cases h1 : t.val % 2 = 1
  · rw [outsAt0_B m c t h1]; exact holdsB m c t _ _
  · have h2 : ¬t.val = 0 ∧ t.val % 2 = 0 ∧ ¬t.val = 30 := ⟨h0, by omega, by omega⟩
    rw [outsAt0_C m c t h2]; exact holdsC m c t _ _

/-- After any point but the first the codes are those of the tile of the point before. -/
theorem codesAt (c : Dev nD) (t : Fin cfg0.N) (h : ¬t.val = 0) (r : Fin 256) (x : Fin 4096) :
    ((outsAt0 m c t.val t.isLt).2.1 (ix2 r x) : EReal) = cT ((iblk m c 0 t : FVec Ideal S3 .f32) (ix1 2)) (nT m c t (hT m c (pr t)) r x) := by
  have hN : t.val < 31 := t.isLt
  have hp : Holds (prev m c t) (hT m c (pr t)) := holds m c (pr t) (by dsimp only; omega)
  by_cases h1 : t.val % 2 = 1
  · rw [outsAt0_B m c t h1]; exact codesB m c t _ _ _ hp r x
  by_cases h2 : t.val = 30
  · rw [outsAt0_D m c t h2]; exact codesD m c t _ _ _ hp r x
  · have h3 : ¬t.val = 0 ∧ t.val % 2 = 0 ∧ ¬t.val = 30 := ⟨h, by omega, h2⟩
    rw [outsAt0_C m c t h3]; exact codesC m c t _ _ _ hp r x

/-- What bounds the running maximum after point `n`: zero and the magnitudes of the tiles before it. -/
theorem amaxAt (c : Dev nD) (n : ℕ) (hn : n < cfg0.N) (h : n < 30) (j : S8x128.Idx) (b : EReal) :
    ((outsAt0 m c n hn).2.2.1 j : EReal) ≤ b ↔ 0 ≤ b ∧ ∀ s : Fin cfg0.N, ¬s.val = 0 → s.val ≤ n → AbsLe (nT m c s (hT m c (pr s))) j b := by
  induction n with
  | zero =>
    rw [outsAt0_A m c ⟨0, hn⟩ rfl, amaxA]
    exact ⟨fun h0 => ⟨h0, fun s h1 h2 => absurd (Nat.le_zero.1 h2) h1⟩, fun h => h.1⟩
  | succ n ih =>
    have hp : Holds (prev m c ⟨n + 1, hn⟩) (hT m c (pr ⟨n + 1, hn⟩)) := holds m c (pr ⟨n + 1, hn⟩) (by dsimp only; omega)
    have key : ((outsAt0 m c (n + 1) hn).2.2.1 j : EReal) ≤ b ↔ ((prev m c ⟨n + 1, hn⟩).2.2.1 j : EReal) ≤ b ∧ 0 ≤ b ∧ AbsLe (nT m c ⟨n + 1, hn⟩ (hT m c (pr ⟨n + 1, hn⟩))) j b := by
      by_cases h1 : (n + 1) % 2 = 1
      · rw [outsAt0_B m c ⟨n + 1, hn⟩ h1]; exact amaxB m c ⟨n + 1, hn⟩ _ _ _ hp j b
      · have h3 : ¬n + 1 = 0 ∧ (n + 1) % 2 = 0 ∧ ¬n + 1 = 30 := ⟨by omega, by omega, by omega⟩
        rw [outsAt0_C m c ⟨n + 1, hn⟩ h3]; exact amaxC m c ⟨n + 1, hn⟩ _ _ _ hp j b
    rw [key]
    refine (and_congr_left' (ih (Nat.lt_of_succ_lt hn) (by omega))).trans ?_
    constructor
    · rintro ⟨⟨h0, h1⟩, -, h2⟩
      refine ⟨h0, fun s hs hle => ?_⟩
      rcases Nat.lt_or_ge s.val (n + 1) with hl | hl
      · exact h1 s hs (by omega)
      · obtain rfl : s = ⟨n + 1, hn⟩ := Fin.ext (by dsimp only; omega)
        exact h2
    · rintro ⟨h0, h1⟩
      exact ⟨⟨h0, fun s hs hle => h1 s hs (by omega)⟩, h0, h1 ⟨n + 1, hn⟩ (by dsimp only; omega) (le_refl _)⟩

/-- The residual of the whole arrays at an entry: the input plus the scaled product. -/
def hid (C : FVec Ideal S7680x2048 .fp8e4m3) (X : FVec Ideal S7680x4096 .bf16) (s : FVec Ideal S1 .f32) (W : FVec Ideal S2048x4096 .fp8e4m3) (w : FVec Ideal S1 .f32)
    (r : Fin 7680) (q : Fin 4096) : EReal :=
  (X (ix2 r q) : EReal) + (∑ k : Fin 2048, (C (ix2 r k) : EReal) * (W (ix2 k q) : EReal)) * ((s (ix1 0) : EReal) * (w (ix1 0) : EReal))

/-- Its rows normalised and scaled by the gain. -/
def nrmd (C : FVec Ideal S7680x2048 .fp8e4m3) (X : FVec Ideal S7680x4096 .bf16) (G : FVec Ideal S4096 .f32) (s : FVec Ideal S1 .f32) (W : FVec Ideal S2048x4096 .fp8e4m3) (w : FVec Ideal S1 .f32)
    (r : Fin 7680) (q : Fin 4096) : EReal := nR (hid C X s W w r) (fun y => (G (ix1 y) : EReal)) q

/-- The codes: the normalised rows over their scale, clipped to the range of the format. -/
def codes (C : FVec Ideal S7680x2048 .fp8e4m3) (X : FVec Ideal S7680x4096 .bf16) (G : FVec Ideal S4096 .f32) (s u : FVec Ideal S1 .f32) (W : FVec Ideal S2048x4096 .fp8e4m3) (w : FVec Ideal S1 .f32) :
    FVec Ideal S7680x4096 .fp8e4m3 := fun i => (cT (u (ix1 0)) (nrmd C X G s W w (i 0) (i 1)) : EReal)

/-- The largest magnitude of the normalised rows, at every entry. -/
def amax (C : FVec Ideal S7680x2048 .fp8e4m3) (X : FVec Ideal S7680x4096 .bf16) (G : FVec Ideal S4096 .f32) (s : FVec Ideal S1 .f32) (W : FVec Ideal S2048x4096 .fp8e4m3) (w : FVec Ideal S1 .f32) :
    FVec Ideal S8x128 .f32 := fun _ =>
  (⨆ i : Fin 7680 × Fin 4096, (FloatOps.absf (F := Ideal) (φ := .f32) (nrmd C X G s W w i.1 i.2) : EReal) : EReal)

/-- The block of scales is the whole array of scales. -/
theorem emb0 (t : Fin cfg0.N) (y : S3.Idx) : (win0_0.blk t).view.emb y = y := by
  blk_ext [idx t]

/-- The scales the kernel reads are the program's: of its codes, of the weights, of the result. -/
theorem scale0 (c : Dev nD) (t : Fin cfg0.N) : V m c main_v1 ((win0_0.blk t).view.emb (ix1 0)) = m ((c : Thread nD τ).loc main_arg3) (ix1 0) := by
  rw [emb0 t (ix1 0)]
  entry_read
  pointwise
  try rfl
theorem scale1 (c : Dev nD) (t : Fin cfg0.N) : V m c main_v1 ((win0_0.blk t).view.emb (ix1 1)) = m ((c : Thread nD τ).loc main_arg6) (ix1 0) := by
  rw [emb0 t (ix1 1)]
  entry_read
  pointwise
  try rfl
theorem scale2 (c : Dev nD) (t : Fin cfg0.N) : V m c main_v1 ((win0_0.blk t).view.emb (ix1 2)) = m ((c : Thread nD τ).loc main_arg4) (ix1 0) := by
  rw [emb0 t (ix1 2)]
  entry_read
  pointwise
  try rfl
/-- The gain the kernel reads is the program's. -/
theorem emb4 (t : Fin cfg0.N) (y : S1x4096.Idx) : (win0_4.blk t).view.emb y = y := by
  blk_ext [idx t]
theorem gain (c : Dev nD) (t : Fin cfg0.N) (y : Fin 4096) : (iblk m c 4 t : FVec Ideal S1x4096 .f32) (ix2 0 y) = m ((c : Thread nD τ).loc main_arg2) (ix1 y) := by
  show V m c main_v0 ((win0_4.blk t).view.emb (ix2 0 y)) = _
  rw [emb4 t (ix2 0 y)]
  entry_read
  pointwise
  try rfl

/-- A point's residual is the whole arrays' at the point's rows. -/
theorem hT_eq (c : Dev nD) (t : Fin cfg0.N) (ht : t.val < 30) (r : Fin 256) (q : Fin 4096) (h : 256 * t.val + r.val < 7680) :
    hT m c t r q = hid (m ((c : Thread nD τ).loc main_arg0)) (m ((c : Thread nD τ).loc main_arg1)) (m ((c : Thread nD τ).loc main_arg3)) (m ((c : Thread nD τ).loc main_arg5)) (m ((c : Thread nD τ).loc main_arg6))
      ⟨256 * t.val + r.val, h⟩ q := by
  have e : min t.val 29 = t.val := by omega
  unfold hT hB hid
  blk_point [iblk, V, idx t, e]
  all_goals first | exact scale0 m c t | exact scale1 m c t

/-- So are its normalised rows. -/
theorem nT_eq (c : Dev nD) (t : Fin cfg0.N) (ht : ¬t.val = 0) (r : Fin 256) (q : Fin 4096) (h : 256 * (t.val - 1) + r.val < 7680) :
    nT m c t (hT m c (pr t)) r q = nrmd (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))
      ⟨256 * (t.val - 1) + r.val, h⟩ q := by
  have hN : t.val < 31 := t.isLt
  have e : hT m c (pr t) r = hid (m ((c : Thread nD τ).loc main_arg0)) (m ((c : Thread nD τ).loc main_arg1)) (m ((c : Thread nD τ).loc main_arg3)) (m ((c : Thread nD τ).loc main_arg5)) (m ((c : Thread nD τ).loc main_arg6))
      ⟨256 * (t.val - 1) + r.val, h⟩ := funext fun q => hT_eq m c (pr t) (by dsimp only; omega) r q h
  unfold nrmd
  rw [← e, ← funext fun y => gain m c t y]

/-- The array of codes after the last point is the specification's. -/
theorem final6 (c : Dev nD) : (dats m 0 c).arrAt 6 (cfgs 0).N
    = codes (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_covers 6 _ (by decide +kernel) fun t hf y => ?_
  have ht : ¬t.val = 0 := (by decide +kernel : ∀ t : Fin cfg0.N, (cfg0.win 6).flush t = true → ¬t.val = 0) t hf
  blk_simp
  rw [after0_6]
  have e0 : ((win0_6.blk t).view.emb y 0).val = 256 * (t.val - 1) + (y 0).val := by
    blk_simp [idx t]
    omega
  have e1 : ((win0_6.blk t).view.emb y 1).val = (y 1).val := by
    blk_simp [idx t]
  have l0 := ((win0_6.blk t).view.emb y 0).isLt
  have := codesAt m c t ht (y 0) (y 1)
  rw [← eq_ix2 y] at this
  refine this.trans ?_
  unfold codes
  rw [nT_eq m c t ht (y 0) (y 1) (e0 ▸ l0), show (iblk m c 0 t) (ix1 2) = m ((c : Thread nD τ).loc main_arg4) (ix1 0) from scale2 m c t,
    show (⟨_, e0 ▸ l0⟩ : Fin 7680) = (win0_6.blk t).view.emb y 0 from Fin.ext e0.symm,
    show (y 1 : Fin 4096) = (win0_6.blk t).view.emb y 1 from Fin.ext e1.symm]

/-- The array of the largest magnitude after the last point is the specification's. -/
theorem final7 (c : Dev nD) : (dats m 0 c).arrAt 7 (cfgs 0).N
    = amax (m ((c : Thread nD τ).loc main_arg0)) (m ((c : Thread nD τ).loc main_arg1)) (m ((c : Thread nD τ).loc main_arg2)) (m ((c : Thread nD τ).loc main_arg3))
      (m ((c : Thread nD τ).loc main_arg5)) (m ((c : Thread nD τ).loc main_arg6)) := by
  refine (dats m 0 c).arrAt_eq_of_covers 7 _ (by decide +kernel) fun t hf y => ?_
  have ht : t.val = 30 := (by decide +kernel : ∀ t : Fin cfg0.N, (cfg0.win 7).flush t = true → t.val = 30) t hf
  have hN : cfg0.N = 31 := rfl
  have hp : Holds (prev m c t) (hT m c (pr t)) := holds m c (pr t) (by dsimp only; omega)
  blk_simp
  rw [after0_7, outsAt0_D m c t ht]
  refine eq_of_forall_ge_iff (α := EReal) fun b => ?_
  unfold amax
  rw [iSup_le_iff]
  refine (amaxD m c t _ _ _ hp _ b).trans ?_
  have am : ∀ j, ((prev m c t).2.2.1 j : EReal) ≤ b ↔ _ := fun j => amaxAt m c (t.val - 1) (pr t).isLt (by omega) j b
  constructor
  · rintro h ⟨r, q⟩
    have hr := r.isLt
    have hq := q.isLt
    have hP : ∀ s : Fin cfg0.N, ¬s.val = 0 → ∀ (r : Fin 256) (q : Fin 4096), (FloatOps.absf (F := Ideal) (φ := .f32) (nT m c s (hT m c (pr s)) r q) : EReal) ≤ b := by
      intro s hs0 r q
      obtain ⟨h1, -, h2⟩ := h (ix2 ⟨r.val % 8, by omega⟩ ⟨q.val % 128, by omega⟩)
      have hs := s.isLt
      rcases Nat.lt_or_ge s.val 30 with hl | hl
      · exact ((am _).1 h1).2 s hs0 (by omega) r q rfl rfl
      · obtain rfl : s = t := Fin.ext (by omega)
        exact h2 r q rfl rfl
    have := hP ⟨r.val / 256 + 1, by omega⟩ (Nat.succ_ne_zero _) ⟨r.val % 256, by omega⟩ q
    rw [nT_eq m c _ (Nat.succ_ne_zero _) _ _ (by dsimp only; omega)] at this
    rwa [show (⟨256 * (r.val / 256 + 1 - 1) + r.val % 256, by omega⟩ : Fin 7680) = r from Fin.ext (by dsimp only; omega)] at this
  · intro h j
    have h0 : 0 ≤ b := (MaxAbs.zero_le_absf _).trans (h (⟨0, by omega⟩, ⟨0, by omega⟩))
    have hP : ∀ s : Fin cfg0.N, ¬s.val = 0 → ∀ j, AbsLe (nT m c s (hT m c (pr s))) j b := by
      intro s hs0 j r q _ _
      have hs := s.isLt
      rw [nT_eq m c s hs0 r q (by omega)]
      exact h (_, _)
    exact ⟨(am j).2 ⟨h0, fun s hs _ => hP s hs j⟩, h0, hP t (by omega) j⟩

/-- The run of the whole program, with the arrays it ends with. -/
theorem run_blocks (ρ : Dev nD → PrngReg) : θ_run defs (onTc (τ := τ) (main (F := Ideal))) ⟨m, fun _ => 0, ρ⟩ fun r => ∀ c : Dev nD,
      r.2.mem ((c : Thread nD τ).loc main_v2_1) = (dats m 0 c).arrAt 6 cfg0.N
      ∧ r.2.mem ((c : Thread nD τ).loc main_v2_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h.2 c).1 6, (h.2 c).1 7, h.1 c⟩) (θ_run_and (unchanged m ρ) (run_main m ρ))

end Cert.OProjIdeal.Val

end
-- ==== Proof.OProjRefValue.lean ====
/- The arrays the reference of the output projection ends with, over the reals: the kernel's. -/
module

public import proofs.«01_k».proof.Proof.OProjValue
public import proofs.«01_k».proof.Proof.RootMean
public import proofs.«01_k».proof.Proof.Gen.OProjRefIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OProjRefIdeal.Val

open Cert.OProjRefIdeal Cert.OProjRefIdeal.Gen

variable (m : (ℓ : Loc nD τ sig) → Buf (Elt Ideal) ℓ)

/-- Every window of the reference's single point starts at the origin of its array. -/
theorem idx : ∀ t : Fin cfg0.N, win0_0.index t = ![0, 0] ∧ win0_1.index t = ![0, 0] ∧ win0_2.index t = ![0, 0]
    ∧ win0_3.index t = ![0] ∧ win0_4.index t = ![0] ∧ win0_5.index t = ![0, 0] ∧ win0_6.index t = ![0] ∧ win0_7.index t = ![0, 0] ∧ win0_8.index t = ![0, 0] := by decide +kernel

/-- The residual as the reference writes it. -/
def hR (v0 : FVec Ideal S7680x2048 .fp8e4m3) (v1 : FVec Ideal S2048x4096 .fp8e4m3) (v3 : FVec Ideal S7680x4096 .bf16) (a b : EReal) (r : Fin 7680) (q : Fin 4096) : EReal :=
  (v3 (ix2 r q) : EReal) + (∑ k : Fin 2048, (v0 (ix2 r k) : EReal) * (v1 (ix2 k q) : EReal)) * (a * b)

/-- The reference's normalised rows, entry by entry. -/
theorem pay2_eq (v0 : FVec Ideal S7680x2048 .fp8e4m3) (v1 : FVec Ideal S2048x4096 .fp8e4m3) (v3 : FVec Ideal S7680x4096 .bf16) (a b : EReal) (g : FVec Ideal S1x4096 .f32) (r : Fin 7680) (q : Fin 4096) :
    (k0_pay2 (F := Ideal) v0 v1 v3 a b g (ix2 r q) : EReal) = Cert.OProjIdeal.Val.nR (hR v0 v1 v3 a b r) (fun y => (g (ix2 0 y) : EReal)) q := by
  unfold Cert.OProjIdeal.Val.nR
  rw [← Cert.RootMean.norm_eq]
  unfold hR
  pointwise [k0_pay2]

/-- The gain the reference reads is the program's. -/
theorem gain (c : Dev nD) (y : Fin 4096) : (iblk m c 2 t0_0 : FVec Ideal S1x4096 .f32) (ix2 0 y) = m ((c : Thread nD τ).loc main_arg2) (ix1 y) := by
  show V m c main_v0 ((win0_2.blk t0_0).view.emb (ix2 0 y)) = _
  rw [show (win0_2.blk t0_0).view.emb (ix2 0 y) = (ix2 0 y : S1x4096.Idx) from by blk_ext [idx t0_0]]
  entry_read
  pointwise
  try rfl

/-- The reference's normalised rows are the specification's. -/
theorem n2_eq (c : Dev nD) (r : Fin 7680) (q : Fin 4096) (h1 h2) :
    (k0_pay2 (F := Ideal) (iblk m c 0 t0_0) (iblk m c 5 t0_0) (iblk m c 1 t0_0) (iblk m c 3 t0_0 (Shape.Idx.first h1)) (iblk m c 6 t0_0 (Shape.Idx.first h2)) (iblk m c 2 t0_0) (ix2 r q) : EReal)
      = Cert.OProjIdeal.Val.nrmd (m ((c : Thread nD τ).loc main_arg0)) (m ((c : Thread nD τ).loc main_arg1)) (m ((c : Thread nD τ).loc main_arg2))
        (m ((c : Thread nD τ).loc main_arg3)) (m ((c : Thread nD τ).loc main_arg5)) (m ((c : Thread nD τ).loc main_arg6)) r q := by
  refine (pay2_eq _ _ _ _ _ _ r q).trans ?_
  unfold Cert.OProjIdeal.Val.nrmd
  refine congrArg₂ (fun H G => Cert.OProjIdeal.Val.nR H G q) (funext fun y => ?_) (funext fun y => gain m c y)
  unfold hR Cert.OProjIdeal.Val.hid
  blk_point [iblk, V, idx t0_0]

/-- The reference's codes are the specification's. -/
theorem final7 (c : Dev nD) : (dats m 0 c).arrAt 7 (cfgs 0).N
    = Cert.OProjIdeal.Val.codes (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_after_last 7 t0_0 (by decide +kernel) _ fun j => ?_
  blk_simp
  rw [after0_7]
  unfold outsAt0
  frame_out
  simp only [read_unread_whole]
  unfold Cert.OProjIdeal.Val.codes
  refine Eq.trans ?_ (congrArg (Cert.OProjIdeal.Val.cT _) (n2_eq m c (j 0) (j 1) (by decide) (by decide)))
  pointwise [k0_pay3, Cert.OProjIdeal.Val.cT]
  blk_point [iblk, V, idx t0_0]

/-- The reference's largest magnitude is the specification's. -/
theorem final8 (c : Dev nD) : (dats m 0 c).arrAt 8 (cfgs 0).N
    = Cert.OProjIdeal.Val.amax (m ((c : Thread nD τ).loc main_arg0)) (m ((c : Thread nD τ).loc main_arg1)) (m ((c : Thread nD τ).loc main_arg2))
      (m ((c : Thread nD τ).loc main_arg3)) (m ((c : Thread nD τ).loc main_arg5)) (m ((c : Thread nD τ).loc main_arg6)) := by
  refine (dats m 0 c).arrAt_eq_of_after_last 8 t0_0 (by decide +kernel) _ fun j => ?_
  blk_simp
  rw [after0_8]
  unfold outsAt0
  frame_out
  simp only [read_unread_whole]
  unfold Cert.OProjIdeal.Val.amax
  refine eq_of_forall_ge_iff (α := EReal) fun b => ?_
  rw [iSup_le_iff]
  pointwise [k0_pay1, k0_pay4]
  simp only [Finset.fold_max_le, MaxAbs.ninf, bot_le, true_and, Finset.mem_univ, forall_const]
  exact forall_congr' fun i => by rw [n2_eq m c i.1 i.2]

end Cert.OProjRefIdeal.Val

end
-- ==== Proof.OProjClaim.lean ====
module

public import proofs.«01_k».proof.Defs
public import proofs.«01_k».proof.Proof.OProjValue
public import proofs.«01_k».proof.Proof.OProjRefValue

@[expose] public section

set_option maxRecDepth 16384

noncomputable section

open Idealize.ShloMosaic Idealize.ShloMosaic.TcCoe Idealize.SL.Sem

namespace Cert.Proof

/-- The output projection and its reference, run from memories that agree on the arguments, end with the same codes and the same
    largest magnitude. -/
theorem o_proj_algebraic : algebraic_OProjIdeal_OProjRefIdeal (hOProjIdeal := OProjIdeal.Gen.facts) (hOProjRefIdeal := OProjRefIdeal.Gen.facts) :=
  letI := OProjIdeal.Gen.facts
  letI := OProjRefIdeal.Gen.facts
  fun m g m' g' _ hm =>
    ⟨fun c => OProjIdeal.Val.codes (m ((c.tc : Thread OProjIdeal.nD OProjIdeal.τ).loc OProjIdeal.main_arg0)) (m ((c.tc : Thread OProjIdeal.nD OProjIdeal.τ).loc OProjIdeal.main_arg1)) (m ((c.tc : Thread OProjIdeal.nD OProjIdeal.τ).loc OProjIdeal.main_arg2)) (m ((c.tc : Thread OProjIdeal.nD OProjIdeal.τ).loc OProjIdeal.main_arg3))
        (m ((c.tc : Thread OProjIdeal.nD OProjIdeal.τ).loc OProjIdeal.main_arg4)) (m ((c.tc : Thread OProjIdeal.nD OProjIdeal.τ).loc OProjIdeal.main_arg5)) (m ((c.tc : Thread OProjIdeal.nD OProjIdeal.τ).loc OProjIdeal.main_arg6)),
      fun c => OProjIdeal.Val.amax (m ((c.tc : Thread OProjIdeal.nD OProjIdeal.τ).loc OProjIdeal.main_arg0)) (m ((c.tc : Thread OProjIdeal.nD OProjIdeal.τ).loc OProjIdeal.main_arg1)) (m ((c.tc : Thread OProjIdeal.nD OProjIdeal.τ).loc OProjIdeal.main_arg2)) (m ((c.tc : Thread OProjIdeal.nD OProjIdeal.τ).loc OProjIdeal.main_arg3))
        (m ((c.tc : Thread OProjIdeal.nD OProjIdeal.τ).loc OProjIdeal.main_arg5)) (m ((c.tc : Thread OProjIdeal.nD OProjIdeal.τ).loc OProjIdeal.main_arg6)),
      (θ_run _ _ _).mono (fun r h c => ⟨(h c).1.trans (OProjIdeal.Val.final6 m c), (h c).2.1.trans (OProjIdeal.Val.final7 m c), (h c).2.2⟩)
        (OProjIdeal.Val.run_blocks m g),
      (θ_run _ _ _).mono (fun r h c => ⟨(h c).1.trans ((OProjRefIdeal.Val.final7 m' c).trans (by
          obtain ⟨h0, h1, h2, h3, h4, h5, h6⟩ := hm c
          rw [h0, h1, h2, h3, h4, h5, h6])),
        (h c).2.1.trans ((OProjRefIdeal.Val.final8 m' c).trans (by
          obtain ⟨h0, h1, h2, h3, h4, h5, h6⟩ := hm c
          rw [h0, h1, h2, h3, h5, h6])), (h c).2.2⟩) (OProjRefIdeal.Value.run_blocks m' g')⟩

end Cert.Proof

end
-- ==== Proof.lean ====
module

public import proofs.«01_k».proof.Defs
public import proofs.«01_k».proof.Proof.Gen.Qkv
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.QkvRefIdeal.Value
public import proofs.«01_k».proof.Proof.Gen.OProj
public import proofs.«01_k».proof.Proof.Gen.OProjIdeal
public import proofs.«01_k».proof.Proof.Gen.OProjIdeal.Skeleton
public import proofs.«01_k».proof.Proof.Gen.OProjIdeal.Launch
public import proofs.«01_k».proof.Proof.Gen.OProjIdeal.Points
public import proofs.«01_k».proof.Proof.Gen.OProjIdeal.Frame
public import proofs.«01_k».proof.Proof.Gen.OProjRefIdeal
public import proofs.«01_k».proof.Proof.Gen.OProjRefIdeal.Skeleton
public import proofs.«01_k».proof.Proof.Gen.OProjRefIdeal.Launch
public import proofs.«01_k».proof.Proof.Gen.OProjRefIdeal.Points
public import proofs.«01_k».proof.Proof.Gen.OProjRefIdeal.Frame
public import proofs.«01_k».proof.Proof.Gen.OProjRefIdeal.Value
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.GateUpIdeal.Value
public import proofs.«01_k».proof.Proof.Gen.GateUpRefIdeal.Value
public import proofs.«01_k».proof.Proof.Gen.DownIdeal.Value
public import proofs.«01_k».proof.Proof.Gen.DownRefIdeal.Value
public import proofs.«01_k».proof.Proof.DownClaim
public import proofs.«01_k».proof.Proof.GateUpClaim
public import proofs.«01_k».proof.Proof.QkvBits
public import proofs.«01_k».proof.Proof.QkvClaim
public import proofs.«01_k».proof.Proof.OProjBits
public import proofs.«01_k».proof.Proof.OProjClaim
public import Idealize.ShloMosaic.Adequacy
public import Idealize.ShloMosaic.Init

@[expose] public section

noncomputable section

namespace Cert.Proof

open Idealize.ShloMosaic Idealize.SL.Sem

theorem claim : Cert.Claim :=
  ⟨Cert.Qkv.Gen.facts, Cert.QkvIdeal.Gen.facts, Cert.QkvRefIdeal.Gen.facts,
    Cert.OProj.Gen.facts, Cert.OProjIdeal.Gen.facts, Cert.OProjRefIdeal.Gen.facts,
    Cert.GateUp.Gen.facts, Cert.GateUpIdeal.Gen.facts, Cert.GateUpRefIdeal.Gen.facts,
    Cert.Down.Gen.facts, Cert.DownIdeal.Gen.facts, Cert.DownRefIdeal.Gen.facts,
    Cert.Qkv.Gen.quiescent, fun m ρ _ => Cert.QkvIdeal.Gen.frame m ρ, fun m ρ _ => Cert.QkvRefIdeal.Gen.frame m ρ,
    Cert.OProj.Gen.quiescent, fun m ρ _ => Cert.OProjIdeal.Gen.frame m ρ, fun m ρ _ => Cert.OProjRefIdeal.Gen.frame m ρ,
    fun m ρ _ => Cert.GateUp.Gen.frame m ρ, fun m ρ _ => Cert.GateUpIdeal.Gen.frame m ρ, fun m ρ _ => Cert.GateUpRefIdeal.Gen.frame m ρ,
    fun m ρ _ => Cert.Down.Gen.frame m ρ, fun m ρ _ => Cert.DownIdeal.Gen.frame m ρ, fun m ρ _ => Cert.DownRefIdeal.Gen.frame m ρ,
    trivial, qkv_algebraic, trivial, o_proj_algebraic, trivial, gate_up_algebraic, trivial, down_algebraic⟩

end Cert.Proof

end
